-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_vocabulary_KernelIdeal [hPre_in_vocabulary_KernelIdeal : Cert.Pre_in_vocabulary_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocabulary_ReferenceIdeal [hPre_in_vocabulary_ReferenceIdeal : Cert.Pre_in_vocabulary_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_vocabulary_KernelIdeal [hKernelIdeal : Cert.KernelIdeal.Facts] [hPre_in_vocabulary_KernelIdeal : Cert.Pre_in_vocabulary_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_vocabulary_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_vocabulary_ReferenceIdeal [hReferenceIdeal : Cert.ReferenceIdeal.Facts] [hPre_in_vocabulary_ReferenceIdeal : Cert.Pre_in_vocabulary_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocabulary_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_vocabulary_KernelIdeal [hKernelIdeal : Cert.KernelIdeal.Facts] [hReferenceIdeal : Cert.ReferenceIdeal.Facts] [hPre_in_vocabulary_KernelIdeal : Cert.Pre_in_vocabulary_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_vocabulary_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![8192, 2048]⟩ ⟨2, ![32768, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_vocabulary_KernelIdeal : Cert.Pre_in_vocabulary_KernelIdeal.Facts) (hPre_in_vocabulary_ReferenceIdeal : Cert.Pre_in_vocabulary_ReferenceIdeal.Facts),
    quiescent_Kernel (hKernel := hKernel)
    ∧ quiescent_KernelIdeal (hKernelIdeal := hKernelIdeal)
    ∧ quiescent_KernelIdeal_pre_in_vocabulary_KernelIdeal (hKernelIdeal := hKernelIdeal) (hPre_in_vocabulary_KernelIdeal := hPre_in_vocabulary_KernelIdeal)
    ∧ quiescent_ReferenceIdeal (hReferenceIdeal := hReferenceIdeal)
    ∧ quiescent_ReferenceIdeal_pre_in_vocabulary_ReferenceIdeal (hReferenceIdeal := hReferenceIdeal) (hPre_in_vocabulary_ReferenceIdeal := hPre_in_vocabulary_ReferenceIdeal)
    ∧ preserves_Kernel_KernelIdeal
    ∧ algebraic_KernelIdeal_ReferenceIdeal_pre_in_vocabulary_KernelIdeal (hKernelIdeal := hKernelIdeal) (hReferenceIdeal := hReferenceIdeal) (hPre_in_vocabulary_KernelIdeal := hPre_in_vocabulary_KernelIdeal)
-- ==== Pre_in_vocabulary_KernelIdeal.lean ====
abbrev S4096 : Shape := ⟨1, ![4096]⟩
abbrev S8192x2048 : Shape := ⟨2, ![8192, 2048]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : IVec S4096 32) (main_arg1 : FVec F S8192x2048 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 32768#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Pre_in_vocabulary_ReferenceIdeal.lean ====
abbrev S4096 : Shape := ⟨1, ![4096]⟩
abbrev S32768x2048 : Shape := ⟨2, ![32768, 2048]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : IVec S4096 32) (main_arg1 : FVec F S32768x2048 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 32768#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S4096 : Shape := ⟨1, ![4096]⟩
abbrev S8192x2048 : Shape := ⟨2, ![8192, 2048]⟩
abbrev S4 : Shape := ⟨1, ![4]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S1x4096 : Shape := ⟨2, ![1, 4096]⟩
abbrev S4x1 : Shape := ⟨2, ![4, 1]⟩
abbrev S4x4096 : Shape := ⟨2, ![4, 4096]⟩
abbrev S3 : Shape := ⟨1, ![3]⟩
abbrev S4096x2048 : Shape := ⟨2, ![4096, 2048]⟩
abbrev S2x3x1024x1024 : Shape := ⟨4, ![2, 3, 1024, 1024]⟩
abbrev S2x1024x1024 : Shape := ⟨3, ![2, 1024, 1024]⟩
abbrev S2x3 : Shape := ⟨2, ![2, 3]⟩
abbrev S1x2048 : Shape := ⟨2, ![1, 2048]⟩
abbrev S1024x1 : Shape := ⟨2, ![1024, 1]⟩
abbrev S1024x1024 : Shape := ⟨2, ![1024, 1024]⟩
abbrev S1x1024x1024 : Shape := ⟨3, ![1, 1024, 1024]⟩
abbrev S1x1x1024x1024 : Shape := ⟨4, ![1, 1, 1024, 1024]⟩

abbrev nBuf : Space → Nat
  | .hbm => 145
  | .vmem => 4
  | .smem => 4
  | _ => 0

abbrev hbmTy0_0 (i : Nat) : BufTy := match i % 128 with
  | 0 => ⟨S4096, .i32⟩
  | 1 => ⟨S8192x2048, .f32⟩
  | 2 => ⟨S4, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S4096, .i32⟩
  | 10 => ⟨S_, .i32⟩
  | 11 => ⟨S_, .i32⟩
  | 12 => ⟨S4096, .i32⟩
  | 13 => ⟨S4096, .i32⟩
  | 14 => ⟨S4096, .i32⟩
  | 15 => ⟨S_, .i32⟩
  | 16 => ⟨S4096, .i32⟩
  | 17 => ⟨S4096, .i1⟩
  | 18 => ⟨S4096, .i32⟩
  | 19 => ⟨S4096, .i32⟩
  | 20 => ⟨S_, .i32⟩
  | 21 => ⟨S4096, .i32⟩
  | 22 => ⟨S4096, .i1⟩
  | 23 => ⟨S4096, .i1⟩
  | 24 => ⟨S_, .i32⟩
  | 25 => ⟨S4096, .i32⟩
  | 26 => ⟨S4096, .i32⟩
  | 27 => ⟨S4096, .i32⟩
  | 28 => ⟨S4096, .i32⟩
  | 29 => ⟨S4096, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S4096, .i32⟩
  | 37 => ⟨S4096, .i32⟩
  | 38 => ⟨S_, .i32⟩
  | 39 => ⟨S4096, .i32⟩
  | 40 => ⟨S4096, .i1⟩
  | 41 => ⟨S_, .i32⟩
  | 42 => ⟨S4096, .i32⟩
  | 43 => ⟨S4096, .i1⟩
  | 44 => ⟨S_, .i32⟩
  | 45 => ⟨S_, .i1⟩
  | 46 => ⟨S4096, .i1⟩
  | 47 => ⟨S4096, .i1⟩
  | 48 => ⟨S4096, .i1⟩
  | 49 => ⟨S4096, .i32⟩
  | 50 => ⟨S4096, .i32⟩
  | 51 => ⟨S4096, .i32⟩
  | 52 => ⟨S_, .i32⟩
  | 53 => ⟨S4096, .i32⟩
  | 54 => ⟨S4096, .i1⟩
  | 55 => ⟨S_, .i32⟩
  | 56 => ⟨S4096, .i32⟩
  | 57 => ⟨S4096, .i32⟩
  | 58 => ⟨S4096, .i32⟩
  | 59 => ⟨S4096x1, .i32⟩
  | 60 => ⟨S1, .i32⟩
  | 61 => ⟨S_, .i32⟩
  | 62 => ⟨S4096x1, .i32⟩
  | 63 => ⟨S4096x1, .i1⟩
  | 64 => ⟨S1x1, .i32⟩
  | 65 => ⟨S4096x1, .i32⟩
  | 66 => ⟨S4096x1, .i1⟩
  | 67 => ⟨S4096x1, .i1⟩
  | 68 => ⟨S_, .i1⟩
  | 69 => ⟨S4096, .i1⟩
  | 70 => ⟨S4096, .i32⟩
  | 71 => ⟨S_, .i32⟩
  | 72 => ⟨S4096, .i32⟩
  | 73 => ⟨S4096, .i32⟩
  | 74 => ⟨S_, .i32⟩
  | 75 => ⟨S_, .i32⟩
  | 76 => ⟨S4096, .i32⟩
  | 77 => ⟨S4096, .i32⟩
  | 78 => ⟨S4096, .i32⟩
  | 79 => ⟨S_, .i32⟩
  | 80 => ⟨S4096, .i32⟩
  | 81 => ⟨S4096, .i1⟩
  | 82 => ⟨S4096, .i32⟩
  | 83 => ⟨S4096, .i32⟩
  | 84 => ⟨S_, .i32⟩
  | 85 => ⟨S4096, .i32⟩
  | 86 => ⟨S4096, .i1⟩
  | 87 => ⟨S4096, .i1⟩
  | 88 => ⟨S_, .i32⟩
  | 89 => ⟨S4096, .i32⟩
  | 90 => ⟨S4096, .i32⟩
  | 91 => ⟨S4096, .i32⟩
  | 92 => ⟨S4096, .i32⟩
  | 93 => ⟨S4096, .i1⟩
  | 94 => ⟨S_, .i32⟩
  | 95 => ⟨S_, .i32⟩
  | 96 => ⟨S4096, .i32⟩
  | 97 => ⟨S4096, .i32⟩
  | 98 => ⟨S4096, .i32⟩
  | 99 => ⟨S4096, .i32⟩
  | 100 => ⟨S4096, .i32⟩
  | 101 => ⟨S_, .i32⟩
  | 102 => ⟨S_, .i32⟩
  | 103 => ⟨S4096, .i32⟩
  | 104 => ⟨S4096, .i32⟩
  | 105 => ⟨S_, .i32⟩
  | 106 => ⟨S4096, .i32⟩
  | 107 => ⟨S4096, .i1⟩
  | 108 => ⟨S_, .i32⟩
  | 109 => ⟨S4096, .i32⟩
  | 110 => ⟨S4096, .i32⟩
  | 111 => ⟨S4096, .i32⟩
  | 112 => ⟨S4096x1, .i32⟩
  | 113 => ⟨S1, .i32⟩
  | 114 => ⟨S_, .i32⟩
  | 115 => ⟨S4096x1, .i32⟩
  | 116 => ⟨S4096x1, .i1⟩
  | 117 => ⟨S1x1, .i32⟩
  | 118 => ⟨S4096x1, .i32⟩
  | 119 => ⟨S4096x1, .i1⟩
  | 120 => ⟨S4096x1, .i1⟩
  | 121 => ⟨S_, .i1⟩
  | 122 => ⟨S4096, .i1⟩
  | 123 => ⟨S4096, .i32⟩
  | 124 => ⟨S_, .i32⟩
  | 125 => ⟨S4096, .i32⟩
  | 126 => ⟨S4096, .i32⟩
  | 127 => ⟨S1x4096, .i32⟩
  | _ => ⟨S4096, .i32⟩

abbrev hbmTy0_1 (i : Nat) : BufTy := match i % 128 with
  | 0 => ⟨S4, .i32⟩
  | 1 => ⟨S4x1, .i32⟩
  | 2 => ⟨S4x4096, .i32⟩
  | 3 => ⟨S4x4096, .i32⟩
  | 4 => ⟨S4x4096, .i1⟩
  | 5 => ⟨S4x4096, .i32⟩
  | 6 => ⟨S_, .i32⟩
  | 7 => ⟨S4, .i32⟩
  | 8 => ⟨S_, .i32⟩
  | 9 => ⟨S1, .i32⟩
  | 10 => ⟨S_, .i32⟩
  | 11 => ⟨S_, .i32⟩
  | 12 => ⟨S4, .i32⟩
  | 13 => ⟨S3, .i32⟩
  | 14 => ⟨S4, .i32⟩
  | 15 => ⟨S4096x1, .i32⟩
  | 16 => ⟨S4096x2048, .bf16⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | .local _ .vmem, ⟨0, _⟩ => ⟨S4096x1, .i32⟩
  | .local _ .vmem, ⟨1, _⟩ => ⟨S4096x2048, .f32⟩
  | .local _ .vmem, ⟨2, _⟩ => ⟨S2x3x1024x1024, .bf16⟩
  | .local _ .vmem, ⟨3, _⟩ => ⟨S2x1024x1024, .bf16⟩
  | .local _ .smem, ⟨0, _⟩ => ⟨S4096, .i32⟩
  | .local _ .smem, ⟨1, _⟩ => ⟨S4096, .i32⟩
  | .local _ .smem, ⟨2, _⟩ => ⟨S4, .i32⟩
  | .local _ .smem, ⟨3, _⟩ => ⟨S4, .i32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | .smem, ⟨3, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_2 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_c_3 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v9 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_c_4 : Ref sig .tc := ⟨.hbm, 71, rfl⟩
abbrev main_call2_v14 : Ref sig .tc := ⟨.hbm, 72, rfl⟩
abbrev main_v10 : Ref sig .tc := ⟨.hbm, 73, rfl⟩
abbrev main_c_4 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_v5 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_c : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_0 : Ref sig .tc := ⟨.hbm, 88, rfl⟩
abbrev main_call3_v12 : Ref sig .tc := ⟨.hbm, 89, rfl⟩
abbrev main_call3_v13 : Ref sig .tc := ⟨.hbm, 90, rfl⟩
abbrev main_v11 : Ref sig .tc := ⟨.hbm, 91, rfl⟩
abbrev main_v12 : Ref sig .tc := ⟨.hbm, 92, rfl⟩
abbrev main_v13 : Ref sig .tc := ⟨.hbm, 93, rfl⟩
abbrev main_c_5 : Ref sig .tc := ⟨.hbm, 94, rfl⟩
abbrev main_call4_v0 : Ref sig .tc := ⟨.hbm, 95, rfl⟩
abbrev main_call4_v1 : Ref sig .tc := ⟨.hbm, 96, rfl⟩
abbrev main_v14 : Ref sig .tc := ⟨.hbm, 97, rfl⟩
abbrev main_call5_v0 : Ref sig .tc := ⟨.hbm, 98, rfl⟩
abbrev main_call5_v1_0 : Ref sig .tc := ⟨.hbm, 99, rfl⟩
abbrev main_v15 : Ref sig .tc := ⟨.hbm, 100, rfl⟩
abbrev main_c_6 : Ref sig .tc := ⟨.hbm, 101, rfl⟩
abbrev main_v16 : Ref sig .tc := ⟨.hbm, 102, rfl⟩
abbrev main_v17 : Ref sig .tc := ⟨.hbm, 103, rfl⟩
abbrev main_v18 : Ref sig .tc := ⟨.hbm, 104, rfl⟩
abbrev main_call6_c : Ref sig .tc := ⟨.hbm, 105, rfl⟩
abbrev main_call6_v0 : Ref sig .tc := ⟨.hbm, 106, rfl⟩
abbrev main_call6_v1 : Ref sig .tc := ⟨.hbm, 107, rfl⟩
abbrev main_call6_c_0 : Ref sig .tc := ⟨.hbm, 108, rfl⟩
abbrev main_call6_v2 : Ref sig .tc := ⟨.hbm, 109, rfl⟩
abbrev main_call6_v3 : Ref sig .tc := ⟨.hbm, 110, rfl⟩
abbrev main_call6_v4 : Ref sig .tc := ⟨.hbm, 111, rfl⟩
abbrev main_call6_v5 : Ref sig .tc := ⟨.hbm, 112, rfl⟩
abbrev main_call6_c_1 : Ref sig .tc := ⟨.hbm, 113, rfl⟩
abbrev main_call6_c_2 : Ref sig .tc := ⟨.hbm, 114, rfl⟩
abbrev main_call6_v6 : Ref sig .tc := ⟨.hbm, 115, rfl⟩
abbrev main_call6_v7 : Ref sig .tc := ⟨.hbm, 116, rfl⟩
abbrev main_call6_v8 : Ref sig .tc := ⟨.hbm, 117, rfl⟩
abbrev main_call6_v9 : Ref sig .tc := ⟨.hbm, 118, rfl⟩
abbrev main_call6_v10 : Ref sig .tc := ⟨.hbm, 119, rfl⟩
abbrev main_call6_v11 : Ref sig .tc := ⟨.hbm, 120, rfl⟩
abbrev main_call6_c_3 : Ref sig .tc := ⟨.hbm, 121, rfl⟩
abbrev main_call6_v12 : Ref sig .tc := ⟨.hbm, 122, rfl⟩
abbrev main_call6_v13 : Ref sig .tc := ⟨.hbm, 123, rfl⟩
abbrev main_call6_c_4 : Ref sig .tc := ⟨.hbm, 124, rfl⟩
abbrev main_call6_v14 : Ref sig .tc := ⟨.hbm, 125, rfl⟩
abbrev main_v19 : Ref sig .tc := ⟨.hbm, 126, rfl⟩
abbrev main_v20 : Ref sig .tc := ⟨.hbm, 127, rfl⟩
abbrev main_v21 : Ref sig .tc := ⟨.hbm, 128, rfl⟩
abbrev main_v22 : Ref sig .tc := ⟨.hbm, 129, rfl⟩
abbrev main_v23 : Ref sig .tc := ⟨.hbm, 130, rfl⟩
abbrev main_v24 : Ref sig .tc := ⟨.hbm, 131, rfl⟩
abbrev main_v25 : Ref sig .tc := ⟨.hbm, 132, rfl⟩
abbrev main_v26 : Ref sig .tc := ⟨.hbm, 133, rfl⟩
abbrev main_c_7 : Ref sig .tc := ⟨.hbm, 134, rfl⟩
abbrev main_v27 : Ref sig .tc := ⟨.hbm, 135, rfl⟩
abbrev main_c_8 : Ref sig .tc := ⟨.hbm, 136, rfl⟩
abbrev main_v28 : Ref sig .tc := ⟨.hbm, 137, rfl⟩
abbrev main_call7_call0_c : Ref sig .tc := ⟨.hbm, 138, rfl⟩
abbrev main_call7_call0_v0 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev cc0_stg4_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

@[reducible] def k0_t1_loop (v10 : BitVec 32) : Scf.Loop 32 :=
  let c0_i32_6 : BitVec 32 := 0#32
  let v11 : BitVec 32 := Scalar.subi v10 c0_i32_6
  let c1_i32_7 : BitVec 32 := 1#32
  let v13 : BitVec 32 := Scalar.divsi v11 c1_i32_7
  let v14 : BitVec 32 := Scalar.muli v13 c1_i32_7
  let v15 : BitVec 32 := Scalar.addi c0_i32_6 v14
  let c1_i32_8 : BitVec 32 := 1#32
  ⟨c0_i32_6, v15, c1_i32_8⟩

def k0_off1 (v9 : BitVec 32) (v10 : BitVec 32) (k0_t1 : Fin (k0_t1_loop v10).trips) : Fin 1 → Nat :=
  let c0_i32_6 : BitVec 32 := 0#32
  let c1_i32_8 : BitVec 32 := 1#32
  let arg16 : BitVec 32 := Scf.iv c0_i32_6 c1_i32_8 k0_t1
  let v568 : BitVec 32 := Scalar.addi v9 arg16
  let v569 : Index := Scalar.indexCast v568
  ![v569.toNat]
def k0_off2 (v570 : BitVec 32) : Fin 2 → Nat :=
  let c0_i32_597 : BitVec 32 := 0#32
  ![v570.toNat, 0]

def k0_chk2 (v570 : BitVec 32) : Prop :=
  (∀ a, (k0_off2 v570) a + S1x2048.size a ≤ S4096x2048.size a)
theorem k0_off2_inb : ∀ (v570 : BitVec 32) (k0_hw2 : k0_chk2 v570), ∀ a, (k0_off2 v570) a + S1x2048.size a ≤ S4096x2048.size a := fun v570 k0_hw2 => k0_hw2

def k0_off3 (v573 : BitVec 32) : Fin 2 → Nat :=
  let c0_i32_598 : BitVec 32 := 0#32
  ![v573.toNat, 0]

def k0_chk3 (v573 : BitVec 32) : Prop :=
  (∀ a, (k0_off3 v573) a + S1x2048.size a ≤ S8192x2048.size a)
theorem k0_off3_inb : ∀ (v573 : BitVec 32) (k0_hw3 : k0_chk3 v573), ∀ a, (k0_off3 v573) a + S1x2048.size a ≤ S8192x2048.size a := fun v573 k0_hw3 => k0_hw3

@[reducible] def k0_t2_loop (v10 : BitVec 32) : Scf.Loop 32 :=
  let c0_i32_6 : BitVec 32 := 0#32
  let v11 : BitVec 32 := Scalar.subi v10 c0_i32_6
  let c1_i32_7 : BitVec 32 := 1#32
  let v13 : BitVec 32 := Scalar.divsi v11 c1_i32_7
  let v14 : BitVec 32 := Scalar.muli v13 c1_i32_7
  let v15 : BitVec 32 := Scalar.addi c0_i32_6 v14
  let v12 : BitVec 32 := Scalar.addi c0_i32_6 v11
  let c1_i32_9 : BitVec 32 := 1#32
  ⟨v15, v12, c1_i32_9⟩
def k0_off4 (v9 : BitVec 32) (v10 : BitVec 32) (k0_t2 : Fin (k0_t2_loop v10).trips) : Fin 1 → Nat :=
  let c0_i32_6 : BitVec 32 := 0#32
  let v11 : BitVec 32 := Scalar.subi v10 c0_i32_6
  let c1_i32_7 : BitVec 32 := 1#32
  let v13 : BitVec 32 := Scalar.divsi v11 c1_i32_7
  let v14 : BitVec 32 := Scalar.muli v13 c1_i32_7
  let v15 : BitVec 32 := Scalar.addi c0_i32_6 v14
  let c1_i32_9 : BitVec 32 := 1#32
  let arg16 : BitVec 32 := Scf.iv v15 c1_i32_9 k0_t2
  let v568 : BitVec 32 := Scalar.addi v9 arg16
  let v569 : Index := Scalar.indexCast v568
  ![v569.toNat]

def k0_chk1 (v9 : BitVec 32) (v10 : BitVec 32) : Prop :=
  ((k0_t1_loop v10).OK) ∧
  (∀ k0_t1 : Fin (k0_t1_loop v10).trips, ∀ a, (k0_off1 v9 v10 k0_t1) a + S1.size a ≤ S4096.size a) ∧
  ((k0_t2_loop v10).OK) ∧
  (∀ k0_t2 : Fin (k0_t2_loop v10).trips, ∀ a, (k0_off4 v9 v10 k0_t2) a + S1.size a ≤ S4096.size a)
theorem k0_t1_ok : ∀ (v9 : BitVec 32) (v10 : BitVec 32) (k0_hw1 : k0_chk1 v9 v10), (k0_t1_loop v10).OK := fun v9 v10 k0_hw1 => k0_hw1.1
theorem k0_off1_inb : ∀ (v9 : BitVec 32) (v10 : BitVec 32) (k0_hw1 : k0_chk1 v9 v10) (k0_t1 : Fin (k0_t1_loop v10).trips), ∀ a, (k0_off1 v9 v10 k0_t1) a + S1.size a ≤ S4096.size a := fun v9 v10 k0_hw1 k0_t1 => k0_hw1.2.1 k0_t1
theorem k0_t2_ok : ∀ (v9 : BitVec 32) (v10 : BitVec 32) (k0_hw1 : k0_chk1 v9 v10), (k0_t2_loop v10).OK := fun v9 v10 k0_hw1 => k0_hw1.2.2.1
theorem k0_off4_inb : ∀ (v9 : BitVec 32) (v10 : BitVec 32) (k0_hw1 : k0_chk1 v9 v10) (k0_t2 : Fin (k0_t2_loop v10).trips), ∀ a, (k0_off4 v9 v10 k0_t2) a + S1.size a ≤ S4096.size a := fun v9 v10 k0_hw1 k0_t2 => k0_hw1.2.2.2 k0_t2

def k0_off5 (v570 : BitVec 32) : Fin 2 → Nat :=
  let c0_i32_597 : BitVec 32 := 0#32
  ![v570.toNat, 0]

def k0_chk4 (v570 : BitVec 32) : Prop :=
  (∀ a, (k0_off5 v570) a + S1x2048.size a ≤ S4096x2048.size a)
theorem k0_off5_inb : ∀ (v570 : BitVec 32) (k0_hw4 : k0_chk4 v570), ∀ a, (k0_off5 v570) a + S1x2048.size a ≤ S4096x2048.size a := fun v570 k0_hw4 => k0_hw4

def k0_off6 (v573 : BitVec 32) : Fin 2 → Nat :=
  let c0_i32_598 : BitVec 32 := 0#32
  ![v573.toNat, 0]

def k0_chk5 (v573 : BitVec 32) : Prop :=
  (∀ a, (k0_off6 v573) a + S1x2048.size a ≤ S8192x2048.size a)
theorem k0_off6_inb : ∀ (v573 : BitVec 32) (k0_hw5 : k0_chk5 v573), ∀ a, (k0_off6 v573) a + S1x2048.size a ≤ S8192x2048.size a := fun v573 k0_hw5 => k0_hw5

@[reducible] def k0_t3_loop (v16 : BitVec 32) : Scf.Loop 32 :=
  let c0_i32_12 : BitVec 32 := 0#32
  let v17 : BitVec 32 := Scalar.subi v16 c0_i32_12
  let c1_i32_13 : BitVec 32 := 1#32
  let v19 : BitVec 32 := Scalar.divsi v17 c1_i32_13
  let v20 : BitVec 32 := Scalar.muli v19 c1_i32_13
  let v21 : BitVec 32 := Scalar.addi c0_i32_12 v20
  let c1_i32_14 : BitVec 32 := 1#32
  ⟨c0_i32_12, v21, c1_i32_14⟩

@[reducible] def k0_t4_loop (v16 : BitVec 32) : Scf.Loop 32 :=
  let c0_i32_12 : BitVec 32 := 0#32
  let v17 : BitVec 32 := Scalar.subi v16 c0_i32_12
  let c1_i32_13 : BitVec 32 := 1#32
  let v19 : BitVec 32 := Scalar.divsi v17 c1_i32_13
  let v20 : BitVec 32 := Scalar.muli v19 c1_i32_13
  let v21 : BitVec 32 := Scalar.addi c0_i32_12 v20
  let v18 : BitVec 32 := Scalar.addi c0_i32_12 v17
  let c1_i32_15 : BitVec 32 := 1#32
  ⟨v21, v18, c1_i32_15⟩

def k0_chk6 (v16 : BitVec 32) : Prop :=
  ((k0_t3_loop v16).OK) ∧
  ((k0_t4_loop v16).OK)
theorem k0_t3_ok : ∀ (v16 : BitVec 32) (k0_hw6 : k0_chk6 v16), (k0_t3_loop v16).OK := fun v16 k0_hw6 => k0_hw6.1
theorem k0_t4_ok : ∀ (v16 : BitVec 32) (k0_hw6 : k0_chk6 v16), (k0_t4_loop v16).OK := fun v16 k0_hw6 => k0_hw6.2

def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v22 : BitVec 32 := Scalar.muli v2 c1024_i32
  let v23 : Index := Scalar.indexCast v22
  let c0_16 : Index := 0#32
  ![v23.toNat, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_18 : BitVec 32 := 1024#32
  let v32 : BitVec 32 := Scalar.muli v2 c1024_i32_18
  let v33 : Index := Scalar.indexCast v32
  let c0_19 : Index := 0#32
  ![v33.toNat, 0]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_26 : BitVec 32 := 1024#32
  let v53 : BitVec 32 := Scalar.muli v2 c1024_i32_26
  let v54 : Index := Scalar.indexCast v53
  let c1024 : Index := 1024#32
  ![v54.toNat, 1024]
def k0_dev1 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_31 : BitVec 32 := 1#32
  let v65 : BitVec 32 := Scalar.muli v5 c1_i32_31
  let v66 : BitVec 32 := Scalar.addi c0_i32_32 v65
  v66.toNat
def k0_dev2 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_34 : BitVec 32 := 1#32
  let v67 : BitVec 32 := Scalar.muli v7 c1_i32_34
  let v68 : BitVec 32 := Scalar.addi c0_i32_35 v67
  v68.toNat
def k0_dev3 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_43 : BitVec 32 := 1#32
  let v69 : BitVec 32 := Scalar.muli v7 c1_i32_43
  let v70 : BitVec 32 := Scalar.addi c0_i32_44 v69
  v70.toNat
def k0_dev4 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_56 : BitVec 32 := 1#32
  let v79 : BitVec 32 := Scalar.muli v5 c1_i32_56
  let v80 : BitVec 32 := Scalar.addi c0_i32_57 v79
  v80.toNat
@[reducible] def k0_t5_loop (v90 : BitVec 32) : Scf.Loop 32 :=
  let c0_i32_65 : BitVec 32 := 0#32
  let v91 : BitVec 32 := Scalar.subi v90 c0_i32_65
  let c1_i32_66 : BitVec 32 := 1#32
  let v93 : BitVec 32 := Scalar.divsi v91 c1_i32_66
  let v94 : BitVec 32 := Scalar.muli v93 c1_i32_66
  let v95 : BitVec 32 := Scalar.addi c0_i32_65 v94
  let c1_i32_67 : BitVec 32 := 1#32
  ⟨c0_i32_65, v95, c1_i32_67⟩

def k0_off10 (v89 : BitVec 32) (v90 : BitVec 32) (k0_t5 : Fin (k0_t5_loop v90).trips) : Fin 1 → Nat :=
  let c0_i32_65 : BitVec 32 := 0#32
  let c1_i32_67 : BitVec 32 := 1#32
  let arg16 : BitVec 32 := Scf.iv c0_i32_65 c1_i32_67 k0_t5
  let v568 : BitVec 32 := Scalar.addi v89 arg16
  let v569 : Index := Scalar.indexCast v568
  ![v569.toNat]
def k0_off11 (v570 : BitVec 32) : Fin 2 → Nat :=
  let c0_i32_597 : BitVec 32 := 0#32
  ![v570.toNat, 0]

def k0_chk8 (v570 : BitVec 32) : Prop :=
  (∀ a, (k0_off11 v570) a + S1x2048.size a ≤ S4096x2048.size a)
theorem k0_off11_inb : ∀ (v570 : BitVec 32) (k0_hw8 : k0_chk8 v570), ∀ a, (k0_off11 v570) a + S1x2048.size a ≤ S4096x2048.size a := fun v570 k0_hw8 => k0_hw8

def k0_off12 (v573 : BitVec 32) : Fin 2 → Nat :=
  let c0_i32_598 : BitVec 32 := 0#32
  ![v573.toNat, 0]

def k0_chk9 (v573 : BitVec 32) : Prop :=
  (∀ a, (k0_off12 v573) a + S1x2048.size a ≤ S8192x2048.size a)
theorem k0_off12_inb : ∀ (v573 : BitVec 32) (k0_hw9 : k0_chk9 v573), ∀ a, (k0_off12 v573) a + S1x2048.size a ≤ S8192x2048.size a := fun v573 k0_hw9 => k0_hw9

@[reducible] def k0_t6_loop (v90 : BitVec 32) : Scf.Loop 32 :=
  let c0_i32_65 : BitVec 32 := 0#32
  let v91 : BitVec 32 := Scalar.subi v90 c0_i32_65
  let c1_i32_66 : BitVec 32 := 1#32
  let v93 : BitVec 32 := Scalar.divsi v91 c1_i32_66
  let v94 : BitVec 32 := Scalar.muli v93 c1_i32_66
  let v95 : BitVec 32 := Scalar.addi c0_i32_65 v94
  let v92 : BitVec 32 := Scalar.addi c0_i32_65 v91
  let c1_i32_68 : BitVec 32 := 1#32
  ⟨v95, v92, c1_i32_68⟩
def k0_off13 (v89 : BitVec 32) (v90 : BitVec 32) (k0_t6 : Fin (k0_t6_loop v90).trips) : Fin 1 → Nat :=
  let c0_i32_65 : BitVec 32 := 0#32
  let v91 : BitVec 32 := Scalar.subi v90 c0_i32_65
  let c1_i32_66 : BitVec 32 := 1#32
  let v93 : BitVec 32 := Scalar.divsi v91 c1_i32_66
  let v94 : BitVec 32 := Scalar.muli v93 c1_i32_66
  let v95 : BitVec 32 := Scalar.addi c0_i32_65 v94
  let c1_i32_68 : BitVec 32 := 1#32
  let arg16 : BitVec 32 := Scf.iv v95 c1_i32_68 k0_t6
  let v568 : BitVec 32 := Scalar.addi v89 arg16
  let v569 : Index := Scalar.indexCast v568
  ![v569.toNat]

def k0_chk7 (v89 : BitVec 32) (v90 : BitVec 32) : Prop :=
  ((k0_t5_loop v90).OK) ∧
  (∀ k0_t5 : Fin (k0_t5_loop v90).trips, ∀ a, (k0_off10 v89 v90 k0_t5) a + S1.size a ≤ S4096.size a) ∧
  ((k0_t6_loop v90).OK) ∧
  (∀ k0_t6 : Fin (k0_t6_loop v90).trips, ∀ a, (k0_off13 v89 v90 k0_t6) a + S1.size a ≤ S4096.size a)
theorem k0_t5_ok : ∀ (v89 : BitVec 32) (v90 : BitVec 32) (k0_hw7 : k0_chk7 v89 v90), (k0_t5_loop v90).OK := fun v89 v90 k0_hw7 => k0_hw7.1
theorem k0_off10_inb : ∀ (v89 : BitVec 32) (v90 : BitVec 32) (k0_hw7 : k0_chk7 v89 v90) (k0_t5 : Fin (k0_t5_loop v90).trips), ∀ a, (k0_off10 v89 v90 k0_t5) a + S1.size a ≤ S4096.size a := fun v89 v90 k0_hw7 k0_t5 => k0_hw7.2.1 k0_t5
theorem k0_t6_ok : ∀ (v89 : BitVec 32) (v90 : BitVec 32) (k0_hw7 : k0_chk7 v89 v90), (k0_t6_loop v90).OK := fun v89 v90 k0_hw7 => k0_hw7.2.2.1
theorem k0_off13_inb : ∀ (v89 : BitVec 32) (v90 : BitVec 32) (k0_hw7 : k0_chk7 v89 v90) (k0_t6 : Fin (k0_t6_loop v90).trips), ∀ a, (k0_off13 v89 v90 k0_t6) a + S1.size a ≤ S4096.size a := fun v89 v90 k0_hw7 k0_t6 => k0_hw7.2.2.2 k0_t6

def k0_off14 (v570 : BitVec 32) : Fin 2 → Nat :=
  let c0_i32_597 : BitVec 32 := 0#32
  ![v570.toNat, 0]

def k0_chk10 (v570 : BitVec 32) : Prop :=
  (∀ a, (k0_off14 v570) a + S1x2048.size a ≤ S4096x2048.size a)
theorem k0_off14_inb : ∀ (v570 : BitVec 32) (k0_hw10 : k0_chk10 v570), ∀ a, (k0_off14 v570) a + S1x2048.size a ≤ S4096x2048.size a := fun v570 k0_hw10 => k0_hw10

def k0_off15 (v573 : BitVec 32) : Fin 2 → Nat :=
  let c0_i32_598 : BitVec 32 := 0#32
  ![v573.toNat, 0]

def k0_chk11 (v573 : BitVec 32) : Prop :=
  (∀ a, (k0_off15 v573) a + S1x2048.size a ≤ S8192x2048.size a)
theorem k0_off15_inb : ∀ (v573 : BitVec 32) (k0_hw11 : k0_chk11 v573), ∀ a, (k0_off15 v573) a + S1x2048.size a ≤ S8192x2048.size a := fun v573 k0_hw11 => k0_hw11

@[reducible] def k0_t7_loop (v97 : BitVec 32) : Scf.Loop 32 :=
  let c0_i32_71 : BitVec 32 := 0#32
  let v98 : BitVec 32 := Scalar.subi v97 c0_i32_71
  let c1_i32_72 : BitVec 32 := 1#32
  let v100 : BitVec 32 := Scalar.divsi v98 c1_i32_72
  let v101 : BitVec 32 := Scalar.muli v100 c1_i32_72
  let v102 : BitVec 32 := Scalar.addi c0_i32_71 v101
  let c1_i32_73 : BitVec 32 := 1#32
  ⟨c0_i32_71, v102, c1_i32_73⟩

def k0_off16 (v96 : BitVec 32) (v97 : BitVec 32) (k0_t7 : Fin (k0_t7_loop v97).trips) : Fin 1 → Nat :=
  let c0_i32_71 : BitVec 32 := 0#32
  let c1_i32_73 : BitVec 32 := 1#32
  let arg16 : BitVec 32 := Scf.iv c0_i32_71 c1_i32_73 k0_t7
  let v568 : BitVec 32 := Scalar.addi v96 arg16
  let v569 : Index := Scalar.indexCast v568
  ![v569.toNat]
def k0_off17 (v570 : BitVec 32) : Fin 2 → Nat :=
  let c0_i32_597 : BitVec 32 := 0#32
  ![v570.toNat, 0]

def k0_chk13 (v570 : BitVec 32) : Prop :=
  (∀ a, (k0_off17 v570) a + S1x2048.size a ≤ S4096x2048.size a)
theorem k0_off17_inb : ∀ (v570 : BitVec 32) (k0_hw13 : k0_chk13 v570), ∀ a, (k0_off17 v570) a + S1x2048.size a ≤ S4096x2048.size a := fun v570 k0_hw13 => k0_hw13

def k0_off18 (v573 : BitVec 32) : Fin 2 → Nat :=
  let c0_i32_598 : BitVec 32 := 0#32
  ![v573.toNat, 0]

def k0_chk14 (v573 : BitVec 32) : Prop :=
  (∀ a, (k0_off18 v573) a + S1x2048.size a ≤ S8192x2048.size a)
theorem k0_off18_inb : ∀ (v573 : BitVec 32) (k0_hw14 : k0_chk14 v573), ∀ a, (k0_off18 v573) a + S1x2048.size a ≤ S8192x2048.size a := fun v573 k0_hw14 => k0_hw14

@[reducible] def k0_t8_loop (v97 : BitVec 32) : Scf.Loop 32 :=
  let c0_i32_71 : BitVec 32 := 0#32
  let v98 : BitVec 32 := Scalar.subi v97 c0_i32_71
  let c1_i32_72 : BitVec 32 := 1#32
  let v100 : BitVec 32 := Scalar.divsi v98 c1_i32_72
  let v101 : BitVec 32 := Scalar.muli v100 c1_i32_72
  let v102 : BitVec 32 := Scalar.addi c0_i32_71 v101
  let v99 : BitVec 32 := Scalar.addi c0_i32_71 v98
  let c1_i32_74 : BitVec 32 := 1#32
  ⟨v102, v99, c1_i32_74⟩
def k0_off19 (v96 : BitVec 32) (v97 : BitVec 32) (k0_t8 : Fin (k0_t8_loop v97).trips) : Fin 1 → Nat :=
  let c0_i32_71 : BitVec 32 := 0#32
  let v98 : BitVec 32 := Scalar.subi v97 c0_i32_71
  let c1_i32_72 : BitVec 32 := 1#32
  let v100 : BitVec 32 := Scalar.divsi v98 c1_i32_72
  let v101 : BitVec 32 := Scalar.muli v100 c1_i32_72
  let v102 : BitVec 32 := Scalar.addi c0_i32_71 v101
  let c1_i32_74 : BitVec 32 := 1#32
  let arg16 : BitVec 32 := Scf.iv v102 c1_i32_74 k0_t8
  let v568 : BitVec 32 := Scalar.addi v96 arg16
  let v569 : Index := Scalar.indexCast v568
  ![v569.toNat]

def k0_chk12 (v96 : BitVec 32) (v97 : BitVec 32) : Prop :=
  ((k0_t7_loop v97).OK) ∧
  (∀ k0_t7 : Fin (k0_t7_loop v97).trips, ∀ a, (k0_off16 v96 v97 k0_t7) a + S1.size a ≤ S4096.size a) ∧
  ((k0_t8_loop v97).OK) ∧
  (∀ k0_t8 : Fin (k0_t8_loop v97).trips, ∀ a, (k0_off19 v96 v97 k0_t8) a + S1.size a ≤ S4096.size a)
theorem k0_t7_ok : ∀ (v96 : BitVec 32) (v97 : BitVec 32) (k0_hw12 : k0_chk12 v96 v97), (k0_t7_loop v97).OK := fun v96 v97 k0_hw12 => k0_hw12.1
theorem k0_off16_inb : ∀ (v96 : BitVec 32) (v97 : BitVec 32) (k0_hw12 : k0_chk12 v96 v97) (k0_t7 : Fin (k0_t7_loop v97).trips), ∀ a, (k0_off16 v96 v97 k0_t7) a + S1.size a ≤ S4096.size a := fun v96 v97 k0_hw12 k0_t7 => k0_hw12.2.1 k0_t7
theorem k0_t8_ok : ∀ (v96 : BitVec 32) (v97 : BitVec 32) (k0_hw12 : k0_chk12 v96 v97), (k0_t8_loop v97).OK := fun v96 v97 k0_hw12 => k0_hw12.2.2.1
theorem k0_off19_inb : ∀ (v96 : BitVec 32) (v97 : BitVec 32) (k0_hw12 : k0_chk12 v96 v97) (k0_t8 : Fin (k0_t8_loop v97).trips), ∀ a, (k0_off19 v96 v97 k0_t8) a + S1.size a ≤ S4096.size a := fun v96 v97 k0_hw12 k0_t8 => k0_hw12.2.2.2 k0_t8

def k0_off20 (v570 : BitVec 32) : Fin 2 → Nat :=
  let c0_i32_597 : BitVec 32 := 0#32
  ![v570.toNat, 0]

def k0_chk15 (v570 : BitVec 32) : Prop :=
  (∀ a, (k0_off20 v570) a + S1x2048.size a ≤ S4096x2048.size a)
theorem k0_off20_inb : ∀ (v570 : BitVec 32) (k0_hw15 : k0_chk15 v570), ∀ a, (k0_off20 v570) a + S1x2048.size a ≤ S4096x2048.size a := fun v570 k0_hw15 => k0_hw15

def k0_off21 (v573 : BitVec 32) : Fin 2 → Nat :=
  let c0_i32_598 : BitVec 32 := 0#32
  ![v573.toNat, 0]

def k0_chk16 (v573 : BitVec 32) : Prop :=
  (∀ a, (k0_off21 v573) a + S1x2048.size a ≤ S8192x2048.size a)
theorem k0_off21_inb : ∀ (v573 : BitVec 32) (k0_hw16 : k0_chk16 v573), ∀ a, (k0_off21 v573) a + S1x2048.size a ≤ S8192x2048.size a := fun v573 k0_hw16 => k0_hw16

@[reducible] def k0_t9_loop (v103 : BitVec 32) : Scf.Loop 32 :=
  let c0_i32_77 : BitVec 32 := 0#32
  let v104 : BitVec 32 := Scalar.subi v103 c0_i32_77
  let c1_i32_78 : BitVec 32 := 1#32
  let v106 : BitVec 32 := Scalar.divsi v104 c1_i32_78
  let v107 : BitVec 32 := Scalar.muli v106 c1_i32_78
  let v108 : BitVec 32 := Scalar.addi c0_i32_77 v107
  let c1_i32_79 : BitVec 32 := 1#32
  ⟨c0_i32_77, v108, c1_i32_79⟩

@[reducible] def k0_t10_loop (v103 : BitVec 32) : Scf.Loop 32 :=
  let c0_i32_77 : BitVec 32 := 0#32
  let v104 : BitVec 32 := Scalar.subi v103 c0_i32_77
  let c1_i32_78 : BitVec 32 := 1#32
  let v106 : BitVec 32 := Scalar.divsi v104 c1_i32_78
  let v107 : BitVec 32 := Scalar.muli v106 c1_i32_78
  let v108 : BitVec 32 := Scalar.addi c0_i32_77 v107
  let v105 : BitVec 32 := Scalar.addi c0_i32_77 v104
  let c1_i32_80 : BitVec 32 := 1#32
  ⟨v108, v105, c1_i32_80⟩

def k0_chk17 (v103 : BitVec 32) : Prop :=
  ((k0_t9_loop v103).OK) ∧
  ((k0_t10_loop v103).OK)
theorem k0_t9_ok : ∀ (v103 : BitVec 32) (k0_hw17 : k0_chk17 v103), (k0_t9_loop v103).OK := fun v103 k0_hw17 => k0_hw17.1
theorem k0_t10_ok : ∀ (v103 : BitVec 32) (k0_hw17 : k0_chk17 v103), (k0_t10_loop v103).OK := fun v103 k0_hw17 => k0_hw17.2

@[reducible] def k0_t11_loop (v109 : BitVec 32) : Scf.Loop 32 :=
  let c0_i32_83 : BitVec 32 := 0#32
  let v110 : BitVec 32 := Scalar.subi v109 c0_i32_83
  let c1_i32_84 : BitVec 32 := 1#32
  let v112 : BitVec 32 := Scalar.divsi v110 c1_i32_84
  let v113 : BitVec 32 := Scalar.muli v112 c1_i32_84
  let v114 : BitVec 32 := Scalar.addi c0_i32_83 v113
  let c1_i32_85 : BitVec 32 := 1#32
  ⟨c0_i32_83, v114, c1_i32_85⟩

@[reducible] def k0_t12_loop (v109 : BitVec 32) : Scf.Loop 32 :=
  let c0_i32_83 : BitVec 32 := 0#32
  let v110 : BitVec 32 := Scalar.subi v109 c0_i32_83
  let c1_i32_84 : BitVec 32 := 1#32
  let v112 : BitVec 32 := Scalar.divsi v110 c1_i32_84
  let v113 : BitVec 32 := Scalar.muli v112 c1_i32_84
  let v114 : BitVec 32 := Scalar.addi c0_i32_83 v113
  let v111 : BitVec 32 := Scalar.addi c0_i32_83 v110
  let c1_i32_86 : BitVec 32 := 1#32
  ⟨v114, v111, c1_i32_86⟩

def k0_chk18 (v109 : BitVec 32) : Prop :=
  ((k0_t11_loop v109).OK) ∧
  ((k0_t12_loop v109).OK)
theorem k0_t11_ok : ∀ (v109 : BitVec 32) (k0_hw18 : k0_chk18 v109), (k0_t11_loop v109).OK := fun v109 k0_hw18 => k0_hw18.1
theorem k0_t12_ok : ∀ (v109 : BitVec 32) (k0_hw18 : k0_chk18 v109), (k0_t12_loop v109).OK := fun v109 k0_hw18 => k0_hw18.2

def k0_off22 (d0 : Dev nD) (c_m1_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v129 : BitVec 32 := Scalar.addi v2 c_m1_i32
  let c8_i32 : BitVec 32 := 8#32
  let v130 : BitVec 32 := Scalar.addi v129 c8_i32
  let c4_i32_112 : BitVec 32 := 4#32
  let v131 : BitVec 32 := Scalar.remsi v130 c4_i32_112
  let c1024_i32_117 : BitVec 32 := 1024#32
  let v134 : BitVec 32 := Scalar.muli v131 c1024_i32_117
  let v135 : Index := Scalar.indexCast v134
  let c0_118 : Index := 0#32
  ![v135.toNat, 0]
def k0_off23 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32 : BitVec 32 := 4294967295#32
  let v129 : BitVec 32 := Scalar.addi v2 c_m1_i32
  let c8_i32 : BitVec 32 := 8#32
  let v130 : BitVec 32 := Scalar.addi v129 c8_i32
  let c4_i32_112 : BitVec 32 := 4#32
  let v131 : BitVec 32 := Scalar.remsi v130 c4_i32_112
  let c1024_i32_120 : BitVec 32 := 1024#32
  let v144 : BitVec 32 := Scalar.muli v131 c1024_i32_120
  let v145 : Index := Scalar.indexCast v144
  let c0_121 : Index := 0#32
  ![v145.toNat, 0]
def k0_off24 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_152 : BitVec 32 := 1#32
  let v170 : BitVec 32 := Scalar.addi v2 c1_i32_152
  let c8_i32_153 : BitVec 32 := 8#32
  let v171 : BitVec 32 := Scalar.addi v170 c8_i32_153
  let c4_i32_154 : BitVec 32 := 4#32
  let v172 : BitVec 32 := Scalar.remsi v171 c4_i32_154
  let c1024_i32_162 : BitVec 32 := 1024#32
  let v185 : BitVec 32 := Scalar.muli v172 c1024_i32_162
  let v186 : Index := Scalar.indexCast v185
  let c1024_163 : Index := 1024#32
  ![v186.toNat, 1024]
def k0_dev5 (d0 : Dev nD) : Nat :=
  let c0_i32_178 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_177 : BitVec 32 := 1#32
  let v197 : BitVec 32 := Scalar.muli v7 c1_i32_177
  let v198 : BitVec 32 := Scalar.addi c0_i32_178 v197
  v198.toNat
def k0_dev6 (d0 : Dev nD) : Nat :=
  let c0_i32_192 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_191 : BitVec 32 := 1#32
  let v207 : BitVec 32 := Scalar.muli v5 c1_i32_191
  let v208 : BitVec 32 := Scalar.addi c0_i32_192 v207
  v208.toNat
@[reducible] def k0_t13_loop (v218 : BitVec 32) : Scf.Loop 32 :=
  let c0_i32_199 : BitVec 32 := 0#32
  let v219 : BitVec 32 := Scalar.subi v218 c0_i32_199
  let c1_i32_200 : BitVec 32 := 1#32
  let v221 : BitVec 32 := Scalar.divsi v219 c1_i32_200
  let v222 : BitVec 32 := Scalar.muli v221 c1_i32_200
  let v223 : BitVec 32 := Scalar.addi c0_i32_199 v222
  let c1_i32_201 : BitVec 32 := 1#32
  ⟨c0_i32_199, v223, c1_i32_201⟩

def k0_off25 (v217 : BitVec 32) (v218 : BitVec 32) (k0_t13 : Fin (k0_t13_loop v218).trips) : Fin 1 → Nat :=
  let c0_i32_199 : BitVec 32 := 0#32
  let c1_i32_201 : BitVec 32 := 1#32
  let arg16 : BitVec 32 := Scf.iv c0_i32_199 c1_i32_201 k0_t13
  let v568 : BitVec 32 := Scalar.addi v217 arg16
  let v569 : Index := Scalar.indexCast v568
  ![v569.toNat]
def k0_off26 (v570 : BitVec 32) : Fin 2 → Nat :=
  let c0_i32_597 : BitVec 32 := 0#32
  ![v570.toNat, 0]

def k0_chk20 (v570 : BitVec 32) : Prop :=
  (∀ a, (k0_off26 v570) a + S1x2048.size a ≤ S4096x2048.size a)
theorem k0_off26_inb : ∀ (v570 : BitVec 32) (k0_hw20 : k0_chk20 v570), ∀ a, (k0_off26 v570) a + S1x2048.size a ≤ S4096x2048.size a := fun v570 k0_hw20 => k0_hw20

def k0_off27 (v573 : BitVec 32) : Fin 2 → Nat :=
  let c0_i32_598 : BitVec 32 := 0#32
  ![v573.toNat, 0]

def k0_chk21 (v573 : BitVec 32) : Prop :=
  (∀ a, (k0_off27 v573) a + S1x2048.size a ≤ S8192x2048.size a)
theorem k0_off27_inb : ∀ (v573 : BitVec 32) (k0_hw21 : k0_chk21 v573), ∀ a, (k0_off27 v573) a + S1x2048.size a ≤ S8192x2048.size a := fun v573 k0_hw21 => k0_hw21

@[reducible] def k0_t14_loop (v218 : BitVec 32) : Scf.Loop 32 :=
  let c0_i32_199 : BitVec 32 := 0#32
  let v219 : BitVec 32 := Scalar.subi v218 c0_i32_199
  let c1_i32_200 : BitVec 32 := 1#32
  let v221 : BitVec 32 := Scalar.divsi v219 c1_i32_200
  let v222 : BitVec 32 := Scalar.muli v221 c1_i32_200
  let v223 : BitVec 32 := Scalar.addi c0_i32_199 v222
  let v220 : BitVec 32 := Scalar.addi c0_i32_199 v219
  let c1_i32_202 : BitVec 32 := 1#32
  ⟨v223, v220, c1_i32_202⟩
def k0_off28 (v217 : BitVec 32) (v218 : BitVec 32) (k0_t14 : Fin (k0_t14_loop v218).trips) : Fin 1 → Nat :=
  let c0_i32_199 : BitVec 32 := 0#32
  let v219 : BitVec 32 := Scalar.subi v218 c0_i32_199
  let c1_i32_200 : BitVec 32 := 1#32
  let v221 : BitVec 32 := Scalar.divsi v219 c1_i32_200
  let v222 : BitVec 32 := Scalar.muli v221 c1_i32_200
  let v223 : BitVec 32 := Scalar.addi c0_i32_199 v222
  let c1_i32_202 : BitVec 32 := 1#32
  let arg16 : BitVec 32 := Scf.iv v223 c1_i32_202 k0_t14
  let v568 : BitVec 32 := Scalar.addi v217 arg16
  let v569 : Index := Scalar.indexCast v568
  ![v569.toNat]

def k0_chk19 (v217 : BitVec 32) (v218 : BitVec 32) : Prop :=
  ((k0_t13_loop v218).OK) ∧
  (∀ k0_t13 : Fin (k0_t13_loop v218).trips, ∀ a, (k0_off25 v217 v218 k0_t13) a + S1.size a ≤ S4096.size a) ∧
  ((k0_t14_loop v218).OK) ∧
  (∀ k0_t14 : Fin (k0_t14_loop v218).trips, ∀ a, (k0_off28 v217 v218 k0_t14) a + S1.size a ≤ S4096.size a)
theorem k0_t13_ok : ∀ (v217 : BitVec 32) (v218 : BitVec 32) (k0_hw19 : k0_chk19 v217 v218), (k0_t13_loop v218).OK := fun v217 v218 k0_hw19 => k0_hw19.1
theorem k0_off25_inb : ∀ (v217 : BitVec 32) (v218 : BitVec 32) (k0_hw19 : k0_chk19 v217 v218) (k0_t13 : Fin (k0_t13_loop v218).trips), ∀ a, (k0_off25 v217 v218 k0_t13) a + S1.size a ≤ S4096.size a := fun v217 v218 k0_hw19 k0_t13 => k0_hw19.2.1 k0_t13
theorem k0_t14_ok : ∀ (v217 : BitVec 32) (v218 : BitVec 32) (k0_hw19 : k0_chk19 v217 v218), (k0_t14_loop v218).OK := fun v217 v218 k0_hw19 => k0_hw19.2.2.1
theorem k0_off28_inb : ∀ (v217 : BitVec 32) (v218 : BitVec 32) (k0_hw19 : k0_chk19 v217 v218) (k0_t14 : Fin (k0_t14_loop v218).trips), ∀ a, (k0_off28 v217 v218 k0_t14) a + S1.size a ≤ S4096.size a := fun v217 v218 k0_hw19 k0_t14 => k0_hw19.2.2.2 k0_t14

def k0_off29 (v570 : BitVec 32) : Fin 2 → Nat :=
  let c0_i32_597 : BitVec 32 := 0#32
  ![v570.toNat, 0]

def k0_chk22 (v570 : BitVec 32) : Prop :=
  (∀ a, (k0_off29 v570) a + S1x2048.size a ≤ S4096x2048.size a)
theorem k0_off29_inb : ∀ (v570 : BitVec 32) (k0_hw22 : k0_chk22 v570), ∀ a, (k0_off29 v570) a + S1x2048.size a ≤ S4096x2048.size a := fun v570 k0_hw22 => k0_hw22

def k0_off30 (v573 : BitVec 32) : Fin 2 → Nat :=
  let c0_i32_598 : BitVec 32 := 0#32
  ![v573.toNat, 0]

def k0_chk23 (v573 : BitVec 32) : Prop :=
  (∀ a, (k0_off30 v573) a + S1x2048.size a ≤ S8192x2048.size a)
theorem k0_off30_inb : ∀ (v573 : BitVec 32) (k0_hw23 : k0_chk23 v573), ∀ a, (k0_off30 v573) a + S1x2048.size a ≤ S8192x2048.size a := fun v573 k0_hw23 => k0_hw23

@[reducible] def k0_t15_loop (v224 : BitVec 32) : Scf.Loop 32 :=
  let c0_i32_205 : BitVec 32 := 0#32
  let v225 : BitVec 32 := Scalar.subi v224 c0_i32_205
  let c1_i32_206 : BitVec 32 := 1#32
  let v227 : BitVec 32 := Scalar.divsi v225 c1_i32_206
  let v228 : BitVec 32 := Scalar.muli v227 c1_i32_206
  let v229 : BitVec 32 := Scalar.addi c0_i32_205 v228
  let c1_i32_207 : BitVec 32 := 1#32
  ⟨c0_i32_205, v229, c1_i32_207⟩

@[reducible] def k0_t16_loop (v224 : BitVec 32) : Scf.Loop 32 :=
  let c0_i32_205 : BitVec 32 := 0#32
  let v225 : BitVec 32 := Scalar.subi v224 c0_i32_205
  let c1_i32_206 : BitVec 32 := 1#32
  let v227 : BitVec 32 := Scalar.divsi v225 c1_i32_206
  let v228 : BitVec 32 := Scalar.muli v227 c1_i32_206
  let v229 : BitVec 32 := Scalar.addi c0_i32_205 v228
  let v226 : BitVec 32 := Scalar.addi c0_i32_205 v225
  let c1_i32_208 : BitVec 32 := 1#32
  ⟨v229, v226, c1_i32_208⟩

def k0_chk24 (v224 : BitVec 32) : Prop :=
  ((k0_t15_loop v224).OK) ∧
  ((k0_t16_loop v224).OK)
theorem k0_t15_ok : ∀ (v224 : BitVec 32) (k0_hw24 : k0_chk24 v224), (k0_t15_loop v224).OK := fun v224 k0_hw24 => k0_hw24.1
theorem k0_t16_ok : ∀ (v224 : BitVec 32) (k0_hw24 : k0_chk24 v224), (k0_t16_loop v224).OK := fun v224 k0_hw24 => k0_hw24.2

def k0_off31 (d0 : Dev nD) (c_m2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v244 : BitVec 32 := Scalar.addi v2 c_m2_i32
  let c8_i32_236 : BitVec 32 := 8#32
  let v245 : BitVec 32 := Scalar.addi v244 c8_i32_236
  let c4_i32_237 : BitVec 32 := 4#32
  let v246 : BitVec 32 := Scalar.remsi v245 c4_i32_237
  let c1024_i32_242 : BitVec 32 := 1024#32
  let v249 : BitVec 32 := Scalar.muli v246 c1024_i32_242
  let v250 : Index := Scalar.indexCast v249
  let c0_243 : Index := 0#32
  ![v250.toNat, 0]
def k0_off31_at (r : Fin 4) : BitVec 32 :=
  if r.val < 2 then
    if r.val < 1 then
      4294967294#32
    else
      2#32
  else
    if r.val < 3 then
      4294967293#32
    else
      3#32
def k0_off32 (d0 : Dev nD) (c_m2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v244 : BitVec 32 := Scalar.addi v2 c_m2_i32
  let c8_i32_236 : BitVec 32 := 8#32
  let v245 : BitVec 32 := Scalar.addi v244 c8_i32_236
  let c4_i32_237 : BitVec 32 := 4#32
  let v246 : BitVec 32 := Scalar.remsi v245 c4_i32_237
  let c1024_i32_245 : BitVec 32 := 1024#32
  let v259 : BitVec 32 := Scalar.muli v246 c1024_i32_245
  let v260 : Index := Scalar.indexCast v259
  let c0_246 : Index := 0#32
  ![v260.toNat, 0]
def k0_off33 (d0 : Dev nD) (c2_i32_279 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v285 : BitVec 32 := Scalar.addi v2 c2_i32_279
  let c8_i32_280 : BitVec 32 := 8#32
  let v286 : BitVec 32 := Scalar.addi v285 c8_i32_280
  let c4_i32_281 : BitVec 32 := 4#32
  let v287 : BitVec 32 := Scalar.remsi v286 c4_i32_281
  let c1024_i32_289 : BitVec 32 := 1024#32
  let v300 : BitVec 32 := Scalar.muli v287 c1024_i32_289
  let v301 : Index := Scalar.indexCast v300
  let c1024_290 : Index := 1024#32
  ![v301.toNat, 1024]
def k0_dev7 (d0 : Dev nD) : Nat :=
  let c0_i32_305 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_304 : BitVec 32 := 1#32
  let v312 : BitVec 32 := Scalar.muli v7 c1_i32_304
  let v313 : BitVec 32 := Scalar.addi c0_i32_305 v312
  v313.toNat
def k0_dev8 (d0 : Dev nD) : Nat :=
  let c0_i32_319 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_318 : BitVec 32 := 1#32
  let v322 : BitVec 32 := Scalar.muli v5 c1_i32_318
  let v323 : BitVec 32 := Scalar.addi c0_i32_319 v322
  v323.toNat
def k0_off34 (d0 : Dev nD) (c_m3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v346 : BitVec 32 := Scalar.addi v2 c_m3_i32
  let c8_i32_351 : BitVec 32 := 8#32
  let v347 : BitVec 32 := Scalar.addi v346 c8_i32_351
  let c4_i32_352 : BitVec 32 := 4#32
  let v348 : BitVec 32 := Scalar.remsi v347 c4_i32_352
  let c1024_i32_366 : BitVec 32 := 1024#32
  let v373 : BitVec 32 := Scalar.muli v348 c1024_i32_366
  let c0_i32_368 : BitVec 32 := 0#32
  ![v373.toNat, 0]
def k0_off34_at (r : Fin 4) : BitVec 32 :=
  if r.val < 2 then
    if r.val < 1 then
      4294967293#32
    else
      1#32
  else
    if r.val < 3 then
      0#32
    else
      4294967295#32
def k0_off35 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v391 : BitVec 32 := Scalar.addi v2 c3_i32
  let c8_i32_398 : BitVec 32 := 8#32
  let v392 : BitVec 32 := Scalar.addi v391 c8_i32_398
  let c4_i32_399 : BitVec 32 := 4#32
  let v393 : BitVec 32 := Scalar.remsi v392 c4_i32_399
  let c1024_i32_413 : BitVec 32 := 1024#32
  let v418 : BitVec 32 := Scalar.muli v393 c1024_i32_413
  let c1024_i32_415 : BitVec 32 := 1024#32
  ![v418.toNat, 1024]
def k0_off35_at (r : Fin 4) : BitVec 32 :=
  if r.val < 2 then
    if r.val < 1 then
      3#32
    else
      4294967295#32
  else
    if r.val < 3 then
      0#32
    else
      1#32
def k0_dev9 (d0 : Dev nD) : Nat :=
  let c0_i32_443 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_442 : BitVec 32 := 1#32
  let v440 : BitVec 32 := Scalar.muli v7 c1_i32_442
  let v441 : BitVec 32 := Scalar.addi c0_i32_443 v440
  v441.toNat
def k0_dev10 (d0 : Dev nD) : Nat :=
  let c0_i32_455 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_454 : BitVec 32 := 1#32
  let v452 : BitVec 32 := Scalar.muli v5 c1_i32_454
  let v453 : BitVec 32 := Scalar.addi c0_i32_455 v452
  v453.toNat
def k0_dev11 (d0 : Dev nD) : Nat :=
  let c0_i32_497 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_496 : BitVec 32 := 1#32
  let v484 : BitVec 32 := Scalar.muli v7 c1_i32_496
  let v485 : BitVec 32 := Scalar.addi c0_i32_497 v484
  v485.toNat
def k0_dev12 (d0 : Dev nD) : Nat :=
  let c0_i32_509 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_508 : BitVec 32 := 1#32
  let v496 : BitVec 32 := Scalar.muli v5 c1_i32_508
  let v497 : BitVec 32 := Scalar.addi c0_i32_509 v496
  v497.toNat
def k0_dev13 (d0 : Dev nD) : Nat :=
  let c0_i32_551 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_550 : BitVec 32 := 1#32
  let v528 : BitVec 32 := Scalar.muli v7 c1_i32_550
  let v529 : BitVec 32 := Scalar.addi c0_i32_551 v528
  v529.toNat
def k0_dev14 (d0 : Dev nD) : Nat :=
  let c0_i32_563 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_562 : BitVec 32 := 1#32
  let v540 : BitVec 32 := Scalar.muli v5 c1_i32_562
  let v541 : BitVec 32 := Scalar.addi c0_i32_563 v540
  v541.toNat
abbrev stage0_0 : Fin 1 → Memref sig .tc .smem S4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S4 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S4 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096 : Shape := ⟨1, ![4096]⟩
abbrev S32768x2048 : Shape := ⟨2, ![32768, 2048]⟩
abbrev S_ : Shape := ⟨0, ![]⟩
abbrev S4096x1 : Shape := ⟨2, ![4096, 1]⟩
abbrev S4096x2048 : Shape := ⟨2, ![4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096, .i32⟩
  | .hbm, ⟨1, _⟩ => ⟨S32768x2048, .f32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S4096x2048, .f32⟩
  | .hbm, ⟨11, _⟩ => ⟨S4096x2048, .bf16⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.KernelIdeal.Proto.lean ====
/-
  The talk between the four devices, written down as a round schedule with contents.

  Device c (all arithmetic modulo four). Direction 0 sends to c+1, direction 1 sends to c+3.

  * barrier of c: two units, one from c+1 (duty 0) and one from c+3 (duty 1). The peer p in direction d hands over its
    three landing slots of direction d and the three chunks of its result that the gather will land in (half d), at
    contents not chosen, and that its receive cells of direction d have reached round 0. c waits both units once.
  * reduce-scatter step s, direction d (s = 0, 1, 2): c copies the running sum `A d s c` into slot (d, s) of the device in
    direction d. The send cell gives the source back; the receive cell gives slot (d, s) at `A d s` of the device before.
  * gather step h, direction d: c copies chunk `gc c d h`, half d, of its result, at its final value `Fn`, into the same
    place of the device in direction d. The send cell gives the source back, the receive cell gives the chunk landed.
-/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Rounds.Family
public import Idealize.ShloMosaic.Lib.Batch
public import Idealize.ShloMosaic.Lib.ValueIdxCore
public import Idealize.ShloMosaic.Lib.Scf
public import Idealize.ShloMosaic.Lib.LoopRemainder
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

/-! ## The resource algebra -/

abbrev UB : Type := URounds (GSem nD τ sig) (Fin 2)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb (U := UU)

/-! ## Devices and chunks -/

/-- The device (or chunk) k after c on the ring of four. -/
def sh (c : Dev nD) (k : ℕ) : Dev nD := ⟨(c.val + k) % 4, Nat.mod_lt _ (by decide)⟩
/-- The device direction d sends to, and the one it receives from. -/
def nx (d : Fin 2) (c : Dev nD) : Dev nD := sh c (![1, 3] d)
def pv (d : Fin 2) (c : Dev nD) : Dev nD := sh c (![3, 1] d)
/-- The chunk device c sends at gather step h of direction d. -/
def gc (c : Dev nD) (d : Fin 2) (h : Fin 3) : Dev nD := sh c ((![![1, 0, 3], ![3, 0, 1]] : Fin 2 → Fin 3 → ℕ) d h)
/-- The chunk device c adds to at reduce-scatter step s of direction d. -/
def rch (c : Dev nD) (d : Fin 2) (s : Fin 3) : Dev nD := sh c ((![![3, 2, 1], ![1, 2, 3]] : Fin 2 → Fin 3 → ℕ) d s)
/-- The device whose sum of half d of chunk k is the final one. -/
def own (k : Dev nD) (d : Fin 2) : Dev nD := sh k (![3, 1] d)

theorem pv_nx (d : Fin 2) (c : Dev nD) : pv d (nx d c) = c := by revert d c; decide
theorem nx_pv (d : Fin 2) (c : Dev nD) : nx d (pv d c) = c := by revert d c; decide

/-! ## Places -/

abbrev gM : Memref sig .tc .vmem S4096x2048 .f32 := Memref.whole cc0_scratch0
abbrev rM : Memref sig .tc .vmem S2x3x1024x1024 .bf16 := Memref.whole cc0_scratch1
abbrev aM : Memref sig .tc .vmem S2x1024x1024 .bf16 := Memref.whole cc0_scratch2
abbrev eM : Memref sig .tc .hbm S8192x2048 .f32 := Memref.whole main_arg1
abbrev oM : Memref sig .tc .hbm S4096x2048 .bf16 := Memref.whole main_v33

theorem slot_inb (d : Fin 2) (s : Fin 3) : ∀ a, (![d.val, s.val, 0, 0] : Fin 4 → ℕ) a + S1x1x1024x1024.size a ≤ S2x3x1024x1024.size a := by
  revert d s; decide +kernel
theorem acc_inb (d : Fin 2) : ∀ a, (![d.val, 0, 0] : Fin 3 → ℕ) a + S1x1024x1024.size a ≤ S2x1024x1024.size a := by
  revert d; decide +kernel
theorem chunk_inb (k : Dev nD) (d : Fin 2) : ∀ a, (![1024 * k.val, 1024 * d.val] : Fin 2 → ℕ) a + S1024x1024.size a ≤ S4096x2048.size a := by
  revert k d; decide +kernel
theorem rows_inb (k : Dev nD) : ∀ a, (![1024 * k.val, 0] : Fin 2 → ℕ) a + S1024x1.size a ≤ S4096x1.size a := by
  revert k; decide +kernel

abbrev slotR (d : Fin 2) (s : Fin 3) : Rect S2x3x1024x1024 := Rect.unit (s := S2x3x1024x1024) ![d.val, s.val, 0, 0] S1x1x1024x1024.size (slot_inb d s)
abbrev accR (d : Fin 2) : Rect S2x1024x1024 := Rect.unit (s := S2x1024x1024) ![d.val, 0, 0] S1x1024x1024.size (acc_inb d)
abbrev chunkR (k : Dev nD) (d : Fin 2) : Rect S4096x2048 := Rect.unit (s := S4096x2048) ![1024 * k.val, 1024 * d.val] S1024x1024.size (chunk_inb k d)
abbrev rowsR (k : Dev nD) : Rect S4096x1 := Rect.unit (s := S4096x1) ![1024 * k.val, 0] S1024x1.size (rows_inb k)

/-- Landing slot (d, s), running-sum buffer d, and half d of chunk k of the result. -/
abbrev slotM (d : Fin 2) (s : Fin 3) : Memref sig .tc .vmem S1024x1024 .bf16 :=
  (rM.slice (slotR d s) (fun _ => rfl)).squeeze S1024x1024 squeezes_S1x1x1024x1024_S1024x1024
abbrev accM (d : Fin 2) : Memref sig .tc .vmem S1024x1024 .bf16 :=
  (aM.slice (accR d) (fun _ => rfl)).squeeze S1024x1024 squeezes_S1x1024x1024_S1024x1024
abbrev outM (k : Dev nD) (d : Fin 2) : Memref sig .tc .hbm S1024x1024 .bf16 :=
  oM.slice (chunkR k d) (fun _ => rfl)

/-! ## Contents -/

section Contents

/-- The first row of device c's part of the table. -/
def baseW (c : Dev nD) : BitVec 32 := BitVec.ofNat 32 (8192 * c.val)

/-- One chunk's half masked to the tokens in the part starting at w, rounded. -/
def mskd (w : BitVec 32) (v25 : IVec S1024x1 32) (g : Vec F S1024x1024 .f32) : FVec F S1024x1024 .bf16 :=
  truncf .bf16 (select (broadcastTo S1024x1024 (shapeCast S1024x1 (andi (cmpi .sge (shapeCast S1024x1 v25 shapeCasts_S1024x1_S1024x1) (broadcast S1024x1 w))
    (cmpi .slt (shapeCast S1024x1 v25 shapeCasts_S1024x1_S1024x1) (broadcast S1024x1 (Scalar.addi w 8192#32)))) shapeCasts_S1024x1_S1024x1) broadcasts_S1024x1_S1024x1024)
    g (broadcast S1024x1024 (Scalar.ofBits .f32 0x00000000#32 : F .f32))) bitsLt_bf16_f32

variable (ids : Dev nD → Vec F S4096x1 .i32) (E : Dev nD → Vec F S8192x2048 .f32)

/-- Chunk k of the ids as device c holds them. -/
def idsAt (c k : Dev nD) : Vec F S1024x1 .i32 := fun i => ids c ((rowsR k).emb i)

/-- Token t is in device c's part of the table. -/
def Owned (x : BitVec 32) (c : Dev nD) : Prop := 8192 * (c.val : ℤ) ≤ x.toInt ∧ x.toInt < 8192 * (c.val : ℤ) + 8192

theorem rowIx_lt (x : ℤ) (c : Dev nD) : (x - 8192 * (c.val : ℤ)).toNat % 8192 < 8192 := Nat.mod_lt _ (by decide)

/-- What the gather leaves at (row, column): the table row of the token, wherever it is in the device's part. -/
def gath (c : Dev nD) : Vec F S4096x2048 .f32 := fun i =>
  E c (ix2 ⟨((ids c (ix2 (i 0) 0) : BitVec 32).toInt - 8192 * (c.val : ℤ)).toNat % 8192, rowIx_lt _ c⟩ (i 1))

/-- Device c's share of half d of chunk k. -/
def X (c k : Dev nD) (d : Fin 2) : FVec F S1024x1024 .bf16 :=
  mskd (baseW c) (idsAt ids c k) (fun i => gath ids E c ((chunkR k d).emb i))

/-- The running sum device c holds in direction d before reduce-scatter step s; after three steps the final sum. -/
def A (d : Fin 2) : ℕ → Dev nD → FVec F S1024x1024 .bf16
  | 0, c => X ids E c c d
  | s + 1, c => addf (A d s (pv d c)) (X ids E c (rch c d (Fin.ofNat 3 s)) d)

/-- The final value of half d of chunk k. -/
def Fn (k : Dev nD) (d : Fin 2) : FVec F S1024x1024 .bf16 := A ids E d 3 (own k d)

end Contents

/-! ## Cells -/

abbrev barS : Sem sig := sig.barrier 0 rfl
abbrev barCell (c : Dev nD) : GSem nD τ sig := ((c : Thread nD τ), .reg barS)
/-- Kind 0: reduce-scatter send, 1: reduce-scatter receive, 2: gather send, 3: gather receive. -/
def qix (k : Fin 4) (d : Fin 2) (s : Fin 3) : DmaSem sig := ⟨10 + 6 * k.val + 3 * d.val + s.val, by
  have := k.isLt; have := d.isLt; have := s.isLt; show _ < 34; omega⟩
abbrev cell (k : Fin 4) (d : Fin 2) (s : Fin 3) (c : Dev nD) : GSem nD τ sig := ((c : Thread nD τ), .dma (qix k d s))

/-- The credit of one half-chunk. -/
@[irreducible] def N : ℕ := (outM 0 0).view.dmaCredit
theorem N_pos : 0 < N := by unfold N; exact View.dmaCredit_pos _ (by decide)

/-! ## Payloads and the schedule -/

abbrev anyOwn {sp : Space} {sh : Shape} {e : EltTy} (c : Dev nD) (m : Memref sig .tc sp sh e) : sProp 𝕄 :=
  iprop(∃ X, owns (c : Thread nD τ) m fullShare X)

/-- What the peer p lends for step s of direction d: its landing slot, the chunk `k` of its result, and that round 0 of its two
    receive cells is reached. -/
def lend (p : Dev nD) (d : Fin 2) (s : Fin 3) (k : Dev nD) : sProp 𝕄 :=
  iprop(anyOwn p (slotM d s) ∗ anyOwn p (outM k d) ∗ reached ER (cell 1 d s p) 0 ∗ reached ER (cell 3 d s p) 0)

def barPay (c : Dev nD) (d : Fin 2) : sProp 𝕄 :=
  iprop(lend (nx d c) d 0 (gc c d 0) ∗ lend (nx d c) d 1 (gc c d 1) ∗ lend (nx d c) d 2 (gc c d 2))

variable (ids : Dev nD → Vec F S4096x1 .i32) (E : Dev nD → Vec F S8192x2048 .f32)

/-- Where step s of the reduce-scatter sends from. -/
def srcPay (c : Dev nD) (d : Fin 2) (s : Fin 3) (X : FVec F S1024x1024 .bf16) : sProp 𝕄 :=
  match s with
  | 0 => owns (c : Thread nD τ) (accM d) fullShare X
  | 1 => owns (c : Thread nD τ) (slotM d 0) fullShare X
  | 2 => owns (c : Thread nD τ) (slotM d 1) fullShare X

def dmaPay (c : Dev nD) (k : Fin 4) (d : Fin 2) (s : Fin 3) : sProp 𝕄 :=
  match k with
  | 0 => srcPay c d s (A ids E d s.val c)
  | 1 => owns (c : Thread nD τ) (slotM d s) fullShare (A ids E d s.val (pv d c))
  | 2 => owns (c : Thread nD τ) (outM (gc c d s) d) fullShare (Fn ids E (gc c d s) d)
  | 3 => owns (c : Thread nD τ) (outM (gc (pv d c) d s) d) fullShare (Fn ids E (gc (pv d c) d s) d)

instance barPay_storable (c : Dev nD) (d : Fin 2) : BI.Storable (upEmb : UEmb _ 𝕄) (barPay (F := F) c d) := by
  unfold barPay lend anyOwn; infer_instance
instance dmaPay_storable (c : Dev nD) (k : Fin 4) (d : Fin 2) (s : Fin 3) : BI.Storable (upEmb : UEmb _ 𝕄) (dmaPay ids E c k d s) := by
  unfold dmaPay srcPay
  (repeat' split) <;> infer_instance

def decK (q : DmaSem sig) : Fin 4 := Fin.ofNat 4 ((q.val - 10) / 6)
def decD (q : DmaSem sig) : Fin 2 := Fin.ofNat 2 ((q.val - 10) % 6 / 3)
def decS (q : DmaSem sig) : Fin 3 := Fin.ofNat 3 ((q.val - 10) % 3)
theorem decK_qix (k : Fin 4) (d : Fin 2) (s : Fin 3) : decK (qix k d s) = k := by revert k d s; decide
theorem decD_qix (k : Fin 4) (d : Fin 2) (s : Fin 3) : decD (qix k d s) = d := by revert k d s; decide
theorem decS_qix (k : Fin 4) (d : Fin 2) (s : Fin 3) : decS (qix k d s) = s := by revert k d s; decide

def payOf (c : Dev nD) (d : Fin 2) : SemLoc sig → sProp 𝕄
  | .reg _ => barPay c d
  | .dma q => dmaPay ids E c (decK q) (decD q) (decS q)
def amtAt (n : ℕ) : SemLoc sig → ℕ
  | .reg _ => 1
  | .dma _ => n
theorem amtAt_pos (n : ℕ) (hn : 0 < n) (sm : SemLoc sig) : 0 < amtAt n sm := by
  cases sm with
  | reg _ => exact Nat.one_pos
  | dma _ => exact hn
theorem amtAt_dma (n : ℕ) (q : DmaSem sig) : amtAt n (.dma q) = n := rfl
def amtOf : SemLoc sig → ℕ := amtAt N
def dutOf : SemLoc sig → Finset (Fin 2)
  | .reg b => if b = barS then Finset.univ else ∅
  | .dma q => if 10 ≤ q.val then {0} else ∅

theorem amtOf_pos (sm : SemLoc sig) : 0 < amtOf sm := amtAt_pos N N_pos sm

def rd : Rounds.Schedule (GSem nD τ sig) (Fin 2) 𝕄 where
  duties g r := if r = 0 ∧ g.1.2 = .tc then dutOf g.2 else ∅
  unitless _ := False
  amount g _ _ := amtOf g.2
  payload g _ d := payOf ids E g.1.1 d g.2
  amount_pos g _ _ _ := amtOf_pos g.2

instance rd_payload_storable (g : GSem nD τ sig) (r : ℕ) (d : Fin 2) :
    BI.Storable (upEmb : UEmb _ 𝕄) ((rd ids E).payload g r d) := by
  show BI.Storable upEmb (payOf ids E g.1.1 d g.2)
  unfold payOf
  split <;> infer_instance

theorem amount_eq (g : GSem nD τ sig) (r : ℕ) (u : Fin 2) : (rd ids E).amount g r u = amtAt N g.2 := rfl

section Sched

variable (c : Dev nD) (k : Fin 4) (d : Fin 2) (s : Fin 3)

theorem duties_bar : (rd ids E).duties (barCell c) 0 = Finset.univ := by
  dsimp only [rd]; rw [if_pos ⟨rfl, rfl⟩]; unfold dutOf; exact if_pos rfl
theorem duties_cell : (rd ids E).duties (cell k d s c) 0 = {0} := by
  dsimp only [rd]; rw [if_pos ⟨rfl, rfl⟩]
  exact if_pos (by show 10 ≤ 10 + 6 * k.val + 3 * d.val + s.val; omega)
theorem duties_later (g : GSem nD τ sig) : ∀ r, 1 ≤ r → (rd ids E).duties g r = ∅ :=
  fun r hr => by dsimp only [rd]; rw [if_neg (fun h => by omega)]
theorem expect_bar : (rd ids E).expect (barCell c) 0 = 2 := by
  unfold Schedule.expect Schedule.amountOf; rw [duties_bar]; rfl
theorem amount_cell (r : ℕ) (u : Fin 2) : (rd ids E).amount (cell k d s c) r u = N :=
  (amount_eq ids E _ r u).trans (amtAt_dma N (qix k d s))
theorem expect_cell : (rd ids E).expect (cell k d s c) 0 = N := by
  unfold Schedule.expect Schedule.amountOf
  rw [duties_cell, Finset.sum_singleton]
  exact amount_cell ids E c k d s 0 0
theorem payload_bar : (rd ids E).payload (barCell c) 0 d = barPay c d := rfl
theorem payload_cell (u : Fin 2) : (rd ids E).payload (cell k d s c) 0 u = dmaPay ids E c k d s := by
  show dmaPay ids E c (decK (qix k d s)) (decD (qix k d s)) (decS (qix k d s)) = _
  rw [decK_qix, decD_qix, decS_qix]
theorem rest_bar : bigSep ((rd ids E).duties (barCell c) 0 \ ∅) (fun u => (rd ids E).payload (barCell c) 0 u) = iprop(barPay c 0 ∗ barPay c 1) := by
  rw [Finset.sdiff_empty, duties_bar, BI.bigSep_fin_two]; rfl
theorem rest_cell : bigSep ((rd ids E).duties (cell k d s c) 0 \ ∅) (fun u => (rd ids E).payload (cell k d s c) 0 u) = dmaPay ids E c k d s := by
  rw [Finset.sdiff_empty, duties_cell, bigSep_singleton, payload_cell]

end Sched

/-! ## What is owed, and the levels -/

/-- One cell and the amount owed to it, in the order a device pays. -/
abbrev Due : Type := GSem nD τ sig × ℕ
def oweL : List Due → CellTallies nD τ sig Unit
  | [] => 0
  | p :: l => oweL l + tallyAt p.1 () p.2

def dueR (c : Dev nD) (k : Fin 4) (d : Fin 2) (s : Fin 3) : Due := (cell k d s (nx d c), N)
/-- The fourteen payments of device c. -/
def dues (c : Dev nD) : List Due :=
  [(barCell (pv 0 c), 1), (barCell (pv 1 c), 1), dueR c 1 0 0, dueR c 1 1 0, dueR c 1 0 1, dueR c 1 1 1, dueR c 1 0 2, dueR c 1 1 2,
    dueR c 3 0 0, dueR c 3 1 0, dueR c 3 0 1, dueR c 3 1 1, dueR c 3 0 2, dueR c 3 1 2]

def L (g : GSem nD τ sig) : Finset Unit := if g.1.2 = .tc then {()} else ∅
def lvS : SemLoc sig → ℕ
  | .reg _ => 1
  | .dma q => if q.val < 16 then 0 else if q.val < 22 then 2 + (q.val - 16) % 3 else if q.val < 28 then 0 else 5 + (q.val - 28) % 3
def lv (g : GSem nD τ sig) (_ : Unit) : ℕ := lvS g.2
theorem L_of_ne (g : GSem nD τ sig) (h : g.1.2 ≠ .tc) : L g = ∅ := if_neg h
theorem L_tc (c : Dev nD) (sm : SemLoc sig) : L ((c : Thread nD τ), sm) = {()} := if_pos rfl

theorem oweL_pos (l : List Due) (g : GSem nD τ sig) (u : Unit) (h : 0 < oweL l g u) : ∃ p ∈ l, p.1 = g := by
  induction l with
  | nil => exact absurd h (Nat.lt_irrefl 0)
  | cons p l ih =>
    have h' : 0 < oweL l g u + tallyAt p.1 () p.2 g u := h
    by_cases e : p.1 = g
    · exact ⟨p, List.mem_cons_self .., e⟩
    · rw [tallyAt_apply, if_neg (fun hh => e hh.1.symm), Nat.add_zero] at h'
      obtain ⟨q, hq, hq'⟩ := ih h'
      exact ⟨q, List.mem_cons_of_mem _ hq, hq'⟩

/-- A wait on a cell is allowed while everything still owed lies on TensorCore cells of a higher level. -/
theorem mayWait (c : Dev nD) (sm : SemLoc sig) (l : List Due) (h : ∀ p ∈ l, p.1.1.2 = .tc ∧ lvS sm < lvS p.1.2) :
    (levAts L lv : sProp 𝕄) ⊢ MayWait (c : Thread nD τ) sm () (oweL l) :=
  MayOwe.of_cut (L := L) (lev := lv) (lvS sm) (fun p hp => by rw [Finset.mem_singleton.mp hp, L_tc]; exact Finset.mem_singleton_self _)
    (fun g u hg => by
      obtain ⟨p, hp, rfl⟩ := oweL_pos l g u hg
      unfold L; rw [if_pos (h p hp).1]; exact Finset.mem_singleton_self _)
    (fun p hp => by rw [Finset.mem_singleton.mp hp]; exact le_refl _)
    (fun g u hg => by
      obtain ⟨p, hp, rfl⟩ := oweL_pos l g u hg
      exact (h p hp).2)

/-! ## The invariants -/

/-- All invariants of the talk, at the names K. Persistent. -/
def invs (K : GSem nD τ sig → ℕ) : sProp 𝕄 :=
  iprop(bigSep (Finset.univ : Finset (Dev nD)) (fun c => cellInv ER (rd ids E) (K (barCell c)) (barCell c))
    ∗ bigSep (Finset.univ : Finset (Dev nD × Fin 4 × Fin 2 × Fin 3)) (fun p => cellInv ER (rd ids E) (K (cell p.2.1 p.2.2.1 p.2.2.2 p.1)) (cell p.2.1 p.2.2.1 p.2.2.2 p.1)))

instance invs_persistent (K : GSem nD τ sig → ℕ) : BI.Persistent (invs ids E K) := by unfold invs; infer_instance

theorem invs_bar (K : GSem nD τ sig → ℕ) (c : Dev nD) : invs ids E K ⊢ cellInv ER (rd ids E) (K (barCell c)) (barCell c) := by
  unfold invs
  exact BI.sep_and.trans (and_elimL.trans (BI.bigSep_elim (Φ := fun c => cellInv ER (rd ids E) (K (barCell c)) (barCell c)) (Finset.mem_univ c)))
theorem invs_cell (K : GSem nD τ sig → ℕ) (k : Fin 4) (d : Fin 2) (s : Fin 3) (c : Dev nD) :
    invs ids E K ⊢ cellInv ER (rd ids E) (K (cell k d s c)) (cell k d s c) := by
  unfold invs
  exact BI.sep_and.trans (and_elimR.trans (BI.bigSep_elim
    (Φ := fun p : Dev nD × Fin 4 × Fin 2 × Fin 3 => cellInv ER (rd ids E) (K (cell p.2.1 p.2.2.1 p.2.2.2 p.1)) (cell p.2.1 p.2.2.1 p.2.2.2 p.1))
    (Finset.mem_univ (c, k, d, s))))

end Cert.KernelIdeal.Run
-- ==== Proof.KernelIdeal.Rules.lean ====
/-
  The steps of the talk and of the stores between them, each as one theorem in continuation style over the schedule of Proto.
-/
module

public import proofs.«01_k».proof.Proof.KernelIdeal.Proto
public import Idealize.ShloMosaic.Lib.Pipeline.Value

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

local notation "𝕄" => MT nD τ sig Unit (Elt F) ℕ UU ℕ

abbrev 𝒱₀ : Variants := Variants.none
abbrev P (α : Type) : Type 1 := Prog (TpuEff nD τ sig (Elt F) Λ₀ .tc) α

/-- A program of device c's core, from here to its end. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What device c still owes, whatever it has waited. -/
def owesL (c : Dev nD) (l : List Due) : sProp 𝕄 := iprop(∃ W, owes (c : Thread nD τ) (oweL l) W)

section Talk

variable (ids : Dev nD → Vec F S4096x1 .i32) (E : Dev nD → Vec F S8192x2048 .f32) (K : GSem nD τ sig → ℕ)

/-- A remote copy of a half-chunk at X: it pays the next due, and both payloads hold what was sent. -/
theorem wp_send {α : Type} (c : Dev nD) (ks kv : Fin 4) (d : Fin 2) (s : Fin 3) (l : List Due) {sp sp' : Space}
    {src : Memref sig .tc sp S1024x1024 .bf16} {dst : Memref sig .tc sp' S1024x1024 .bf16} {hsc : dst.view.ref.isScScratch = false}
    {c' : Dev nD} {sS sV : DmaSem sig} (hc : c' = nx d c) (hS : sS = qix ks d s) (hV : sV = qix kv d s) (hN : dst.view.dmaCredit = N)
    {hsrc : src.view.WordExact} {hdst : dst.view.WordExact} {hsem : DmaTarget.Typed sp (.dma sV) (.remote (c' : Thread nD τ) dst (.dma sS) hsc)}
    (X : FVec F S1024x1024 .bf16)
    (hp₁ : owns (c : Thread nD τ) src fullShare X ⊢ (dmaPay ids E c ks d s : sProp 𝕄))
    (hp₂ : owns (nx d c : Thread nD τ) dst fullShare X ⊢ (dmaPay ids E (nx d c) kv d s : sProp 𝕄))
    {k : PUnit → Prog (TpuEff nD τ sig (Elt F) Λ₀ .tc) α} {Q : α → sProp 𝕄} :
    iprop(invs ids E K ∗ owns (c : Thread nD τ) src fullShare X ∗ anyOwn (nx d c) dst ∗ owesL c ((cell kv d s (nx d c), N) :: l)
        ∗ dutyTok ER (cell ks d s c) 0 0 ∗ reached ER (cell ks d s c) 0 ∗ dutyTok ER (cell kv d s (nx d c)) 0 0 ∗ reached ER (cell kv d s (nx d c)) 0)
      ⊢ iprop(((cred (tallyAt (cell ks d s c) () N) ∗ owesL c l) -∗ wpc c (k ⟨⟩) Q)
        -∗ wpc c (.op (.enqueueDma src (.remote (c' : Thread nD τ) dst (.dma sS) hsc) (.dma sV) hsrc hdst hsem) k) Q) := by
  subst hc hS hV
  unfold owesL
  iintro ⟨#HI, Hs, Hd, ⟨%W, HO⟩, Ht1, #Hr1, Ht2, #Hr2⟩
  unfold anyOwn owns
  icases Hs with ⟨%fs, %hfs, Hs⟩
  icases Hd with ⟨%Y, %fd, -, Hd⟩
  iintro Hk
  iapply (Rounds.wp_send_pointsTo 𝒱₀ ER (rd ids E) (c : Thread nD τ) none (c' := (nx d c : Thread nD τ)) (src := src) (dst := dst)
      (sS := .dma (qix ks d s)) (sem := .dma (qix kv d s)) (q := fullShare) (fs := fs) (κ₁ := K (cell ks d s c)) (κ₂ := K (cell kv d s (nx d c)))
      (r₁ := 0) (r₂ := 0) (d₁ := 0) (d₂ := 0) (fd := fd)
      (by rw [duties_cell]; exact Finset.mem_singleton_self _) (by rw [duties_cell]; exact Finset.mem_singleton_self _)
      () () N hN (amount_cell ids E c ks d s 0 0) (amount_cell ids E (nx d c) kv d s 0 0) (oweL l) rfl (W := W)
      (by rw [payload_cell]; refine BI.Entails.trans ?_ hp₁; rw [← hfs]; exact owns_intro _ _ _ _)
      (by rw [payload_cell]; refine BI.Entails.trans ?_ hp₂
          refine (owns_intro _ _ _ _).trans ?_
          rw [View.read_write_univ, hfs])) $$ [Hs Hd HO Ht1 Ht2]
  · isplitr; · iapply (invs_cell ids E K ks d s c); iexact HI
    isplitr; · iapply (invs_cell ids E K kv d s (nx d c)); iexact HI
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- The wait for one half-chunk on a cell of the talk. -/
theorem wp_wait {α : Type} (c : Dev nD) (kk : Fin 4) (d : Fin 2) (s : Fin 3) (l : List Due) {sp sp' : Space} {sh sh' : Shape} {e : EltTy}
    {src : Memref sig .tc sp sh e} {dst : Memref sig .tc sp' sh' e} {sem : DmaSem sig} (hS : sem = qix kk d s) (hN : dst.view.dmaCredit = N)
    (hl : ∀ p ∈ l, p.1.1.2 = .tc ∧ lvS (.dma (qix kk d s)) < lvS p.1.2)
    {hsrc : src.view.WordExact} {hdst : dst.view.WordExact}
    {k : PUnit → Prog (TpuEff nD τ sig (Elt F) Λ₀ .tc) α} {Q : α → sProp 𝕄} :
    iprop(invs ids E K ∗ levAts L lv ∗ cred (tallyAt (cell kk d s c) () N) ∗ owesL c l ∗ atPos ER (cell kk d s c) 0 ∅ 0)
      ⊢ iprop(((owesL c l ∗ atPos ER (cell kk d s c) 1 ∅ 0 ∗ dmaPay ids E c kk d s) -∗ wpc c (k ⟨⟩) Q)
        -∗ wpc c (.op (.waitDma2 sem src dst hsrc hdst) k) Q) := by
  subst hS
  unfold owesL
  iintro ⟨#HI, #Hlev, Hc, ⟨%W, HO⟩, Hat⟩
  iintro Hk
  iapply (Rounds.wp_wait_rest_token 𝒱₀ ER (rd ids E) (c : Thread nD τ) none (κ := K (cell kk d s c))
      (wpE_waitDma2_eq 𝒱₀ (c : Thread nD τ) none Set.univ) (Set.mem_univ _) () (O := oweL l) (W := W) (R := 0) (m := 0) (T := ∅)
      (by rw [Nat.zero_add, expect_cell]; exact hN)) $$ [Hc HO Hat]
  · isplitr; · iapply (invs_cell ids E K kk d s c); iexact HI
    isplitl [Hc]; · rw [hN]; iexact Hc
    isplitl [HO]; · iexact HO
    isplitr; · iapply (mayWait c _ l hl); iexact Hlev
    iexact Hat
  iintro ⟨HO, Hat, -, Hpay⟩
  ihave Hp := (Entails.of_eq (rest_cell ids E c kk d s)) $$ Hpay
  iapply Hk
  isplitl [HO]; · iexists _; iexact HO
  isplitl [Hat]; · iexact Hat
  iexact Hp

/-- The signal of the barrier of c', the device that sends to c in direction d: c lends it its landing places of direction d. -/
theorem wp_signalBar {α : Type} (c : Dev nD) (d : Fin 2) (l : List Due) {c' : Dev nD} (hc : c' = pv d c)
    {k : PUnit → Prog (TpuEff nD τ sig (Elt F) Λ₀ .tc) α} {Q : α → sProp 𝕄} :
    iprop(invs ids E K ∗ owesL c ((barCell (pv d c), 1) :: l) ∗ dutyTok ER (barCell (pv d c)) 0 d ∗ barPay (pv d c) d ∗ reached ER (barCell (pv d c)) 0)
      ⊢ iprop((owesL c l -∗ wpc c (k ⟨⟩) Q)
        -∗ wpc c (.op (.semSignal (Dev.tc c') barS 1) k) Q) := by
  subst hc
  unfold owesL
  iintro ⟨#HI, ⟨%W, HO⟩, Ht, Hp, #Hr⟩
  iintro Hk
  iapply (Rounds.wp_signal 𝒱₀ ER (rd ids E) (c : Thread nD τ) none (dst := (pv d c : Thread nD τ)) (sem := barS) (r := 0) (d := d) (κ := K (barCell (pv d c)))
      (by rw [duties_bar]; exact Finset.mem_univ _) rfl () (oweL l) rfl (W := W))
    $$ [HO Ht Hp]
  · isplitr; · iapply (invs_bar ids E K (pv d c)); iexact HI
    isplitl [HO]; · iexact HO
    isplitl [Ht]; · iexact Ht
    isplitl [Hp]; · rw [payload_bar]; iexact Hp
    iexact Hr
  iintro HO
  iapply Hk
  iexists W; iexact HO

/-- The wait for both neighbours. -/
theorem wp_waitBar {α : Type} (c : Dev nD) (l : List Due) (hl : ∀ p ∈ l, p.1.1.2 = .tc ∧ lvS (.reg barS) < lvS p.1.2)
    {k : PUnit → Prog (TpuEff nD τ sig (Elt F) Λ₀ .tc) α} {Q : α → sProp 𝕄} :
    iprop(invs ids E K ∗ levAts L lv ∗ cred (tallyAt (barCell c) () 2) ∗ owesL c l ∗ atPos ER (barCell c) 0 ∅ 0)
      ⊢ iprop(((owesL c l ∗ atPos ER (barCell c) 1 ∅ 0 ∗ barPay c 0 ∗ barPay c 1) -∗ wpc c (k ⟨⟩) Q)
        -∗ wpc c (.op (.semWait barS 2) k) Q) := by
  unfold owesL
  iintro ⟨#HI, #Hlev, Hc, ⟨%W, HO⟩, Hat⟩
  iintro Hk
  iapply (Rounds.wp_wait_rest_token 𝒱₀ ER (rd ids E) (c : Thread nD τ) none (κ := K (barCell c))
      (wpE_semWait_eq 𝒱₀ (c : Thread nD τ) none Set.univ) (Set.mem_univ _) () (O := oweL l) (W := W) (R := 0) (m := 0) (T := ∅)
      ((Nat.zero_add _).trans (expect_bar ids E c).symm)) $$ [Hc HO Hat]
  · isplitr; · iapply (invs_bar ids E K c); iexact HI
    isplitl [Hc]; · iexact Hc
    isplitl [HO]; · iexact HO
    isplitr; · iapply (mayWait c _ l hl); iexact Hlev
    iexact Hat
  iintro ⟨HO, Hat, -, Hpay⟩
  ihave Hp := (Entails.of_eq (rest_bar ids E c)) $$ Hpay
  iapply Hk
  isplitl [HO]; · iexists _; iexact HO
  isplitl [Hat]; · iexact Hat
  iexact Hp

end Talk

/-! ## Loads and stores through a squeezed slot -/

/-- A load of a slot, at what the slot holds. -/
theorem wp_loadSlot {α : Type} (c : Dev nD) {cs : CoreSpace} {s s' : Shape} {e : EltTy} {m : Memref sig .tc cs s e} {r : Rect s} (h : ∀ a, r.stride a = 1)
    (hq : r.shape.Squeezes s') (hcast : s'.ShapeCasts r.shape) {hl : m.view.LoadsAt r} {q : PosShare TreeShare} (X : s'.Idx → Elt F e)
    {k : (r.shape.Idx → Elt F e) → Prog (TpuEff nD τ sig (Elt F) Λ₀ .tc) α} {Q : α → sProp 𝕄} :
    (owns (c : Thread nD τ) ((m.slice r h).squeeze s' hq) q X : sProp 𝕄)
      ⊢ iprop((owns (c : Thread nD τ) ((m.slice r h).squeeze s' hq) q X -∗ wpc c (k (shapeCast r.shape X hcast)) Q)
        -∗ wpc c (.op (.load m r hl) k) Q) := by
  unfold owns
  iintro ⟨%f, %hf, H⟩ Hk
  have hset : ((m.slice r h).squeeze s' hq).view.set = (m.access r).set := Memref.set_view_squeeze _ _
  have hv : (m.access r).read (Elt F) f = shapeCast r.shape X hcast := by
    rw [← hf]
    have : ((m.slice r h).squeeze s' hq).view.read (Elt F) f = shapeCast s' ((m.access r).read (Elt F) f) hq.numel_eq := rfl
    rw [this, shapeCast_shapeCast]
  iapply (wp_load_rect 𝒱₀ (c : Thread nD τ) none Set.univ (m := m) (r := r) (S := ((m.slice r h).squeeze s' hq).view.set) (f := f) (q := q) (le_of_eq hset.symm)) $$ [H]
  · iexact H
  rw [hv]
  iintro H
  iapply Hk
  iexists f
  isplitr; · ipureintro; exact hf
  iexact H

/-- A store of a whole slot. -/
theorem wp_storeSlot {α : Type} (c : Dev nD) {cs : CoreSpace} {s s' : Shape} {e : EltTy} {m : Memref sig .tc cs s e} {r : Rect s} (h : ∀ a, r.stride a = 1)
    (hq : r.shape.Squeezes s') (w : r.shape.Idx → Elt F e) {hx : (m.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    (anyOwn c ((m.slice r h).squeeze s' hq) : sProp 𝕄)
      ⊢ iprop((owns (c : Thread nD τ) ((m.slice r h).squeeze s' hq) fullShare (shapeCast s' w hq.numel_eq) -∗ wpc c (k ⟨⟩) Q)
        -∗ wpc c (.op (.store m r w Finset.univ hx hm) k) Q) := by
  unfold anyOwn owns
  iintro ⟨%Y, %f, -, H⟩ Hk
  have hset : ((m.slice r h).squeeze s' hq).view.set = (m.access r).set := Memref.set_view_squeeze _ _
  iapply (wp_store 𝒱₀ (c : Thread nD τ) none Set.univ (m := m) (r := r) (w := w) (Mk := Finset.univ) (S := ((m.slice r h).squeeze s' hq).view.set) (f := f)
    (le_of_eq hset.symm)) $$ [H]
  · iexact H
  iintro H
  iapply Hk
  iexists _
  isplitr
  · ipureintro
    show shapeCast s' ((m.access r).read (Elt F) ((m.access r).write (Elt F) f w Finset.univ)) hq.numel_eq = _
    rw [View.read_write_univ]
  iexact H

end Cert.KernelIdeal.Run
-- ==== Proof.KernelIdeal.Gather.lean ====
/-
  The counted loops that move the table's rows: one issue loop and one drain loop, over any group, and what a group leaves.
-/
module

public import proofs.«01_k».proof.Proof.KernelIdeal.Rules
public import Idealize.ShloMosaic.Lib.Ring

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

local notation "𝕄" => MT nD τ sig Unit (Elt F) ℕ UU ℕ

/-! ## The loops' words -/

theorem toInt_ofNat_lt {n : ℕ} (h : n < 2 ^ 31) : (BitVec.ofNat 32 n).toInt = n := by
  rw [BitVec.toInt_eq_toNat_cond, BitVec.toNat_ofNat]
  have : n % 2 ^ 32 = n := Nat.mod_eq_of_lt (by omega)
  rw [this]; split <;> omega

theorem loop_ub (n : ℕ) : (k0_t1_loop (BitVec.ofNat 32 n)).ub = BitVec.ofNat 32 n := by
  show Scalar.addi 0#32 (Scalar.muli (Scalar.divsi (Scalar.subi (BitVec.ofNat 32 n) 0#32) 1#32) 1#32) = _
  rw [Scalar.muli_divsi_one]
  simp [Scalar.addi, Scalar.subi, IntOp.addi, IntOp.subi]

theorem loop_trips {n : ℕ} (h : n ≤ 4096) : (k0_t1_loop (BitVec.ofNat 32 n)).trips = n := by
  show Scf.trips 0#32 (k0_t1_loop (BitVec.ofNat 32 n)).ub 1#32 = n
  rw [loop_ub]; unfold Scf.trips
  rw [toInt_ofNat_lt (by omega)]
  simp

theorem off1_eq {p n : ℕ} (h : p + n ≤ 4096) (t : Fin (k0_t1_loop (BitVec.ofNat 32 n)).trips) :
    k0_off1 (BitVec.ofNat 32 p) (BitVec.ofNat 32 n) t = ![p + t.val] := by
  have ht : t.val < n := lt_of_lt_of_eq t.isLt (loop_trips (by omega))
  show ![(Scalar.addi (BitVec.ofNat 32 p) (Scf.iv 0#32 1#32 t)).toNat] = _
  congr 1
  simp [Scalar.addi, IntOp.addi, Scf.iv, Scalar.indexCast]
  try omega

theorem chk1_of {p n : ℕ} (h : p + n ≤ 4096) : k0_chk1 (BitVec.ofNat 32 p) (BitVec.ofNat 32 n) := by
  refine ⟨?_, ?_, ?_, ?_⟩
  · refine ⟨(by decide : 0 < (1#32 : BitVec 32).toInt), ?_⟩
    show (0#32 : BitVec 32).toInt + (k0_t1_loop (BitVec.ofNat 32 n)).trips * (1#32 : BitVec 32).toInt < _
    rw [loop_trips (by omega)]
    simp; omega
  · intro t a
    have ht : t.val < n := lt_of_lt_of_eq t.isLt (loop_trips (by omega))
    rw [off1_eq h]
    match a with
    | ⟨0, _⟩ => show p + t.val + 1 ≤ 4096; omega
  · exact Scf.rem_ok _ _
  · intro t; exact absurd t.isLt (by
      have : (k0_t2_loop (BitVec.ofNat 32 n)).trips = 0 := Scf.rem_trips _ _
      omega)

theorem chk6_of {n : ℕ} (h : n ≤ 4096) : k0_chk6 (BitVec.ofNat 32 n) := by
  have := chk1_of (p := 0) (n := n) (by omega)
  exact ⟨this.1, this.2.2.1⟩

theorem off2_eq (v : BitVec 32) : k0_off2 v = ![v.toNat, 0] := rfl
theorem off3_eq (v : BitVec 32) : k0_off3 v = ![v.toNat, 0] := rfl
theorem chk2_of {v : BitVec 32} (h : v.toNat < 4096) : k0_chk2 v := by
  intro a; rw [off2_eq]
  match a with
  | ⟨0, _⟩ => show v.toNat + 1 ≤ 4096; omega
  | ⟨1, _⟩ => show 0 + 2048 ≤ 2048; omega
theorem chk3_of {v : BitVec 32} (h : v.toNat < 8192) : k0_chk3 v := by
  intro a; rw [off3_eq]
  match a with
  | ⟨0, _⟩ => show v.toNat + 1 ≤ 8192; omega
  | ⟨1, _⟩ => show 0 + 2048 ≤ 2048; omega

/-- A program that has returned. -/
theorem wpc_ret {α : Type} (c : Dev nD) (a : α) (Q : α → sProp 𝕄) : Q a ⊢ wpc c (Prog.ret a) Q := by
  unfold wpc
  rw [wp_ret]
  exact BI.fupd_intro

/-! ## The trips -/

/-- The gather semaphore of group o. -/
def gsem (o : Fin 4) : DmaSem sig := ⟨5 + o.val, by have := o.isLt; show _ < 34; omega⟩

/-- One trip of an issue loop: the row copy named by the two words at the offset. -/
def issueTrip (arg0 arg1 : Memref sig .tc .smem S4096 .i32) (q : DmaSem sig) (off : Fin 1 → ℕ) (hoff : ∀ a, off a + S1.size a ≤ S4096.size a) :
    Prog (TpuEff nD τ sig (Elt F) Λ₀ .tc) Unit :=
  smemLoad arg0 (Rect.unit (s := S4096) off S1.size hoff) numel1_S1 rfl >>= fun v570 : Elt F .i32 =>
  .op (.assume (k0_chk2 v570) (k0_chk2.dec v570)) fun h2 =>
  smemLoad arg1 (Rect.unit (s := S4096) off S1.size hoff) numel1_S1 rfl >>= fun v573 : Elt F .i32 =>
  .op (.assume (k0_chk3 v573) (k0_chk3.dec v573)) fun h3 =>
  .op (.enqueueDma (eM.slice (Rect.unit (s := S8192x2048) (k0_off3 v573) S1x2048.size (k0_off3_inb v573 h3.down)) (fun _ => rfl))
    (.here (gM.slice (Rect.unit (s := S4096x2048) (k0_off2 v570) S1x2048.size (k0_off2_inb v570 h2.down)) (fun _ => rfl)))
    (.dma q) (View.wordExact_bits rfl) (View.wordExact_bits rfl) ⟨Or.inl rfl, trivial⟩) fun _ => .ret ⟨⟩

/-- One trip of a drain loop. -/
def drainTrip (q : DmaSem sig) : Prog (TpuEff nD τ sig (Elt F) Λ₀ .tc) Unit :=
  .op (.waitDma2 q (eM.slice (Rect.unit (s := S8192x2048) ![0, 0] S1x2048.size inb_S8192x2048_S1x2048_0_0) (fun _ => rfl))
    (gM.slice (Rect.unit (s := S4096x2048) ![0, 0] S1x2048.size inb_S4096x2048_S1x2048_0_0) (fun _ => rfl)) (View.wordExact_bits rfl) (View.wordExact_bits rfl)) fun _ => .ret ⟨⟩

theorem sepOut {I : Type} (s : Finset I) (Φ Ψ : I → sProp 𝕄) : bigSep s (fun i => iprop(Φ i ∗ Ψ i)) ⊢ iprop(bigSep s Φ ∗ bigSep s Ψ) :=
  Entails.of_eq (BI.bigSep_sep s Φ Ψ)
theorem sepIn {I : Type} (s : Finset I) (Φ Ψ : I → sProp 𝕄) : iprop(bigSep s Φ ∗ bigSep s Ψ) ⊢ bigSep s (fun i => iprop(Φ i ∗ Ψ i)) :=
  Entails.of_eq (BI.bigSep_sep s Φ Ψ).symm

/-! ## Rows -/

/-- The word at index i. -/
def at4 {s : ℕ} [NeZero s] (X : Vec F (⟨1, ![s]⟩ : Shape) .i32) (i : ℕ) : BitVec 32 := X (ix1 (Fin.ofNat s i))

/-- The row of the result, and of the table, that trip i of a group from p moves. -/
def row (pm : Vec F S4096 .i32) (p i : ℕ) : Fin 4096 := Fin.ofNat 4096 (at4 (F := F) pm (p + i)).toNat
def lrow (lc : Vec F S4096 .i32) (p i : ℕ) : Fin 8192 := Fin.ofNat 8192 (at4 (F := F) lc (p + i)).toNat

def gRow (r : Fin 4096) : Finset S4096x2048.Idx := Finset.univ.filter fun x => (x 0).val = r.val
def eRow (r : Fin 8192) : Finset S8192x2048.Idx := Finset.univ.filter fun x => (x 0).val = r.val
def gChunk (k : Dev nD) : Finset S4096x2048.Idx := Finset.univ.filter fun x => (x 0).val / 1024 = k.val

/-- What the index arrays of device c say of the group of chunk k: words p to p+n of pm are rows of the chunk whose token device c has, each once, all of them, and lc has the token's row in the device's part. -/
structure Plan (c k : Dev nD) (idc : Vec F S4096x1 .i32) (pm lc : Vec F S4096 .i32) (p n : ℕ) : Prop where
  le : p + n ≤ 4096
  lt : ∀ i < n, (at4 (F := F) pm (p + i)).toNat < 4096
  chunk : ∀ i < n, (row pm p i).val / 1024 = k.val
  owned : ∀ i < n, Owned (idc (ix2 (row pm p i) 0)) c
  loc : ∀ i < n, ((at4 (F := F) lc (p + i)).toNat : ℤ) = (idc (ix2 (row pm p i) 0) : BitVec 32).toInt - 8192 * (c.val : ℤ)
  inj : ∀ i < n, ∀ j < n, row pm p i = row pm p j → i = j
  cover : ∀ r : Fin 4096, r.val / 1024 = k.val → Owned (idc (ix2 r 0)) c → ∃ i < n, row pm p i = r

theorem gSlice_set (off : Fin 2 → ℕ) (hoff : ∀ a, off a + S1x2048.size a ≤ S4096x2048.size a) (v : ℕ) (h : off = ![v, 0]) :
    (gM.slice (Rect.unit (s := S4096x2048) off S1x2048.size hoff) (fun _ => rfl)).view.set = gRow (Fin.ofNat 4096 v) := by
  subst h
  have hv : v + 1 ≤ 4096 := hoff 0
  refine (View.set_slice_whole _ _).trans ?_
  ext x
  refine (Rect.mem_set_unit (i := x)).trans ?_
  have hx0 : (x 0).val < 4096 := (x 0).isLt
  have hx1 : (x 1).val < 2048 := (x 1).isLt
  have hm : v % 4096 = v := Nat.mod_eq_of_lt (by omega)
  simp only [gRow, Finset.mem_filter, Finset.mem_univ, true_and]
  constructor
  · intro h
    have h0 : v ≤ (x 0).val ∧ (x 0).val < v + 1 := h 0
    show (x 0).val = v % 4096; omega
  · intro h a
    have h0 : (x 0).val = v % 4096 := h
    match a with
    | ⟨0, _⟩ => show v ≤ (x 0).val ∧ (x 0).val < v + 1; omega
    | ⟨1, _⟩ => show 0 ≤ (x 1).val ∧ (x 1).val < 0 + 2048; omega

theorem eSlice_set (off : Fin 2 → ℕ) (hoff : ∀ a, off a + S1x2048.size a ≤ S8192x2048.size a) (v : ℕ) (h : off = ![v, 0]) :
    (eM.slice (Rect.unit (s := S8192x2048) off S1x2048.size hoff) (fun _ => rfl)).view.set = eRow (Fin.ofNat 8192 v) := by
  subst h
  have hv : v + 1 ≤ 8192 := hoff 0
  refine (View.set_slice_whole _ _).trans ?_
  ext x
  refine (Rect.mem_set_unit (i := x)).trans ?_
  have hx0 : (x 0).val < 8192 := (x 0).isLt
  have hx1 : (x 1).val < 2048 := (x 1).isLt
  have hm : v % 8192 = v := Nat.mod_eq_of_lt (by omega)
  simp only [eRow, Finset.mem_filter, Finset.mem_univ, true_and]
  constructor
  · intro h
    have h0 : v ≤ (x 0).val ∧ (x 0).val < v + 1 := h 0
    show (x 0).val = v % 8192; omega
  · intro h a
    have h0 : (x 0).val = v % 8192 := h
    match a with
    | ⟨0, _⟩ => show v ≤ (x 0).val ∧ (x 0).val < v + 1; omega
    | ⟨1, _⟩ => show 0 ≤ (x 1).val ∧ (x 1).val < 0 + 2048; omega

/-! ## Words from scalar memory -/

/-- A load of one word of a one-row buffer. -/
theorem wp_sload {α : Type} (c : Dev nD) {s : ℕ} [NeZero s] {m : Memref sig .tc .smem (⟨1, ![s]⟩ : Shape) .i32} {off : Fin 1 → ℕ}
    {hoff : ∀ a, off a + S1.size a ≤ (⟨1, ![s]⟩ : Shape).size a} {hn : (Rect.unit (s := (⟨1, ![s]⟩ : Shape)) off S1.size hoff).shape.numel = 1} {hp : EltTy.packing .i32 = 1}
    (i : ℕ) (hi : off = ![i]) {q : PosShare TreeShare} (X : Vec F (⟨1, ![s]⟩ : Shape) .i32)
    {k : Elt F .i32 → Prog (TpuEff nD τ sig (Elt F) Λ₀ .tc) α} {Q : α → sProp 𝕄} :
    (owns (c : Thread nD τ) m q X : sProp 𝕄)
      ⊢ iprop((owns (c : Thread nD τ) m q X -∗ wpc c (k (at4 (F := F) X i)) Q)
        -∗ wpc c (smemLoad m (Rect.unit (s := (⟨1, ![s]⟩ : Shape)) off S1.size hoff) hn hp >>= k) Q) := by
  subst hi
  have hlt : i + 1 ≤ s := hoff 0
  unfold owns
  iintro ⟨%f, %hf, H⟩ Hk
  have e : (smemLoad m (Rect.unit (s := (⟨1, ![s]⟩ : Shape)) ![i] S1.size hoff) hn hp >>= k)
      = smemLoadElt m (Rect.unit (s := (⟨1, ![s]⟩ : Shape)) ![i] S1.size hoff) (View.loads_smem_one hp hn) (Shape.Idx.first (hn.symm ▸ Nat.one_pos)) k := rfl
  rw [e]
  iapply (wp_smemLoadElt 𝒱₀ (c : Thread nD τ) none Set.univ (m := m) (r := Rect.unit (s := (⟨1, ![s]⟩ : Shape)) ![i] S1.size hoff) (S := m.view.set) (f := f) (q := q) (View.set_slice_subset _ _)) $$ [H]
  · iexact H
  have hv : (m.access (Rect.unit (s := (⟨1, ![s]⟩ : Shape)) ![i] S1.size hoff)).read (Elt F) f (Shape.Idx.first (hn.symm ▸ Nat.one_pos)) = at4 (F := F) X i := by
    rw [← hf]
    show m.view.read (Elt F) f ((Rect.unit (s := (⟨1, ![s]⟩ : Shape)) ![i] S1.size hoff).emb _) = m.view.read (Elt F) f _
    congr 1
    funext a
    apply Fin.ext
    have ha : a = 0 := Fin.ext (by have : a.val < 1 := a.isLt; show a.val = 0; omega)
    subst ha
    show i + 0 * 1 = i % s
    rw [Nat.mod_eq_of_lt (by omega)]
    rfl
  rw [hv]
  iintro H
  iapply Hk
  iexists f
  isplitr; · ipureintro; exact hf
  iexact H

/-! ## One group -/

section Group

variable (ids : Dev nD → Vec F S4096x1 .i32) (E : Dev nD → Vec F S8192x2048 .f32)
variable (c k : Dev nD) (o : Fin 4) (pm lc : Vec F S4096 .i32) (p n : ℕ) (q : PosShare TreeShare)

/-- The credit of one row. -/
abbrev NR : ℕ := (gM.slice (Rect.unit (s := S4096x2048) ![0, 0] S1x2048.size inb_S4096x2048_S1x2048_0_0) (fun _ => rfl)).view.dmaCredit
theorem NR_pos : 0 < NR := View.dmaCredit_pos _ (by decide)

abbrev gL (c : Dev nD) : Loc nD τ sig := gM.view.loc (c : Thread nD τ)
abbrev eL (c : Dev nD) : Loc nD τ sig := eM.view.loc (c : Thread nD τ)

/-- What trip i's copy brings: its row of the result, and the share of the table row it read. -/
def rowDone (i : ℕ) : sProp 𝕄 :=
  iprop((gL c ↦[gRow (row pm p i)]{fullShare} (gath ids E c)) ∗ (eL c ↦[eRow (lrow lc p i)]{Transfers.shareTokN q i} (E c)))

/-- What trip i needs. -/
def rowTodo (fg : Vec F S4096x2048 .f32) (i : ℕ) : sProp 𝕄 :=
  iprop((gL c ↦[gRow (row pm p i)]{fullShare} fg) ∗ (eL c ↦[eRow (lrow lc p i)]{Transfers.shareTokN q i} (E c)))

instance rowDone_storable (i : ℕ) : BI.Storable (upEmb : UEmb _ 𝕄) (rowDone ids E c pm lc p q i) := by unfold rowDone; infer_instance

/-- What trip i's copy writes over its row is the gather's contents there. -/
theorem rowDone_of (hP : Plan c k (ids c) pm lc p n) (fg : Vec F S4096x2048 .f32) (i : ℕ) (hi : i < n)
    {hg} {he} :
    iprop((gL c ↦[gRow (row pm p i)]{fullShare} ((gM.slice (Rect.unit (s := S4096x2048) (k0_off2 (at4 (F := F) pm (p + i))) S1x2048.size hg) (fun _ => rfl)).view.write (Elt F) fg
        (ReadAs.same.apply ((eM.slice (Rect.unit (s := S8192x2048) (k0_off3 (at4 (F := F) lc (p + i))) S1x2048.size he) (fun _ => rfl)).view.read (Elt F) (E c))) Finset.univ))
      ∗ (eL c ↦[eRow (lrow lc p i)]{Transfers.shareTokN q i} (E c))) ⊢ rowDone ids E c pm lc p q i := by
  unfold rowDone
  refine sep_mono_left (Entails.of_eq (pointsTo_congr ?_))
  intro x hx
  have hx0 : (x 0).val = (row pm p i).val := (Finset.mem_filter.mp hx).2
  have hlt := hP.lt i hi
  have hrow : (row pm p i).val = (at4 (F := F) pm (p + i)).toNat := Nat.mod_eq_of_lt hlt
  have hx' : x = (gM.slice (Rect.unit (s := S4096x2048) (k0_off2 (at4 (F := F) pm (p + i))) S1x2048.size hg) (fun _ => rfl)).view.emb (ix2 0 (x 1)) := by
    funext a
    apply Fin.ext
    match a with
    | ⟨0, _⟩ => show (x 0).val = (at4 (F := F) pm (p + i)).toNat + 0 * 1; omega
    | ⟨1, _⟩ => show (x 1).val = 0 + 1 * (x 1).val; omega
  conv_lhs => rw [hx']
  refine (View.write_emb_of_mem _ _ (Finset.mem_univ _)).trans ?_
  show E c _ = E c _
  congr 1
  have ho := hP.owned i hi
  have hl := hP.loc i hi
  have hr : row pm p i = x 0 := Fin.ext hx0.symm
  rw [hr] at ho hl
  unfold Owned at ho
  funext a
  apply Fin.ext
  match a with
  | ⟨0, _⟩ =>
    show (at4 (F := F) lc (p + i)).toNat + 0 * 1 = ((ids c (ix2 (x 0) 0) : BitVec 32).toInt - 8192 * (c.val : ℤ)).toNat % 8192
    omega
  | ⟨1, _⟩ => show 0 + 1 * (x 1).val = (x 1).val; omega

/-- One row copy of a group. -/
theorem wp_rowCopy {α : Type} (hP : Plan c k (ids c) pm lc p n) (fg : Vec F S4096x2048 .f32) (i : ℕ) (hi : i < n)
    {hg : ∀ a, k0_off2 (at4 (F := F) pm (p + i)) a + S1x2048.size a ≤ S4096x2048.size a} {he : ∀ a, k0_off3 (at4 (F := F) lc (p + i)) a + S1x2048.size a ≤ S8192x2048.size a}
    {hsrc hdst hsem}
    {kk : PUnit → Prog (TpuEff nD τ sig (Elt F) Λ₀ .tc) α} {Q : α → sProp 𝕄} :
    iprop(rowTodo E c pm lc p q fg i
        ∗ Transfers.Batch EC (c : Thread nD τ) (.dma (gsem o)) () NR (fun i : Fin n => rowDone ids E c pm lc p q i.val) i 0)
      ⊢ iprop((Transfers.Batch EC (c : Thread nD τ) (.dma (gsem o)) () NR (fun i : Fin n => rowDone ids E c pm lc p q i.val) (i + 1) 0 -∗ wpc c (kk ⟨⟩) Q)
        -∗ wpc c (.op (.enqueueDma (eM.slice (Rect.unit (s := S8192x2048) (k0_off3 (at4 (F := F) lc (p + i))) S1x2048.size he) (fun _ => rfl))
          (.here (gM.slice (Rect.unit (s := S4096x2048) (k0_off2 (at4 (F := F) pm (p + i))) S1x2048.size hg) (fun _ => rfl))) (.dma (gsem o)) hsrc hdst hsem) kk) Q) := by
  unfold rowTodo
  have es : (eL c ↦[eRow (lrow lc p i)]{Transfers.shareTokN q i} (E c) : sProp 𝕄)
      = ((eM.slice (Rect.unit (s := S8192x2048) (k0_off3 (at4 (F := F) lc (p + i))) S1x2048.size he) (fun _ => rfl)).view.loc (c : Thread nD τ)
        ↦[(eM.slice (Rect.unit (s := S8192x2048) (k0_off3 (at4 (F := F) lc (p + i))) S1x2048.size he) (fun _ => rfl)).view.set]{Transfers.shareTokN q i} (E c)) := by
    rw [eSlice_set _ _ _ (off3_eq _)]; rfl
  have hD := rowDone_of ids E c k pm lc p n q hP fg i hi (hg := hg) (he := he)
  iintro ⟨⟨Hg, He⟩, HB⟩ Hk
  iapply (Transfers.wp_dmaBatch EC 𝒱₀ (c : Thread nD τ) none
      (src := eM.slice (Rect.unit (s := S8192x2048) (k0_off3 (at4 (F := F) lc (p + i))) S1x2048.size he) (fun _ => rfl))
      (dst := gM.slice (Rect.unit (s := S4096x2048) (k0_off2 (at4 (F := F) pm (p + i))) S1x2048.size hg) (fun _ => rfl))
      (sm := .dma (gsem o)) (via := ReadAs.same) (j := i) (u := 0) (fs := E c) (fd := fg) (Sd := gRow (row pm p i)) (q := Transfers.shareTokN q i)
      (D := fun i : Fin n => rowDone ids E c pm lc p q i.val)
      () NR rfl (le_of_eq (gSlice_set _ _ _ (off2_eq _))) hi (Nat.zero_le _)
      ((sep_mono_right (Entails.of_eq es.symm)).trans hD)) $$ [Hg He HB]
  · isplitl [He]; · iapply (Entails.of_eq es); iexact He
    isplitl [Hg]; · iexact Hg
    iexact HB
  iexact Hk

/-- The issue loops of a group: every row copy is in flight after them. -/
theorem wp_issue {α : Type} (hP : Plan c k (ids c) pm lc p n) (fg : Vec F S4096x2048 .f32) {a0 a1 : Memref sig .tc .smem S4096 .i32} {q0 q1 : PosShare TreeShare}
    {v10 : BitVec 32} (hv : v10 = BitVec.ofNat 32 n) {v9 : BitVec 32} (hv9 : v9 = BitVec.ofNat 32 p) {ok ok2}
    {body : Fin (k0_t1_loop v10).trips → Unit → Prog (TpuEff nD τ sig (Elt F) Λ₀ .tc) Unit} {body2 : Fin (k0_t2_loop v10).trips → Unit → Prog (TpuEff nD τ sig (Elt F) Λ₀ .tc) Unit}
    (hbody : ∀ t u, ∃ h, body t u = issueTrip a0 a1 (gsem o) (k0_off1 v9 v10 t) h)
    {kk : Unit → Prog (TpuEff nD τ sig (Elt F) Λ₀ .tc) α} {Q : α → sProp 𝕄} :
    iprop(bigSep (Finset.univ : Finset (Fin n)) (fun i => rowTodo E c pm lc p q fg i.val)
        ∗ Transfers.Batch EC (c : Thread nD τ) (.dma (gsem o)) () NR (fun i : Fin n => rowDone ids E c pm lc p q i.val) 0 0
        ∗ owns (c : Thread nD τ) a0 q0 pm ∗ owns (c : Thread nD τ) a1 q1 lc)
      ⊢ iprop(((Transfers.Batch EC (c : Thread nD τ) (.dma (gsem o)) () NR (fun i : Fin n => rowDone ids E c pm lc p q i.val) n 0
          ∗ owns (c : Thread nD τ) a0 q0 pm ∗ owns (c : Thread nD τ) a1 q1 lc) -∗ wpc c (kk ()) Q)
        -∗ wpc c (Scf.Loop.for (k0_t1_loop v10) ok () body >>= fun _ => Scf.Loop.for (k0_t2_loop v10) ok2 () body2 >>= kk) Q) := by
  subst hv hv9
  have hle := hP.le
  have htr := loop_trips (n := n) (by omega)
  iintro ⟨HT, HB, H0, H1⟩ Hk
  iapply (Scf.wp_for_bind frame (wpE defs₀ 𝒱₀ (c : Thread nD τ) none) Set.univ _ _ _ ok () body
    (fun j _ => iprop(bigSep (Transfers.pending (n := n) j) (fun i => rowTodo E c pm lc p q fg i.val)
        ∗ Transfers.Batch EC (c : Thread nD τ) (.dma (gsem o)) () NR (fun i : Fin n => rowDone ids E c pm lc p q i.val) j 0
        ∗ owns (c : Thread nD τ) a0 q0 pm ∗ owns (c : Thread nD τ) a1 q1 lc)) ?_) $$ [HT HB H0 H1]
  · intro t u
    have ht : t.val < n := lt_of_lt_of_eq t.isLt htr
    obtain ⟨hb, hbe⟩ := hbody t u
    rw [hbe]
    unfold issueTrip
    iintro ⟨HT, HB, H0, H1⟩
    ihave HT' := (show bigSep (Transfers.pending (n := n) t.val) (fun i => rowTodo E c pm lc p q fg i.val)
        ⊢ iprop(rowTodo E c pm lc p q fg t.val ∗ bigSep (Transfers.pending (n := n) (t.val + 1)) (fun i => rowTodo E c pm lc p q fg i.val))
      from Entails.of_eq (by rw [Transfers.pending_succ ht, bigSep_insert (Transfers.not_mem_pending_succ ht)]; rfl)) $$ HT
    icases HT' with ⟨Ht, HT⟩
    iapply (wp_sload c (p + t.val) (off1_eq hle t) pm) $$ H0
    iintro H0
    have h2 : k0_chk2 (at4 (F := F) pm (p + t.val)) := chk2_of (hP.lt t.val ht)
    iapply (wp_assume 𝒱₀ (c : Thread nD τ) none Set.univ h2)
    iapply (wp_sload c (p + t.val) (off1_eq hle t) lc) $$ H1
    iintro H1
    have hl := hP.loc t.val ht
    have ho := hP.owned t.val ht
    have h3 : k0_chk3 (at4 (F := F) lc (p + t.val)) := chk3_of (by unfold Owned at ho; omega)
    iapply (wp_assume 𝒱₀ (c : Thread nD τ) none Set.univ h3)
    iapply (wp_rowCopy ids E c k o pm lc p n q hP fg t.val ht) $$ [Ht HB]
    · isplitl [Ht]; · iexact Ht
      iexact HB
    iintro HB
    iapply (wpc_ret c)
    isplitl [HT]; · iexact HT
    isplitl [HB]; · iexact HB
    isplitl [H0]; · iexact H0
    iexact H1
  · rw [Transfers.pending_zero]
    isplitl [HT]; · iexact HT
    isplitl [HB]; · iexact HB
    isplitl [H0]; · iexact H0
    iexact H1
  iintro %u ⟨HT, HB, H0, H1⟩
  have e2 : Scf.Loop.for (k0_t2_loop (BitVec.ofNat 32 n)) ok2 () body2 = .ret () := Scf.for_rem_eq _ _ _ _ _
  rw [e2]
  rw [show Scf.trips _ _ _ = n from htr]
  iapply Hk
  isplitl [HB]; · iexact HB
  isplitl [H0]; · iexact H0
  iexact H1

/-- The drain loops of a group. -/
theorem wp_drain {α : Type} (hn : n ≤ 4096) (D : Fin n → sProp 𝕄) (l : List Due) (hl : ∀ p ∈ l, p.1.1.2 = .tc ∧ 0 < lvS p.1.2)
    {v10 : BitVec 32} (hv : v10 = BitVec.ofNat 32 n) {ok ok2}
    {body : Fin (k0_t1_loop v10).trips → Unit → Prog (TpuEff nD τ sig (Elt F) Λ₀ .tc) Unit} {body2 : Fin (k0_t2_loop v10).trips → Unit → Prog (TpuEff nD τ sig (Elt F) Λ₀ .tc) Unit}
    (hbody : ∀ t u, body t u = drainTrip (gsem o))
    {kk : Unit → Prog (TpuEff nD τ sig (Elt F) Λ₀ .tc) α} {Q : α → sProp 𝕄} :
    iprop(levAts L lv ∗ Transfers.Batch EC (c : Thread nD τ) (.dma (gsem o)) () NR D n 0 ∗ owesL c l)
      ⊢ iprop(((bigSep Finset.univ D ∗ semVal ((c : Thread nD τ), .dma (gsem o)) 0 ∗ owesL c l) -∗ wpc c (kk ()) Q)
        -∗ wpc c (Scf.Loop.for (k0_t1_loop v10) ok () body >>= fun _ => Scf.Loop.for (k0_t2_loop v10) ok2 () body2 >>= kk) Q) := by
  subst hv
  have htr := loop_trips (n := n) hn
  iintro ⟨#Hlev, HB, HO⟩ Hk
  iapply (Scf.wp_for_bind frame (wpE defs₀ 𝒱₀ (c : Thread nD τ) none) Set.univ _ _ _ ok () body
    (fun j _ => iprop(levAts L lv ∗ Transfers.Batch EC (c : Thread nD τ) (.dma (gsem o)) () NR D n (NR * j) ∗ owesL c l)) ?_) $$ [HB HO]
  · intro t u
    have ht : t.val < n := lt_of_lt_of_eq t.isLt htr
    rw [hbody t u]
    unfold drainTrip owesL
    iintro ⟨#Hlev, HB, ⟨%W, HO⟩⟩
    iapply (Transfers.wp_waitBatchMulO EC 𝒱₀ (c : Thread nD τ) none () 1 (N := NR) (j := n) (u := NR * t.val) (O := oweL l) (W := W) (Nat.one_mul _).symm
      (by rw [Nat.one_mul, ← Nat.mul_succ]; exact Nat.mul_le_mul_left _ ht)) $$ [HB HO]
    · isplitl [HB]; · iexact HB
      isplitl [HO]; · iexact HO
      iapply (mayWait c (.dma (gsem o)) l (fun p hp => ⟨(hl p hp).1, by
        have : lvS (.dma (gsem o)) = 0 := by show (if 5 + o.val < 16 then 0 else _) = 0; rw [if_pos (by omega)]
        rw [this]; exact (hl p hp).2⟩)); iexact Hlev
    iintro ⟨HB, HO⟩
    iapply (wpc_ret c)
    isplitr; · iexact Hlev
    isplitl [HB]
    · rw [Nat.one_mul, ← Nat.mul_succ]; iexact HB
    iexists _; iexact HO
  · isplitr; · iexact Hlev
    isplitl [HB]; · iexact HB
    iexact HO
  iintro %u ⟨-, HB, HO⟩
  have e2 : Scf.Loop.for (k0_t2_loop (BitVec.ofNat 32 n)) ok2 () body2 = .ret () := Scf.for_rem_eq _ _ _ _ _
  rw [e2]
  rw [show Scf.trips _ _ _ = n from htr]
  imod (Transfers.batch_collect' EC (c : Thread nD τ) NR_pos) $$ HB with ⟨HD, Hs⟩
  iapply Hk
  isplitl [HD]; · iexact HD
  isplitl [Hs]; · iexact Hs
  iexact HO

/-- The rows of a group. -/
def gRows : Finset S4096x2048.Idx := (Finset.univ : Finset (Fin n)).biUnion fun i => gRow (row (F := F) pm p i.val)

theorem gRows_disj (hP : Plan c k (ids c) pm lc p n) (i j : Fin n) (h : i ≠ j) : Disjoint (gRow (row (F := F) pm p i.val)) (gRow (row (F := F) pm p j.val)) := by
  rw [Finset.disjoint_left]
  intro x hx hy
  have h1 : (x 0).val = _ := (Finset.mem_filter.mp hx).2
  have h2 : (x 0).val = _ := (Finset.mem_filter.mp hy).2
  exact h (Fin.ext (hP.inj i.val i.isLt j.val j.isLt (Fin.ext (h1.symm.trans h2))))

theorem gRows_sub (hP : Plan c k (ids c) pm lc p n) : gRows (F := F) pm p n ⊆ gChunk k := by
  intro x hx
  obtain ⟨i, -, hi⟩ := Finset.mem_biUnion.mp hx
  have h1 : (x 0).val = _ := (Finset.mem_filter.mp hi).2
  refine Finset.mem_filter.mpr ⟨Finset.mem_univ _, ?_⟩
  rw [h1]; exact hP.chunk i.val i.isLt

/-- What a group leaves aside while its copies are in flight. -/
def groupRest (fg : Vec F S4096x2048 .f32) : sProp 𝕄 :=
  iprop((gL c ↦[gChunk k \ gRows (F := F) pm p n]{fullShare} fg) ∗ (eL c ↦[Finset.univ]{Transfers.shareDrop q n} (E c))
    ∗ bigSep (Finset.univ : Finset (Fin n)) (fun i => eL c ↦[Finset.univ \ eRow (lrow lc p i.val)]{Transfers.shareTokN q i.val} (E c)))

/-- Chunk k of the gather's buffer after the group: at every row whose token device c has, the token's row of the table. -/
def gotten : sProp 𝕄 :=
  iprop(∃ fg : Vec F S4096x2048 .f32, (gL c ↦[gChunk k]{fullShare} fg) ∗ ⌜∀ x ∈ gChunk k, Owned (ids c (ix2 (x 0) 0)) c → fg x = gath ids E c x⌝)

theorem group_split (hP : Plan c k (ids c) pm lc p n) (fg : Vec F S4096x2048 .f32) :
    iprop((gL c ↦[gChunk k]{fullShare} fg) ∗ (eL c ↦[Finset.univ]{q} (E c)))
      ⊢ iprop(bigSep (Finset.univ : Finset (Fin n)) (fun i => rowTodo E c pm lc p q fg i.val) ∗ groupRest E c k pm lc p n q fg) := by
  have hg : (gL c ↦[gRows (F := F) pm p n]{fullShare} fg : sProp 𝕄) = bigSep (Finset.univ : Finset (Fin n)) (fun i => gL c ↦[gRow (row pm p i.val)]{fullShare} fg) :=
    pointsTo_biUnion _ _ (fun i _ j _ h => gRows_disj ids c k pm lc p n hP i j h)
  have he : bigSep (Finset.range n) (fun i => (eL c ↦[Finset.univ]{Transfers.shareTokN q i} (E c) : sProp 𝕄))
      ⊢ iprop(bigSep (Finset.univ : Finset (Fin n)) (fun i => eL c ↦[eRow (lrow lc p i.val)]{Transfers.shareTokN q i.val} (E c))
        ∗ bigSep (Finset.univ : Finset (Fin n)) (fun i => eL c ↦[Finset.univ \ eRow (lrow lc p i.val)]{Transfers.shareTokN q i.val} (E c))) := by
    refine BI.Entails.trans ?_ (sepOut _ _ _)
    rw [← Ring.bigSep_fin_eq_range n (fun i : Fin n => (eL c ↦[Finset.univ]{Transfers.shareTokN q i.val} (E c) : sProp 𝕄)) _ (fun _ _ => rfl)]
    exact BI.bigSep_mono fun i _ => (pointsTo_split_subset (Finset.subset_univ _)).1
  unfold groupRest rowTodo
  iintro ⟨Hg, He⟩
  ihave Hg' := (pointsTo_split_subset (gRows_sub ids c k pm lc p n hP)).1 $$ Hg
  icases Hg' with ⟨Hg1, Hg2⟩
  ihave He' := (Transfers.pointsTo_toks_range q n).1 $$ He
  icases He' with ⟨He1, He2⟩
  ihave He3 := he $$ He2
  icases He3 with ⟨He2, He3⟩
  isplitl [Hg1 He2]
  · iapply (sepIn _ _ _)
    isplitl [Hg1]; · iapply (Entails.of_eq hg); iexact Hg1
    iexact He2
  isplitl [Hg2]; · iexact Hg2
  isplitl [He1]; · iexact He1
  iexact He3

theorem group_join (hP : Plan c k (ids c) pm lc p n) (fg : Vec F S4096x2048 .f32) :
    iprop(bigSep (Finset.univ : Finset (Fin n)) (fun i => rowDone ids E c pm lc p q i.val) ∗ groupRest E c k pm lc p n q fg)
      ⊢ iprop(gotten ids E c k ∗ (eL c ↦[Finset.univ]{q} (E c))) := by
  have hg : bigSep (Finset.univ : Finset (Fin n)) (fun i => (gL c ↦[gRow (row pm p i.val)]{fullShare} (gath ids E c) : sProp 𝕄)) = (gL c ↦[gRows (F := F) pm p n]{fullShare} (gath ids E c)) :=
    (pointsTo_biUnion _ _ (fun i _ j _ h => gRows_disj ids c k pm lc p n hP i j h)).symm
  have he : iprop(bigSep (Finset.univ : Finset (Fin n)) (fun i => eL c ↦[eRow (lrow lc p i.val)]{Transfers.shareTokN q i.val} (E c))
        ∗ bigSep (Finset.univ : Finset (Fin n)) (fun i => eL c ↦[Finset.univ \ eRow (lrow lc p i.val)]{Transfers.shareTokN q i.val} (E c)))
      ⊢ bigSep (Finset.range n) (fun i => (eL c ↦[Finset.univ]{Transfers.shareTokN q i} (E c) : sProp 𝕄)) := by
    refine (sepIn _ _ _).trans ?_
    rw [← Ring.bigSep_fin_eq_range n (fun i : Fin n => (eL c ↦[Finset.univ]{Transfers.shareTokN q i.val} (E c) : sProp 𝕄)) _ (fun _ _ => rfl)]
    exact BI.bigSep_mono fun i _ => (pointsTo_split_subset (Finset.subset_univ _)).2
  unfold groupRest rowDone gotten
  iintro ⟨HD, Hg2, He2, He3⟩
  ihave HD' := (sepOut _ _ _) $$ HD
  icases HD' with ⟨Hg1, He1⟩
  isplitl [Hg1 Hg2]
  · iexists (gRows (F := F) pm p n).piecewise (gath ids E c) fg
    isplitl [Hg1 Hg2]
    · iapply (pointsTo_join_subset (gRows_sub ids c k pm lc p n hP))
      isplitl [Hg1]; · iapply (Entails.of_eq hg); iexact Hg1
      iexact Hg2
    ipureintro
    intro x hx ho
    refine Finset.piecewise_eq_of_mem _ _ _ ?_
    obtain ⟨i, hi, hr⟩ := hP.cover (x 0) (Finset.mem_filter.mp hx).2 ho
    exact Finset.mem_biUnion.mpr ⟨⟨i, hi⟩, Finset.mem_univ _, Finset.mem_filter.mpr ⟨Finset.mem_univ _, congrArg Fin.val hr.symm⟩⟩
  iapply (Transfers.pointsTo_toks_range q n).2
  isplitl [He2]; · iexact He2
  iapply he
  isplitl [He1]; · iexact He1
  iexact He3

/-- A group in flight. -/
def fly : sProp 𝕄 :=
  iprop(∃ fg : Vec F S4096x2048 .f32, Transfers.Batch EC (c : Thread nD τ) (.dma (gsem o)) () NR (fun i : Fin n => rowDone ids E c pm lc p q i.val) n 0
    ∗ groupRest E c k pm lc p n q fg)

/-- Issuing a group. -/
theorem wp_issueGroup {α : Type} (hP : Plan c k (ids c) pm lc p n) {a0 a1 : Memref sig .tc .smem S4096 .i32} {q0 q1 : PosShare TreeShare}
    {v10 : BitVec 32} (hv : v10 = BitVec.ofNat 32 n) {v9 : BitVec 32} (hv9 : v9 = BitVec.ofNat 32 p) {ok ok2}
    {body : Fin (k0_t1_loop v10).trips → Unit → Prog (TpuEff nD τ sig (Elt F) Λ₀ .tc) Unit} {body2 : Fin (k0_t2_loop v10).trips → Unit → Prog (TpuEff nD τ sig (Elt F) Λ₀ .tc) Unit}
    (hbody : ∀ t u, ∃ h, body t u = issueTrip a0 a1 (gsem o) (k0_off1 v9 v10 t) h)
    {kk : Unit → Prog (TpuEff nD τ sig (Elt F) Λ₀ .tc) α} {Q : α → sProp 𝕄} :
    iprop((∃ fg : Vec F S4096x2048 .f32, gL c ↦[gChunk k]{fullShare} fg) ∗ (eL c ↦[Finset.univ]{q} (E c)) ∗ semVal ((c : Thread nD τ), .dma (gsem o)) 0
        ∗ owns (c : Thread nD τ) a0 q0 pm ∗ owns (c : Thread nD τ) a1 q1 lc)
      ⊢ iprop(((fly ids E c k o pm lc p n q ∗ owns (c : Thread nD τ) a0 q0 pm ∗ owns (c : Thread nD τ) a1 q1 lc) -∗ wpc c (kk ()) Q)
        -∗ wpc c (Scf.Loop.for (k0_t1_loop v10) ok () body >>= fun _ => Scf.Loop.for (k0_t2_loop v10) ok2 () body2 >>= kk) Q) := by
  iintro ⟨⟨%fg, Hg⟩, He, Hs, H0, H1⟩ Hk
  imod (Transfers.batch_alloc' EC (c : Thread nD τ) () NR (fun i : Fin n => rowDone ids E c pm lc p q i.val)) $$ Hs with HB
  ihave HT := (group_split ids E c k pm lc p n q hP fg) $$ [Hg He]
  · isplitl [Hg]; · iexact Hg
    iexact He
  icases HT with ⟨HT, HR⟩
  iapply (wp_issue ids E c k o pm lc p n q hP fg hv hv9 hbody) $$ [HT HB H0 H1]
  · isplitl [HT]; · iexact HT
    isplitl [HB]; · iexact HB
    isplitl [H0]; · iexact H0
    iexact H1
  iintro ⟨HB, H0, H1⟩
  iapply Hk
  isplitl [HB HR]
  · unfold fly; iexists fg
    isplitl [HB]; · iexact HB
    iexact HR
  isplitl [H0]; · iexact H0
  iexact H1

/-- Draining a group: the chunk is gathered, and the table's share is back. -/
theorem wp_drainGroup {α : Type} (hP : Plan c k (ids c) pm lc p n) (l : List Due) (hl : ∀ p ∈ l, p.1.1.2 = .tc ∧ 0 < lvS p.1.2)
    {v10 : BitVec 32} (hv : v10 = BitVec.ofNat 32 n) {ok ok2}
    {body : Fin (k0_t1_loop v10).trips → Unit → Prog (TpuEff nD τ sig (Elt F) Λ₀ .tc) Unit} {body2 : Fin (k0_t2_loop v10).trips → Unit → Prog (TpuEff nD τ sig (Elt F) Λ₀ .tc) Unit}
    (hbody : ∀ t u, body t u = drainTrip (gsem o))
    {kk : Unit → Prog (TpuEff nD τ sig (Elt F) Λ₀ .tc) α} {Q : α → sProp 𝕄} :
    iprop(levAts L lv ∗ fly ids E c k o pm lc p n q ∗ owesL c l)
      ⊢ iprop(((gotten ids E c k ∗ (eL c ↦[Finset.univ]{q} (E c)) ∗ semVal ((c : Thread nD τ), .dma (gsem o)) 0 ∗ owesL c l) -∗ wpc c (kk ()) Q)
        -∗ wpc c (Scf.Loop.for (k0_t1_loop v10) ok () body >>= fun _ => Scf.Loop.for (k0_t2_loop v10) ok2 () body2 >>= kk) Q) := by
  unfold fly
  iintro ⟨#Hlev, ⟨%fg, HB, HR⟩, HO⟩ Hk
  iapply (wp_drain c o n (le_trans (Nat.le_add_left _ _) hP.le) (fun i : Fin n => rowDone ids E c pm lc p q i.val) l hl hv hbody) $$ [HB HO]
  · isplitr; · iexact Hlev
    isplitl [HB]; · iexact HB
    iexact HO
  iintro ⟨HD, Hs, HO⟩
  ihave HJ := (group_join ids E c k pm lc p n q hP fg) $$ [HD HR]
  · isplitl [HD]; · iexact HD
    iexact HR
  icases HJ with ⟨Hg, He⟩
  iapply Hk
  isplitl [Hg]; · iexact Hg
  isplitl [He]; · iexact He
  isplitl [Hs]; · iexact Hs
  iexact HO

end Group

end Cert.KernelIdeal.Run
-- ==== Proof.KernelIdeal.Steps.lean ====
/-
  The pieces that the parts of the body are stepped with: the talk's bundles, loads of the ids and of the gathered rows, and the stored values.
-/
module

public import proofs.«01_k».proof.Proof.KernelIdeal.Gather
public import Idealize.ShloMosaic.Lib.Pipeline.Value

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

local notation "𝕄" => MT nD τ sig Unit (Elt F) ℕ UU ℕ

/-- A program after another, from the first one's postcondition. -/
theorem wpc_seq {α β : Type} (c : Dev nD) {p : Prog (TpuEff nD τ sig (Elt F) Λ₀ .tc) α} {k : α → Prog (TpuEff nD τ sig (Elt F) Λ₀ .tc) β}
    {R : sProp 𝕄} {T : α → sProp 𝕄} {Q : β → sProp 𝕄} (h : R ⊢ wpc c p T) : R ⊢ iprop((∀ a, T a -∗ wpc c (k a) Q) -∗ wpc c (p >>= k) Q) := by
  unfold wpc at h ⊢
  rw [wp_bind]
  refine h.trans ?_
  iintro H Hk
  iapply (wp_wand) $$ H
  iexact Hk

theorem wpc_deviceId {α : Type} (c : Dev nD) {k : Dev nD → Prog (TpuEff nD τ sig (Elt F) Λ₀ .tc) α} {Q : α → sProp 𝕄} :
    wpc c (k c) Q ⊢ wpc c (.op .deviceId k) Q := by
  unfold wpc
  exact Entails.of_eq (wp_deviceId 𝒱₀ (c : Thread nD τ) none Set.univ).symm

theorem wpc_assume {α : Type} (c : Dev nD) {P : Prop} {dec : Decidable P} (h : P) {k : PLift P → Prog (TpuEff nD τ sig (Elt F) Λ₀ .tc) α} {Q : α → sProp 𝕄} :
    wpc c (k ⟨h⟩) Q ⊢ wpc c (.op (.assume P dec) k) Q := by
  unfold wpc
  exact wp_assume 𝒱₀ (c : Thread nD τ) none Set.univ h

/-- Every half-chunk counts the same. -/
theorem credit_eq {sp : Space} (m : Memref sig .tc sp S1024x1024 .bf16) : m.view.dmaCredit = N := by unfold N; rfl

section Talk

variable (ids : Dev nD → Vec F S4096x1 .i32) (E : Dev nD → Vec F S8192x2048 .f32) (K : GSem nD τ sig → ℕ)

/-- What device c may use any number of times: the invariants, the levels, and that round 0 of the cells it pays itself is reached. -/
def ctx (c : Dev nD) : sProp 𝕄 :=
  iprop(invs ids E K ∗ levAts L lv ∗ bigSep (Finset.univ : Finset (Fin 4 × Fin 2 × Fin 3)) (fun p => reached ER (cell p.1 p.2.1 p.2.2 c) 0)
    ∗ bigSep (Finset.univ : Finset (Fin 2)) (fun d => reached ER (barCell (pv d c)) 0))

instance ctx_persistent (c : Dev nD) : BI.Persistent (ctx ids E K c) := by unfold ctx; infer_instance

theorem ctx_invs (c : Dev nD) : ctx ids E K c ⊢ invs ids E K := by unfold ctx; exact BI.sep_and.trans and_elimL
theorem ctx_lev (c : Dev nD) : ctx ids E K c ⊢ levAts L lv := by
  unfold ctx; exact BI.sep_and.trans (and_elimR.trans (BI.sep_and.trans and_elimL))
theorem ctx_reach (c : Dev nD) (k : Fin 4) (d : Fin 2) (s : Fin 3) : ctx ids E K c ⊢ reached ER (cell k d s c) 0 := by
  unfold ctx
  exact BI.sep_and.trans (and_elimR.trans (BI.sep_and.trans (and_elimR.trans (BI.sep_and.trans (and_elimL.trans
    (BI.bigSep_elim (Φ := fun p : Fin 4 × Fin 2 × Fin 3 => reached ER (cell p.1 p.2.1 p.2.2 c) 0) (Finset.mem_univ (k, d, s))))))))
theorem ctx_bar (c : Dev nD) (d : Fin 2) : ctx ids E K c ⊢ reached ER (barCell (pv d c)) 0 := by
  unfold ctx
  exact BI.sep_and.trans (and_elimR.trans (BI.sep_and.trans (and_elimR.trans (BI.sep_and.trans (and_elimR.trans
    (BI.bigSep_elim (Φ := fun d : Fin 2 => reached ER (barCell (pv d c)) 0) (Finset.mem_univ d)))))))

/-- What a wait on a cell takes. -/
def waitKit (c : Dev nD) (k : Fin 4) (d : Fin 2) (s : Fin 3) : sProp 𝕄 :=
  iprop(cred (tallyAt (cell k d s c) () N) ∗ atPos ER (cell k d s c) 0 ∅ 0)
/-- A cell after its one round. -/
abbrev done (c : Dev nD) (k : Fin 4) (d : Fin 2) (s : Fin 3) : sProp 𝕄 := atPos ER (cell k d s c) 1 ∅ 0
/-- What device c brings to one step of the talk: the two duty tokens, the credit of what it will receive, its two places. -/
def stepKit (c : Dev nD) (ks kv : Fin 4) (d : Fin 2) (s : Fin 3) : sProp 𝕄 :=
  iprop(dutyTok ER (cell ks d s c) 0 0 ∗ dutyTok ER (cell kv d s (nx d c)) 0 0 ∗ atPos ER (cell ks d s c) 0 ∅ 0
    ∗ cred (tallyAt (cell kv d s c) () N) ∗ atPos ER (cell kv d s c) 0 ∅ 0)
/-- Where a step's copy lands, on loan. -/
abbrev dstKit {sp : Space} (c : Dev nD) (kv : Fin 4) (d : Fin 2) (s : Fin 3) (m : Memref sig .tc sp S1024x1024 .bf16) : sProp 𝕄 :=
  iprop(anyOwn (nx d c) m ∗ reached ER (cell kv d s (nx d c)) 0)

theorem wp_sendK {α : Type} (c : Dev nD) (ks kv : Fin 4) (d : Fin 2) (s : Fin 3) (l : List Due) {sp sp' : Space}
    {src : Memref sig .tc sp S1024x1024 .bf16} {dst : Memref sig .tc sp' S1024x1024 .bf16} {hsc : dst.view.ref.isScScratch = false}
    {c' : Dev nD} {sS sV : DmaSem sig} (hc : c' = nx d c) (hS : sS = qix ks d s) (hV : sV = qix kv d s)
    {hsrc : src.view.WordExact} {hdst : dst.view.WordExact} {hsem : DmaTarget.Typed sp (.dma sV) (.remote (c' : Thread nD τ) dst (.dma sS) hsc)}
    (X : FVec F S1024x1024 .bf16)
    (hp₁ : owns (c : Thread nD τ) src fullShare X ⊢ (dmaPay ids E c ks d s : sProp 𝕄))
    (hp₂ : owns (nx d c : Thread nD τ) dst fullShare X ⊢ (dmaPay ids E (nx d c) kv d s : sProp 𝕄))
    {k : PUnit → Prog (TpuEff nD τ sig (Elt F) Λ₀ .tc) α} {Q : α → sProp 𝕄} :
    iprop(ctx ids E K c ∗ owns (c : Thread nD τ) src fullShare X ∗ dstKit c kv d s dst ∗ owesL c ((cell kv d s (nx d c), N) :: l) ∗ stepKit c ks kv d s)
      ⊢ iprop(((waitKit c ks d s ∗ waitKit c kv d s ∗ owesL c l) -∗ wpc c (k ⟨⟩) Q)
        -∗ wpc c (.op (.enqueueDma src (.remote (c' : Thread nD τ) dst (.dma sS) hsc) (.dma sV) hsrc hdst hsem) k) Q) := by
  unfold waitKit stepKit
  iintro ⟨#HC, Hs, ⟨Hd, #Hr2⟩, HO, Ht1, Ht2, Ha1, Hc2, Ha2⟩ Hk
  iapply (wp_send ids E K c ks kv d s l hc hS hV (credit_eq dst) X hp₁ hp₂) $$ [Hs Hd HO Ht1 Ht2]
  · isplitr; · iapply (ctx_invs ids E K c); iexact HC
    isplitl [Hs]; · iexact Hs
    isplitl [Hd]; · iexact Hd
    isplitl [HO]; · iexact HO
    isplitl [Ht1]; · iexact Ht1
    isplitr; · iapply (ctx_reach ids E K c ks d s); iexact HC
    isplitl [Ht2]; · iexact Ht2
    iexact Hr2
  iintro ⟨Hc1, HO⟩
  iapply Hk
  isplitl [Hc1 Ha1]
  · isplitl [Hc1]; · iexact Hc1
    iexact Ha1
  isplitl [Hc2 Ha2]
  · isplitl [Hc2]; · iexact Hc2
    iexact Ha2
  iexact HO

theorem wp_waitK {α : Type} (c : Dev nD) (kk : Fin 4) (d : Fin 2) (s : Fin 3) (l : List Due) {sp sp' : Space}
    {src : Memref sig .tc sp S1024x1024 .bf16} {dst : Memref sig .tc sp' S1024x1024 .bf16} {sem : DmaSem sig} (hS : sem = qix kk d s)
    (hl : ∀ p ∈ l, p.1.1.2 = .tc ∧ lvS (.dma (qix kk d s)) < lvS p.1.2)
    {hsrc : src.view.WordExact} {hdst : dst.view.WordExact}
    {k : PUnit → Prog (TpuEff nD τ sig (Elt F) Λ₀ .tc) α} {Q : α → sProp 𝕄} :
    iprop(ctx ids E K c ∗ waitKit c kk d s ∗ owesL c l)
      ⊢ iprop(((owesL c l ∗ done c kk d s ∗ dmaPay ids E c kk d s) -∗ wpc c (k ⟨⟩) Q)
        -∗ wpc c (.op (.waitDma2 sem src dst hsrc hdst) k) Q) := by
  unfold waitKit
  iintro ⟨#HC, ⟨Hc, Ha⟩, HO⟩ Hk
  iapply (wp_wait ids E K c kk d s l hS (credit_eq dst) hl) $$ [Hc Ha HO]
  · isplitr; · iapply (ctx_invs ids E K c); iexact HC
    isplitr; · iapply (ctx_lev ids E K c); iexact HC
    isplitl [Hc]; · iexact Hc
    isplitl [HO]; · iexact HO
    iexact Ha
  iexact Hk

end Talk

/-! ## Loads of the ids and of the gathered rows -/

section Loads

variable (ids : Dev nD → Vec F S4096x1 .i32) (E : Dev nD → Vec F S8192x2048 .f32)

theorem baseW_toInt (c : Dev nD) : (baseW c).toInt = 8192 * (c.val : ℤ) ∧ (Scalar.addi (baseW c) 8192#32).toInt = 8192 * (c.val : ℤ) + 8192 := by
  revert c; decide

open Classical in
/-- The mask keeps the entries whose token the device has. -/
theorem mskd_eq (c : Dev nD) (v : IVec S1024x1 32) (g : Vec F S1024x1024 .f32) :
    mskd (baseW c) v g = truncf .bf16 (fun i => if Owned (v (ix2 (i 0) 0)) c then g i else (Scalar.ofBits .f32 0x00000000#32 : F .f32)) bitsLt_bf16_f32 := by
  unfold mskd
  refine congrArg (fun z => truncf .bf16 z bitsLt_bf16_f32) ?_
  funext i
  have hb := fun x => broadcastTo_apply (α := BitVec 1) x broadcasts_S1024x1_S1024x1024 i (ix2 (i 0) 0) (by intro a; fin_cases a <;> rfl)
  unfold select
  rw [hb]
  have hsc : ∀ (α : Type) (x : S1024x1.Idx → α), shapeCast S1024x1 x shapeCasts_S1024x1_S1024x1 = x := fun α x => shapeCast_self x _
  rw [hsc, hsc]
  obtain ⟨h1, h2⟩ := baseW_toInt c
  unfold andi cmpi broadcast IntOp.andi IntOp.cmpi
  by_cases ho : Owned (v (ix2 (i 0) 0)) c
  · rw [if_pos ho]
    have e1 : (baseW c).sle (v (ix2 (i 0) 0)) = true := by rw [BitVec.sle_iff_toInt_le, h1]; exact ho.1
    have e2 : (v (ix2 (i 0) 0)).slt (Scalar.addi (baseW c) 8192#32) = true := by rw [BitVec.slt_iff_toInt_lt, h2]; exact ho.2
    simp only [e1, e2]
    rfl
  · rw [if_neg ho]
    by_cases e1 : (baseW c).sle (v (ix2 (i 0) 0)) = true
    · have e2 : (v (ix2 (i 0) 0)).slt (Scalar.addi (baseW c) 8192#32) = false := by
        rw [Bool.eq_false_iff]
        intro h
        rw [BitVec.sle_iff_toInt_le, h1] at e1
        rw [BitVec.slt_iff_toInt_lt, h2] at h
        exact ho ⟨e1, h⟩
      simp only [e1, e2]
      rfl
    · simp only [Bool.eq_false_iff.mpr e1]
      show Scalar.select (0#1 &&& _) _ _ = _
      rw [BitVec.zero_and]
      rfl

/-- Rows whose token device c does not have drop out of the masked chunk. -/
theorem mskd_congr (c k : Dev nD) (d : Fin 2) (fg : Vec F S4096x2048 .f32)
    (h : ∀ x ∈ gChunk k, Owned (ids c (ix2 (x 0) 0)) c → fg x = gath ids E c x) :
    mskd (baseW c) (idsAt ids c k) (fun i => fg ((chunkR k d).emb i)) = X ids E c k d := by
  unfold X
  rw [mskd_eq, mskd_eq]
  refine congrArg (fun z => truncf .bf16 z bitsLt_bf16_f32) ?_
  funext i
  have h0 : ((chunkR k d).emb i 0).val = 1024 * k.val + (i 0).val := by
    show 1024 * k.val + 1 * (i 0).val = _; omega
  have hi0 : (i 0).val < 1024 := (i 0).isLt
  by_cases ho : Owned (idsAt ids c k (ix2 (i 0) 0)) c
  · rw [if_pos ho, if_pos ho]
    refine h ((chunkR k d).emb i) (Finset.mem_filter.mpr ⟨Finset.mem_univ _, by rw [h0]; omega⟩) ?_
    have e : (rowsR k).emb (ix2 (i 0) 0) = ix2 ((chunkR k d).emb i 0) 0 := by
      funext a; fin_cases a <;> rfl
    unfold idsAt at ho
    rwa [e] at ho
  · rw [if_neg ho, if_neg ho]

theorem wp_loadIds {α : Type} (c k : Dev nD) {a4 : Memref sig .tc .vmem S4096x1 .i32} {off : Fin 2 → ℕ} {hoff : ∀ a, off a + S1024x1.size a ≤ S4096x1.size a}
    (ho : off = ![1024 * k.val, 0]) {q : PosShare TreeShare} {hl : a4.view.LoadsAt (Rect.unit (s := S4096x1) off S1024x1.size hoff).toLoadRect}
    {kk : Vec F S1024x1 .i32 → Prog (TpuEff nD τ sig (Elt F) Λ₀ .tc) α} {Q : α → sProp 𝕄} :
    (owns (c : Thread nD τ) a4 q (ids c) : sProp 𝕄)
      ⊢ iprop((owns (c : Thread nD τ) a4 q (ids c) -∗ wpc c (kk (idsAt ids c k)) Q)
        -∗ wpc c (.op (.load a4 (Rect.unit (s := S4096x1) off S1024x1.size hoff).toLoadRect hl) kk) Q) := by
  subst ho
  unfold owns
  iintro ⟨%f, %hf, H⟩ Hk
  have hv : (a4.access (Rect.unit (s := S4096x1) ![1024 * k.val, 0] S1024x1.size hoff)).read (Elt F) f = idsAt ids c k := by
    unfold idsAt; rw [← hf]; rfl
  iapply (wp_load_rect 𝒱₀ (c : Thread nD τ) none Set.univ (m := a4) (r := Rect.unit (s := S4096x1) ![1024 * k.val, 0] S1024x1.size hoff) (S := a4.view.set) (f := f) (q := q)
    (View.set_slice_subset _ _)) $$ [H]
  · iexact H
  rw [hv]
  iintro H
  iapply Hk
  iexists f
  isplitr; · ipureintro; exact hf
  iexact H

theorem gChunk_sub (k : Dev nD) (d : Fin 2) : (gM.access (chunkR k d)).set ⊆ gChunk k := by
  refine (le_of_eq (View.set_slice_whole _ _)).trans ?_
  intro x hx
  have h0 : 1024 * k.val ≤ (x 0).val ∧ (x 0).val < 1024 * k.val + 1024 := (Rect.mem_set_unit (i := x)).mp hx 0
  exact Finset.mem_filter.mpr ⟨Finset.mem_univ _, by omega⟩

theorem wp_loadG {α : Type} (c k : Dev nD) (d : Fin 2) {off : Fin 2 → ℕ} {hoff : ∀ a, off a + S1024x1024.size a ≤ S4096x2048.size a}
    (ho : off = ![1024 * k.val, 1024 * d.val]) {hl : gM.view.LoadsAt (Rect.unit (s := S4096x2048) off S1024x1024.size hoff).toLoadRect}
    {kk : Vec F S1024x1024 .f32 → Prog (TpuEff nD τ sig (Elt F) Λ₀ .tc) α} {Q : α → sProp 𝕄} :
    (gotten ids E c k : sProp 𝕄)
      ⊢ iprop((∀ v : Vec F S1024x1024 .f32, ⌜mskd (baseW c) (idsAt ids c k) v = X ids E c k d⌝ -∗ gotten ids E c k -∗ wpc c (kk v) Q)
        -∗ wpc c (.op (.load gM (Rect.unit (s := S4096x2048) off S1024x1024.size hoff).toLoadRect hl) kk) Q) := by
  subst ho
  unfold gotten
  iintro ⟨%f, H, %hf⟩ Hk
  iapply (wp_load_rect 𝒱₀ (c : Thread nD τ) none Set.univ (m := gM) (r := chunkR k d) (S := gChunk k) (f := f) (q := fullShare)
    (gChunk_sub k d)) $$ [H]
  · iexact H
  iintro H
  iapply Hk $$ %_ [] [H]
  · ipureintro; exact mskd_congr ids E c k d f hf
  iexists f
  isplitl [H]; · iexact H
  ipureintro; exact hf

end Loads

end Cert.KernelIdeal.Run
-- ==== Proof.KernelIdeal.Moves.lean ====
/-
  The closed forms of the program's words, offsets, peers and stored values, and the steps that use them.
-/
module

public import proofs.«01_k».proof.Proof.KernelIdeal.Steps

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

local notation "𝕄" => MT nD τ sig Unit (Elt F) ℕ UU ℕ

/-! ## The words, offsets and peers of the program -/

abbrev W2 (c : Dev nD) : BitVec 32 := Scalar.remsi (Scalar.divsi (Dev.word c) 1#32) 4#32
abbrev W5 (c : Dev nD) : BitVec 32 := Scalar.remsi (Scalar.subi (Scalar.addi (W2 c) 4#32) 1#32) 4#32
abbrev W7 (c : Dev nD) : BitVec 32 := Scalar.remsi (Scalar.addi (W2 c) 1#32) 4#32
abbrev W8 (c : Dev nD) : BitVec 32 := Scalar.muli (W2 c) 8192#32
theorem W8_eq (c : Dev nD) : W8 c = baseW c := by revert c; decide

/-- The chunk of group o. -/
def ch (c : Dev nD) (o : Fin 4) : Dev nD := sh c ((![0, 3, 1, 2] : Fin 4 → ℕ) o)

theorem off7 (c : Dev nD) : k0_off7 c = ![1024 * (ch c 0).val, 0] := by revert c; decide
theorem off8 (c : Dev nD) : k0_off8 c = ![1024 * (ch c 0).val, 1024 * (0 : Fin 2).val] := by revert c; decide
theorem off9 (c : Dev nD) : k0_off9 c = ![1024 * (ch c 0).val, 1024 * (1 : Fin 2).val] := by revert c; decide
theorem off22_1 (c : Dev nD) : k0_off22 c 4294967295#32 = ![1024 * (ch c 1).val, 0] := by revert c; decide
theorem off22_0 (c : Dev nD) : k0_off22 c 1#32 = ![1024 * (ch c 2).val, 0] := by revert c; decide
theorem off23 (c : Dev nD) : k0_off23 c = ![1024 * (ch c 1).val, 1024 * (0 : Fin 2).val] := by revert c; decide
theorem off24 (c : Dev nD) : k0_off24 c = ![1024 * (ch c 2).val, 1024 * (1 : Fin 2).val] := by revert c; decide
theorem off31_0 (c : Dev nD) : k0_off31 c 4294967294#32 = ![1024 * (ch c 3).val, 0] := by revert c; decide
theorem off31_1 (c : Dev nD) : k0_off31 c 2#32 = ![1024 * (ch c 3).val, 0] := by revert c; decide
theorem off31_2 (c : Dev nD) : k0_off31 c 4294967293#32 = ![1024 * (ch c 2).val, 0] := by revert c; decide
theorem off31_3 (c : Dev nD) : k0_off31 c 3#32 = ![1024 * (ch c 1).val, 0] := by revert c; decide
theorem off32_1 (c : Dev nD) : k0_off32 c 4294967294#32 = ![1024 * (ch c 3).val, 1024 * (0 : Fin 2).val] := by revert c; decide
theorem off32_0 (c : Dev nD) : k0_off32 c 4294967293#32 = ![1024 * (ch c 2).val, 1024 * (0 : Fin 2).val] := by revert c; decide
theorem off33_0 (c : Dev nD) : k0_off33 c 2#32 = ![1024 * (ch c 3).val, 1024 * (1 : Fin 2).val] := by revert c; decide
theorem off33_1 (c : Dev nD) : k0_off33 c 3#32 = ![1024 * (ch c 1).val, 1024 * (1 : Fin 2).val] := by revert c; decide
theorem off34_m3 (c : Dev nD) : k0_off34 c 4294967293#32 = ![1024 * (gc c 0 0).val, 1024 * (0 : Fin 2).val] := by revert c; decide
theorem off34_1 (c : Dev nD) : k0_off34 c 1#32 = ![1024 * (gc c 0 0).val, 1024 * (0 : Fin 2).val] := by revert c; decide
theorem off34_0 (c : Dev nD) : k0_off34 c 0#32 = ![1024 * (gc c 0 1).val, 1024 * (0 : Fin 2).val] := by revert c; decide
theorem off34_m1 (c : Dev nD) : k0_off34 c 4294967295#32 = ![1024 * (gc c 0 2).val, 1024 * (0 : Fin 2).val] := by revert c; decide
theorem off35_3 (c : Dev nD) : k0_off35 c 3#32 = ![1024 * (gc c 1 0).val, 1024 * (1 : Fin 2).val] := by revert c; decide
theorem off35_m1 (c : Dev nD) : k0_off35 c 4294967295#32 = ![1024 * (gc c 1 0).val, 1024 * (1 : Fin 2).val] := by revert c; decide
theorem off35_0 (c : Dev nD) : k0_off35 c 0#32 = ![1024 * (gc c 1 1).val, 1024 * (1 : Fin 2).val] := by revert c; decide
theorem off35_1 (c : Dev nD) : k0_off35 c 1#32 = ![1024 * (gc c 1 2).val, 1024 * (1 : Fin 2).val] := by revert c; decide
theorem dev1 (c : Dev nD) : (⟨k0_dev1 c, k0_dev1_lt c⟩ : Dev nD) = pv 0 c := by revert c; decide
theorem dev2 (c : Dev nD) : (⟨k0_dev2 c, k0_dev2_lt c⟩ : Dev nD) = pv 1 c := by revert c; decide
theorem dev3 (c : Dev nD) : (⟨k0_dev3 c, k0_dev3_lt c⟩ : Dev nD) = nx 0 c := by revert c; decide
theorem dev4 (c : Dev nD) : (⟨k0_dev4 c, k0_dev4_lt c⟩ : Dev nD) = nx 1 c := by revert c; decide
theorem dev5 (c : Dev nD) : (⟨k0_dev5 c, k0_dev5_lt c⟩ : Dev nD) = nx 0 c := by revert c; decide
theorem dev6 (c : Dev nD) : (⟨k0_dev6 c, k0_dev6_lt c⟩ : Dev nD) = nx 1 c := by revert c; decide
theorem dev7 (c : Dev nD) : (⟨k0_dev7 c, k0_dev7_lt c⟩ : Dev nD) = nx 0 c := by revert c; decide
theorem dev8 (c : Dev nD) : (⟨k0_dev8 c, k0_dev8_lt c⟩ : Dev nD) = nx 1 c := by revert c; decide
theorem dev9 (c : Dev nD) : (⟨k0_dev9 c, k0_dev9_lt c⟩ : Dev nD) = nx 0 c := by revert c; decide
theorem dev10 (c : Dev nD) : (⟨k0_dev10 c, k0_dev10_lt c⟩ : Dev nD) = nx 1 c := by revert c; decide
theorem dev11 (c : Dev nD) : (⟨k0_dev11 c, k0_dev11_lt c⟩ : Dev nD) = nx 0 c := by revert c; decide
theorem dev12 (c : Dev nD) : (⟨k0_dev12 c, k0_dev12_lt c⟩ : Dev nD) = nx 1 c := by revert c; decide
theorem dev13 (c : Dev nD) : (⟨k0_dev13 c, k0_dev13_lt c⟩ : Dev nD) = nx 0 c := by revert c; decide
theorem dev14 (c : Dev nD) : (⟨k0_dev14 c, k0_dev14_lt c⟩ : Dev nD) = nx 1 c := by revert c; decide
theorem gc_next00 (c : Dev nD) : gc (pv 0 c) 0 0 = gc c 0 1 := by revert c; decide
theorem gc_next01 (c : Dev nD) : gc (pv 0 c) 0 1 = gc c 0 2 := by revert c; decide
theorem gc_next10 (c : Dev nD) : gc (pv 1 c) 1 0 = gc c 1 1 := by revert c; decide
theorem gc_next11 (c : Dev nD) : gc (pv 1 c) 1 1 = gc c 1 2 := by revert c; decide

/-- The half-chunk that a device finishes is the one it copies out first. -/
theorem own_gc (c : Dev nD) (d : Fin 2) : own (gc c d 0) d = c := by revert c d; decide

theorem dues_lvl (c : Dev nD) : (dues c).map (fun p => lvS p.1.2) = [1, 1, 2, 2, 3, 3, 4, 4, 5, 5, 6, 6, 7, 7] := rfl
theorem dues_tc (c : Dev nD) : ∀ p ∈ dues c, p.1.1.2 = .tc := by
  intro p hp
  simp only [dues, List.mem_cons, List.not_mem_nil, or_false] at hp
  rcases hp with h | h | h | h | h | h | h | h | h | h | h | h | h | h <;> rw [h] <;> rfl

/-- What is still owed after n payments is above a level. -/
theorem dues_above (c : Dev nD) (n x : ℕ) (h : ∀ y ∈ [1, 1, 2, 2, 3, 3, 4, 4, 5, 5, 6, 6, 7, 7].drop n, x < y) :
    ∀ p ∈ (dues c).drop n, p.1.1.2 = .tc ∧ x < lvS p.1.2 := by
  intro p hp
  refine ⟨dues_tc c p (List.mem_of_mem_drop hp), h _ ?_⟩
  rw [← dues_lvl c, ← List.map_drop]
  exact List.mem_map_of_mem hp

/-! ## The stored values -/

section Pays

variable (c : Dev nD)

theorem pay3 (v : Vec F S1024x1 .i32) (g : Vec F S1024x1024 .f32) {h} :
    shapeCast S1024x1024 (k0_pay3 (k0_pay1 v) (k0_pay2 c v) (Scalar.addi (W8 c) 8192#32) g) h = mskd (baseW c) v g := by
  rw [← W8_eq]; exact shapeCast_shapeCast (mskd (W8 c) v g) _ _
theorem pay4 (v : Vec F S1024x1 .i32) (g : Vec F S1024x1024 .f32) {h} :
    shapeCast S1024x1024 (k0_pay4 (W8 c) v g) h = mskd (baseW c) v g := by
  rw [← W8_eq]; exact shapeCast_shapeCast (mskd (W8 c) v g) _ _
theorem pay8 (Y : FVec F S1024x1024 .bf16) (v : Vec F S1024x1 .i32) (g : Vec F S1024x1024 .f32) {h} {hs} :
    shapeCast S1024x1024 (k0_pay8 (W8 c) (k0_pay5 (shapeCast S1x1x1024x1024 Y hs)) (k0_pay6 v) (k0_pay7 (W8 c)) g) h = addf Y (mskd (baseW c) v g) := by
  rw [← W8_eq]
  have e : shapeCast S1024x1024 (shapeCast S1x1x1024x1024 Y hs) shapeCasts_S1x1x1024x1024_S1024x1024 = Y := shapeCast_shapeCast Y _ _
  refine Eq.trans (b := shapeCast S1024x1024 (shapeCast S1x1x1024x1024 (addf (shapeCast S1024x1024 (shapeCast S1x1x1024x1024 Y hs) shapeCasts_S1x1x1024x1024_S1024x1024) (mskd (W8 c) v g)) shapeCasts_S1024x1024_S1x1x1024x1024) h) rfl ?_
  rw [e, shapeCast_shapeCast]
theorem pay9 (Y : FVec F S1024x1024 .bf16) (v : Vec F S1024x1 .i32) (g : Vec F S1024x1024 .f32) {h} {hs} :
    shapeCast S1024x1024 (k0_pay9 (W8 c) (shapeCast S1x1x1024x1024 Y hs) v g) h = addf Y (mskd (baseW c) v g) := by
  rw [← W8_eq]
  have e : shapeCast S1024x1024 (shapeCast S1x1x1024x1024 Y hs) shapeCasts_S1x1x1024x1024_S1024x1024 = Y := shapeCast_shapeCast Y _ _
  refine Eq.trans (b := shapeCast S1024x1024 (shapeCast S1x1x1024x1024 (addf (shapeCast S1024x1024 (shapeCast S1x1x1024x1024 Y hs) shapeCasts_S1x1x1024x1024_S1024x1024) (mskd (W8 c) v g)) shapeCasts_S1024x1024_S1x1x1024x1024) h) rfl ?_
  rw [e, shapeCast_shapeCast]
theorem pay10 (Y : FVec F S1024x1024 .bf16) (v : Vec F S1024x1 .i32) (g : Vec F S1024x1024 .f32) {h} {hs} :
    shapeCast S1024x1024 (k0_pay10 (W8 c) (shapeCast S1x1x1024x1024 Y hs) v g) h = addf Y (mskd (baseW c) v g) := by
  rw [← W8_eq]
  have e : shapeCast S1024x1024 (shapeCast S1x1x1024x1024 Y hs) shapeCasts_S1x1x1024x1024_S1024x1024 = Y := shapeCast_shapeCast Y _ _
  refine Eq.trans (b := shapeCast S1024x1024 (shapeCast S1x1x1024x1024 (addf (shapeCast S1024x1024 (shapeCast S1x1x1024x1024 Y hs) shapeCasts_S1x1x1024x1024_S1024x1024) (mskd (W8 c) v g)) shapeCasts_S1024x1024_S1x1x1024x1024) h) rfl ?_
  rw [e, shapeCast_shapeCast]
theorem pay13 (Y : FVec F S1024x1024 .bf16) (v : Vec F S1024x1 .i32) (g : Vec F S1024x1024 .f32) {h} {hs} :
    shapeCast S1024x1024 (k0_pay13 (k0_pay11 (shapeCast S1x1x1024x1024 Y hs)) (k0_pay12 (W8 c) v g)) h = addf Y (mskd (baseW c) v g) := by
  rw [← W8_eq]
  have e : shapeCast S1024x1024 (shapeCast S1x1x1024x1024 Y hs) shapeCasts_S1x1x1024x1024_S1024x1024 = Y := shapeCast_shapeCast Y _ _
  refine Eq.trans (b := shapeCast S1024x1024 (shapeCast S1x1x1024x1024 (addf (shapeCast S1024x1024 (shapeCast S1x1x1024x1024 Y hs) shapeCasts_S1x1x1024x1024_S1024x1024) (mskd (W8 c) v g)) shapeCasts_S1024x1024_S1x1x1024x1024) h) rfl ?_
  rw [e, shapeCast_shapeCast]
theorem pay15 (Y : FVec F S1024x1024 .bf16) (v : Vec F S1024x1 .i32) (g : Vec F S1024x1024 .f32) {h} {hs} :
    shapeCast S1024x1024 (k0_pay15 (W8 c) (k0_pay14 (shapeCast S1x1x1024x1024 Y hs)) v g) h = addf Y (mskd (baseW c) v g) := by
  rw [← W8_eq]
  have e : shapeCast S1024x1024 (shapeCast S1x1x1024x1024 Y hs) shapeCasts_S1x1x1024x1024_S1024x1024 = Y := shapeCast_shapeCast Y _ _
  refine Eq.trans (b := shapeCast S1024x1024 (shapeCast S1x1024x1024 (addf (shapeCast S1024x1024 (shapeCast S1x1x1024x1024 Y hs) shapeCasts_S1x1x1024x1024_S1024x1024) (mskd (W8 c) v g)) shapeCasts_S1024x1024_S1x1024x1024) h) rfl ?_
  rw [e, shapeCast_shapeCast]
theorem pay17 (Y : FVec F S1024x1024 .bf16) (v : Vec F S1024x1 .i32) (g : Vec F S1024x1024 .f32) {h} {hs} :
    shapeCast S1024x1024 (k0_pay17 (k0_pay16 (W8 c) (shapeCast S1x1x1024x1024 Y hs) v g)) h = addf Y (mskd (baseW c) v g) := by
  rw [← W8_eq]
  have e : shapeCast S1024x1024 (shapeCast S1x1x1024x1024 Y hs) shapeCasts_S1x1x1024x1024_S1024x1024 = Y := shapeCast_shapeCast Y _ _
  refine Eq.trans (b := shapeCast S1024x1024 (shapeCast S1x1024x1024 (addf (shapeCast S1024x1024 (shapeCast S1x1x1024x1024 Y hs) shapeCasts_S1x1x1024x1024_S1024x1024) (mskd (W8 c) v g)) shapeCasts_S1024x1024_S1x1024x1024) h) rfl ?_
  rw [e, shapeCast_shapeCast]

end Pays

/-! ## Half-chunks of the result, by their offsets -/

section Out

variable {off : Fin 2 → ℕ} {hoff : ∀ a, off a + S1024x1024.size a ≤ S4096x2048.size a} {hw : ∀ a, (Rect.unit (s := S4096x2048) off S1024x1024.size hoff).stride a = 1}

end Out

section Steps

variable (ids : Dev nD → Vec F S4096x1 .i32) (E : Dev nD → Vec F S8192x2048 .f32) (K : GSem nD τ sig → ℕ) (c : Dev nD)

theorem X_own (d : Fin 2) : X ids E c (ch c 0) d = A ids E d 0 c := by
  rw [show ch c 0 = c by revert c; decide]; rfl

/-- What lands in the peer's slot is what its receive cell pays out. -/
theorem recvPay (d : Fin 2) (s : Fin 3) :
    (owns (nx d c : Thread nD τ) (slotM d s) fullShare (A ids E d s.val c) : sProp 𝕄) ⊢ dmaPay ids E (nx d c) 1 d s := by
  show _ ⊢ (owns (nx d c : Thread nD τ) (slotM d s) fullShare (A ids E d s.val (pv d (nx d c))) : sProp 𝕄)
  rw [pv_nx]

theorem gathPay (d : Fin 2) (s : Fin 3) :
    (owns (nx d c : Thread nD τ) (outM (gc c d s) d) fullShare (Fn ids E (gc c d s) d) : sProp 𝕄) ⊢ dmaPay ids E (nx d c) 3 d s := by
  show _ ⊢ (owns (nx d c : Thread nD τ) (outM (gc (pv d (nx d c)) d s) d) fullShare (Fn ids E (gc (pv d (nx d c)) d s) d) : sProp 𝕄)
  rw [pv_nx]

/-- The half-chunk received at one hop is the one sent at the next. -/
theorem recvG (d : Fin 2) (s s' : Fin 3) (h : gc (pv d c) d s = gc c d s') :
    (dmaPay ids E c 3 d s : sProp 𝕄) ⊢ owns (c : Thread nD τ) (outM (gc c d s') d) fullShare (Fn ids E (gc c d s') d) := by
  show (owns (c : Thread nD τ) (outM (gc (pv d c) d s) d) fullShare (Fn ids E (gc (pv d c) d s) d) : sProp 𝕄) ⊢ _
  rw [h]

/-- One hop of the gather between the devices. -/
theorem wp_sendG {α : Type} (d : Fin 2) (s : Fin 3) (l : List Due) {off : Fin 2 → ℕ}
    {hoff hoff' : ∀ a, off a + S1024x1024.size a ≤ S4096x2048.size a} {hw hw'} {c' : Dev nD} {sS sV : DmaSem sig}
    {hsc : (oM.slice (Rect.unit (s := S4096x2048) off S1024x1024.size hoff') hw').view.ref.isScScratch = false}
    (hc : c' = nx d c) (hS : sS = qix 2 d s) (hV : sV = qix 3 d s) (ho : off = ![1024 * (gc c d s).val, 1024 * d.val])
    {hsrc hdst} {hsem : DmaTarget.Typed .hbm (.dma sV) (.remote (c' : Thread nD τ) (oM.slice (Rect.unit (s := S4096x2048) off S1024x1024.size hoff') hw') (.dma sS) hsc)}
    {k : PUnit → Prog (TpuEff nD τ sig (Elt F) Λ₀ .tc) α} {Q : α → sProp 𝕄} :
    iprop(ctx ids E K c ∗ owns (c : Thread nD τ) (outM (gc c d s) d) fullShare (Fn ids E (gc c d s) d) ∗ dstKit c 3 d s (outM (gc c d s) d)
        ∗ owesL c ((cell 3 d s (nx d c), N) :: l) ∗ stepKit c 2 3 d s)
      ⊢ iprop(((waitKit c 2 d s ∗ waitKit c 3 d s ∗ owesL c l) -∗ wpc c (k ⟨⟩) Q)
        -∗ wpc c (.op (.enqueueDma (oM.slice (Rect.unit (s := S4096x2048) off S1024x1024.size hoff) hw)
          (.remote (c' : Thread nD τ) (oM.slice (Rect.unit (s := S4096x2048) off S1024x1024.size hoff') hw') (.dma sS) hsc) (.dma sV) hsrc hdst hsem) k) Q) := by
  subst ho
  exact wp_sendK ids E K c 2 3 d s l (src := outM (gc c d s) d) (dst := outM (gc c d s) d) hc hS hV (Fn ids E (gc c d s) d) .rfl (gathPay ids E c d s)

/-! ## The copies of the device's own half-chunks to the result -/

abbrev outq : DmaSem sig := ⟨9, by decide⟩

abbrev copyDone (d : Fin 2) : sProp 𝕄 :=
  iprop(owns (c : Thread nD τ) (accM d) fullShare (A ids E d 3 c) ∗ owns (c : Thread nD τ) (outM (gc c d 0) d) fullShare (Fn ids E (gc c d 0) d))

theorem wp_copyOut {α : Type} (d : Fin 2) {off : Fin 2 → ℕ} (ho : off = ![1024 * (gc c d 0).val, 1024 * d.val])
    {hoff : ∀ a, off a + S1024x1024.size a ≤ S4096x2048.size a} {hw} {hsrc hdst hsem}
    {k : PUnit → Prog (TpuEff nD τ sig (Elt F) Λ₀ .tc) α} {Q : α → sProp 𝕄} :
    iprop(owns (c : Thread nD τ) (accM d) fullShare (A ids E d 3 c) ∗ anyOwn c (outM (gc c d 0) d)
        ∗ Transfers.Batch EC (c : Thread nD τ) (.dma outq) () N (copyDone ids E c) d.val 0)
      ⊢ iprop((Transfers.Batch EC (c : Thread nD τ) (.dma outq) () N (copyDone ids E c) (d.val + 1) 0 -∗ wpc c (k ⟨⟩) Q)
        -∗ wpc c (.op (.enqueueDma (accM d) (.here (oM.slice (Rect.unit (s := S4096x2048) off S1024x1024.size hoff) hw)) (.dma outq) hsrc hdst hsem) k) Q) := by
  subst ho
  unfold anyOwn owns
  iintro ⟨⟨%fs, %hfs, Hs⟩, ⟨%Y, ⟨%fd, -, Hd⟩⟩, HB⟩ Hk
  iapply (Transfers.wp_dmaBatch EC 𝒱₀ (c : Thread nD τ) none
      (src := accM d) (dst := outM (gc c d 0) d) (sm := .dma outq) (via := ReadAs.same) (j := d.val) (u := 0) (fs := fs) (fd := fd)
      (Sd := (outM (gc c d 0) d).view.set) (q := fullShare) (D := copyDone ids E c)
      () N (credit_eq _) (le_refl _) d.isLt (Nat.zero_le _) ?_) $$ [Hs Hd HB]
  · show iprop(_ ∗ _) ⊢ copyDone ids E c d
    unfold copyDone owns
    iintro ⟨Hd, Hs⟩
    isplitl [Hs]
    · iexists fs
      isplitr; · ipureintro; exact hfs
      iexact Hs
    · iexists ((outM (gc c d 0) d).view.write (Elt F) fd (ReadAs.same.apply ((accM d).view.read (Elt F) fs)) Finset.univ)
      isplitr
      · ipureintro
        rw [View.read_write_univ]
        unfold Fn
        rw [own_gc, ← hfs]
      iexact Hd
  · isplitl [Hs]; · iexact Hs
    isplitl [Hd]; · iexact Hd
    iexact HB
  iexact Hk

theorem wp_waitOuts {α : Type} (l : List Due) (hl : ∀ p ∈ l, p.1.1.2 = .tc ∧ 0 < lvS p.1.2) {sp sp' sp₂ sp₂' : Space}
    {src : Memref sig .tc sp S1024x1024 .bf16} {dst : Memref sig .tc sp' S1024x1024 .bf16} {src₂ : Memref sig .tc sp₂ S1024x1024 .bf16} {dst₂ : Memref sig .tc sp₂' S1024x1024 .bf16}
    {hsrc hdst hsrc₂ hdst₂}
    {k : PUnit → Prog (TpuEff nD τ sig (Elt F) Λ₀ .tc) α} {Q : α → sProp 𝕄} :
    iprop(levAts L lv ∗ Transfers.Batch EC (c : Thread nD τ) (.dma outq) () N (copyDone ids E c) 2 0 ∗ owesL c l)
      ⊢ iprop(((copyDone ids E c 0 ∗ copyDone ids E c 1 ∗ semVal ((c : Thread nD τ), .dma outq) 0 ∗ owesL c l) -∗ wpc c (k ⟨⟩) Q)
        -∗ wpc c (.op (.waitDma2 outq src dst hsrc hdst) fun _ => .op (.waitDma2 outq src₂ dst₂ hsrc₂ hdst₂) k) Q) := by
  have hlv : ∀ p ∈ l, p.1.1.2 = .tc ∧ lvS (.dma outq) < lvS p.1.2 := hl
  unfold owesL
  iintro ⟨#Hlev, HB, ⟨%W, HO⟩⟩ Hk
  iapply (Transfers.wp_waitBatchMulO EC 𝒱₀ (c : Thread nD τ) none () 1 (N := N) (D := copyDone ids E c) (j := 2) (u := 0) (O := oweL l) (W := W) ((Nat.one_mul _).trans (credit_eq dst).symm).symm
    (by have := N_pos; omega)) $$ [HB HO]
  · isplitl [HB]; · iexact HB
    isplitl [HO]; · iexact HO
    iapply (mayWait c (.dma outq) l hlv); iexact Hlev
  iintro ⟨HB, HO⟩
  iapply (Transfers.wp_waitBatchMulO EC 𝒱₀ (c : Thread nD τ) none () 1 (N := N) (D := copyDone ids E c) (j := 2) (u := 0 + 1 * N) (O := oweL l) ((Nat.one_mul _).trans (credit_eq dst₂).symm).symm
    (by have := N_pos; omega)) $$ [HB HO]
  · isplitl [HB]; · iexact HB
    isplitl [HO]; · iexact HO
    iapply (mayWait c (.dma outq) l hlv); iexact Hlev
  iintro ⟨HB, HO⟩
  rw [show 0 + 1 * N + 1 * N = N * 2 by omega]
  imod (Transfers.batch_collect' EC (c : Thread nD τ) N_pos) $$ HB with ⟨HD, Hs⟩
  ihave HD := (show bigSep Finset.univ (copyDone ids E c) ⊢ iprop(copyDone ids E c 0 ∗ copyDone ids E c 1) from Entails.of_eq (BI.bigSep_fin_two (copyDone ids E c))) $$ HD
  icases HD with ⟨H0, H1⟩
  iapply Hk
  isplitl [H0]; · iexact H0
  isplitl [H1]; · iexact H1
  isplitl [Hs]; · iexact Hs
  iexists _; iexact HO

end Steps

end Cert.KernelIdeal.Run
-- ==== Proof.KernelIdeal.Bundles.lean ====
/-
  What the parts of the body hold.
-/
module

public import proofs.«01_k».proof.Proof.KernelIdeal.Moves

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

local notation "𝕄" => MT nD τ sig Unit (Elt F) ℕ UU ℕ

theorem toNat_back (w : BitVec 32) : w = BitVec.ofNat 32 w.toNat := by rw [BitVec.ofNat_toNat, BitVec.setWidth_eq]

section Bundles

variable (ids : Dev nD → Vec F S4096x1 .i32) (E : Dev nD → Vec F S8192x2048 .f32) (c : Dev nD)
  (pm lc : Vec F S4096 .i32) (cn pf : Vec F S4 .i32)
  (a0 : Memref sig .tc .smem S4096 .i32) (h0 : a0.IsWhole) (a1 : Memref sig .tc .smem S4096 .i32) (h1 : a1.IsWhole)
  (a2 : Memref sig .tc .smem S4 .i32) (h2 : a2.IsWhole) (a3 : Memref sig .tc .smem S4 .i32) (h3 : a3.IsWhole)
  (a4 : Memref sig .tc .vmem S4096x1 .i32) (h4 : a4.IsWhole)

/-- The staged inputs: the order, the local rows, the counts, the prefix sums and the ids. -/
abbrev smem : sProp 𝕄 :=
  iprop(owns (c : Thread nD τ) a0 fullShare pm ∗ owns (c : Thread nD τ) a1 fullShare lc ∗ owns (c : Thread nD τ) a2 fullShare cn
    ∗ owns (c : Thread nD τ) a3 fullShare pf ∗ owns (c : Thread nD τ) a4 fullShare (ids c))

/-- What the gather of group o takes, and what it gives back. -/
abbrev grp (o : Fin 4) : sProp 𝕄 :=
  iprop((∃ fg : Vec F S4096x2048 .f32, gL c ↦[gChunk (ch c o)]{fullShare} fg) ∗ semVal ((c : Thread nD τ), .dma (gsem o)) 0)
abbrev grpDone (o : Fin 4) : sProp 𝕄 :=
  iprop(gotten ids E c (ch c o) ∗ semVal ((c : Thread nD τ), .dma (gsem o)) 0)

/-- The host's plan for the four groups. -/
def Plans : Prop := ∀ o : Fin 4, Plan c (ch c o) (ids c) pm lc (at4 (F := F) pf o.val).toNat (at4 (F := F) cn o.val).toNat

variable {ids E c pm lc cn pf a0 a1 a2 a3 a4}

/-- The bounds that the program assumes of a group hold of the plan. -/
theorem Plans.chk1 (hP : Plans ids c pm lc cn pf) (o : Fin 4) : k0_chk1 (at4 (F := F) pf o.val) (at4 (F := F) cn o.val) := by
  have h := chk1_of (hP o).le
  rwa [← toNat_back, ← toNat_back] at h
theorem Plans.chk6 (hP : Plans ids c pm lc cn pf) (o : Fin 4) : k0_chk6 (at4 (F := F) cn o.val) := by
  have h := chk6_of (n := (at4 (F := F) cn o.val).toNat) (le_trans (Nat.le_add_left _ _) (hP o).le)
  rwa [← toNat_back] at h

end Bundles

end Cert.KernelIdeal.Run
-- ==== Proof.KernelIdeal.Parts1.lean ====
/-
  Parts 1 to 4 of the body: the gathers and the first exchange.
-/
module

public import proofs.«01_k».proof.Proof.KernelIdeal.Bundles

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

local notation "𝕄" => MT nD τ sig Unit (Elt F) ℕ UU ℕ

section Parts

variable (ids : Dev nD → Vec F S4096x1 .i32) (E : Dev nD → Vec F S8192x2048 .f32) (K : GSem nD τ sig → ℕ) (c : Dev nD)
  (pm lc : Vec F S4096 .i32) (cn pf : Vec F S4 .i32)
  (a0 : Memref sig .tc .smem S4096 .i32) (h0 : a0.IsWhole) (a1 : Memref sig .tc .smem S4096 .i32) (h1 : a1.IsWhole)
  (a2 : Memref sig .tc .smem S4 .i32) (h2 : a2.IsWhole) (a3 : Memref sig .tc .smem S4 .i32) (h3 : a3.IsWhole)
  (a4 : Memref sig .tc .vmem S4096x1 .i32) (h4 : a4.IsWhole)

/-- Part 1: the gather of the device's own chunk. -/
theorem part1_run (hP : Plans ids c pm lc cn pf) :
    iprop(ctx ids E K c ∗ smem ids c pm lc cn pf a0 a1 a2 a3 a4 ∗ grp (F := F) c 0 ∗ (eL c ↦[Finset.univ]{fullShare} (E c)) ∗ owesL c ((dues c).drop 0))
      ⊢ wpc c (k0_part1 (F := F) a0 h0 a1 h1 a2 h2 a3 h3 a4 h4 eM (Memref.isWhole_whole _) oM (Memref.isWhole_whole _) gM (Memref.isWhole_whole _) rM (Memref.isWhole_whole _) aM (Memref.isWhole_whole _) cc0_scratch3 cc0_scratch4 cc0_scratch5 cc0_scratch6 cc0_scratch7 cc0_scratch8 )
        (fun v => iprop(⌜v = ⟨c, W2 c, W5 c, W7 c, W8 c, k0_pay1 (idsAt ids c (ch c 0)), k0_pay2 c (idsAt ids c (ch c 0)), Scalar.addi (W8 c) 8192#32⟩⌝ ∗ smem ids c pm lc cn pf a0 a1 a2 a3 a4 ∗ grpDone ids E c 0 ∗ (eL c ↦[Finset.univ]{fullShare} (E c)) ∗ owesL c ((dues c).drop 0))) := by
  rw [k0_part1_eq_skeleton]
  unfold k0_part1_skel
  iintro ⟨#HC, S, G0, E, O0⟩
  iapply (wpc_deviceId c)
  unfold smem; icases S with ⟨H0, H1, H2, H3, H4⟩
  iapply (wp_sload c (hn := numel1_S1) (hp := rfl) 0 rfl pf) $$ H3; iintro H3
  iapply (wp_sload c (hn := numel1_S1) (hp := rfl) 0 rfl cn) $$ H2; iintro H2
  iapply (wpc_assume c (hP.chk1 0))
  icases G0 with ⟨Hg, Hs⟩
  iapply (wp_issueGroup ids E c (ch c 0) 0 pm lc _ _ fullShare (hP 0) (toNat_back _) (toNat_back _) (fun t u => ⟨_, rfl⟩)) $$ [Hg E Hs H0 H1]
  · isplitl [Hg]; · iexact Hg
    isplitl [E]; · iexact E
    isplitl [Hs]; · iexact Hs
    isplitl [H0]; · iexact H0
    iexact H1
  iintro ⟨Hf, H0, H1⟩
  iapply (wp_sload c (hn := numel1_S1) (hp := rfl) 0 rfl cn) $$ H2; iintro H2
  iapply (wpc_assume c (hP.chk6 0))
  iapply (wp_drainGroup ids E c (ch c 0) 0 pm lc _ _ fullShare (hP 0) ((dues c).drop 0) (dues_above c 0 0 (by decide)) (toNat_back _) (fun t u => rfl)) $$ [Hf O0]
  · isplitr; · iapply (ctx_lev ids E K c); iexact HC
    isplitl [Hf]; · iexact Hf
    iexact O0
  iintro ⟨Hg, E, Hs, O0⟩
  ihave D0 := (show _ ⊢ grpDone ids E c 0 from .rfl) $$ [Hg Hs]
  · isplitl [Hg]; · iexact Hg
    iexact Hs
  iapply (wp_loadIds ids c (ch c 0) (off7 c)) $$ H4; iintro H4
  ihave S := (show _ ⊢ smem ids c pm lc cn pf a0 a1 a2 a3 a4 from .rfl) $$ [H0 H1 H2 H3 H4]
  · unfold smem
    isplitl [H0]; · iexact H0
    isplitl [H1]; · iexact H1
    isplitl [H2]; · iexact H2
    isplitl [H3]; · iexact H3
    iexact H4
  iapply (wpc_ret c)
  isplitr; · ipureintro; rfl
  isplitl [S]; · iexact S
  isplitl [D0]; · iexact D0
  isplitl [E]; · iexact E
  iexact O0

/-- Part 2: the two halves of the own chunk, and the signal to the device before. -/
theorem part2_run (v2 v5 : BitVec 32) :
    iprop(ctx ids E K c ∗ smem ids c pm lc cn pf a0 a1 a2 a3 a4 ∗ grpDone ids E c 0 ∗ anyOwn c (accM 0) ∗ anyOwn c (accM 1) ∗ dutyTok ER (barCell (pv 0 c)) 0 0 ∗ barPay (F := F) (pv 0 c) 0 ∗ owesL c ((dues c).drop 0))
      ⊢ wpc c (k0_part2 (F := F) a0 h0 a1 h1 a2 h2 a3 h3 a4 h4 eM (Memref.isWhole_whole _) oM (Memref.isWhole_whole _) gM (Memref.isWhole_whole _) rM (Memref.isWhole_whole _) aM (Memref.isWhole_whole _) cc0_scratch3 cc0_scratch4 cc0_scratch5 cc0_scratch6 cc0_scratch7 cc0_scratch8 c v2 v5 (W8 c) (k0_pay1 (idsAt ids c (ch c 0))) (k0_pay2 c (idsAt ids c (ch c 0))) (Scalar.addi (W8 c) 8192#32))
        (fun v => iprop(⌜v = SemArray.scalar (sig.barrier 0 rfl)⌝ ∗ smem ids c pm lc cn pf a0 a1 a2 a3 a4 ∗ grpDone ids E c 0 ∗ owns (c : Thread nD τ) (accM 0) fullShare (A ids E 0 0 c) ∗ owns (c : Thread nD τ) (accM 1) fullShare (A ids E 1 0 c) ∗ owesL c ((dues c).drop 1))) := by
  rw [k0_part2_eq_skeleton]
  unfold k0_part2_skel
  iintro ⟨#HC, S, D0, A0x, A1x, BT0, BP0, O0⟩
  unfold smem; icases S with ⟨H0, H1, H2, H3, H4⟩
  icases D0 with ⟨Hg, Hs⟩
  iapply (wp_loadG ids E c (ch c 0) 0 (off8 c)) $$ Hg
  iintro %g %hg Hg
  ihave D0 := (show _ ⊢ grpDone ids E c 0 from .rfl) $$ [Hg Hs]
  · isplitl [Hg]; · iexact Hg
    iexact Hs
  icases A0x with ⟨%Y, A0x⟩
  iapply (wp_loadSlot c (m := aM) (r := accR 0) (fun _ => rfl) squeezes_S1x1024x1024_S1024x1024 shapeCasts_S1024x1024_S1x1024x1024 (Y)) $$ A0x; iintro A0x
  iapply (wp_storeSlot c (m := aM) (r := accR 0) (fun _ => rfl) squeezes_S1x1024x1024_S1024x1024) $$ [A0x]
  · iexists _; iexact A0x
  iintro A0_0
  ihave A0_0 := (Entails.of_eq (congrArg (fun z => owns (c : Thread nD τ) (accM 0) fullShare (z)) (((pay3 c _ g).trans hg).trans (X_own ids E c 0)))) $$ A0_0
  iapply (wp_loadIds ids c (ch c 0) (off7 c)) $$ H4; iintro H4
  icases D0 with ⟨Hg, Hs⟩
  iapply (wp_loadG ids E c (ch c 0) 1 (off9 c)) $$ Hg
  iintro %g' %hg' Hg
  ihave D0 := (show _ ⊢ grpDone ids E c 0 from .rfl) $$ [Hg Hs]
  · isplitl [Hg]; · iexact Hg
    iexact Hs
  icases A1x with ⟨%Y', A1x⟩
  iapply (wp_loadSlot c (m := aM) (r := accR 1) (fun _ => rfl) squeezes_S1x1024x1024_S1024x1024 shapeCasts_S1024x1024_S1x1024x1024 (Y')) $$ A1x; iintro A1x
  iapply (wp_storeSlot c (m := aM) (r := accR 1) (fun _ => rfl) squeezes_S1x1024x1024_S1024x1024) $$ [A1x]
  · iexists _; iexact A1x
  iintro A1_0
  ihave A1_0 := (Entails.of_eq (congrArg (fun z => owns (c : Thread nD τ) (accM 1) fullShare (z)) (((pay4 c _ g').trans hg').trans (X_own ids E c 1)))) $$ A1_0
  iapply (wp_signalBar ids E K c 0 ((dues c).drop 1) (dev1 c)) $$ [O0 BT0 BP0]
  · isplitr; · iapply (ctx_invs ids E K c); iexact HC
    isplitl [O0]; · iexact O0
    isplitl [BT0]; · iexact BT0
    isplitl [BP0]; · iexact BP0
    iapply (ctx_bar ids E K c 0); iexact HC
  iintro O1
  ihave S := (show _ ⊢ smem ids c pm lc cn pf a0 a1 a2 a3 a4 from .rfl) $$ [H0 H1 H2 H3 H4]
  · unfold smem
    isplitl [H0]; · iexact H0
    isplitl [H1]; · iexact H1
    isplitl [H2]; · iexact H2
    isplitl [H3]; · iexact H3
    iexact H4
  iapply (wpc_ret c)
  isplitr; · ipureintro; rfl
  isplitl [S]; · iexact S
  isplitl [D0]; · iexact D0
  isplitl [A0_0]; · iexact A0_0
  isplitl [A1_0]; · iexact A1_0
  iexact O1

/-- Part 3: the barrier, and the first two copies of the reduce-scatter. -/
theorem part3_run (v5 v7 : BitVec 32) :
    iprop(ctx ids E K c ∗ dutyTok ER (barCell (pv 1 c)) 0 1 ∗ barPay (F := F) (pv 1 c) 1 ∗ owesL c ((dues c).drop 1) ∗ cred (tallyAt (barCell c) () 2) ∗ atPos ER (barCell c) 0 ∅ 0 ∗ owns (c : Thread nD τ) (accM 0) fullShare (A ids E 0 0 c) ∗ owns (c : Thread nD τ) (accM 1) fullShare (A ids E 1 0 c) ∗ stepKit c 0 1 0 0 ∗ stepKit c 0 1 1 0 ∗ smem ids c pm lc cn pf a0 a1 a2 a3 a4)
      ⊢ wpc c (k0_part3 (F := F) a0 h0 a1 h1 a2 h2 a3 h3 a4 h4 eM (Memref.isWhole_whole _) oM (Memref.isWhole_whole _) gM (Memref.isWhole_whole _) rM (Memref.isWhole_whole _) aM (Memref.isWhole_whole _) cc0_scratch3 cc0_scratch4 cc0_scratch5 cc0_scratch6 cc0_scratch7 cc0_scratch8 c v5 v7 (SemArray.scalar (sig.barrier 0 rfl)))
        (fun v => iprop(⌜v = ⟨at4 (F := F) pf (1 : Fin 4).val, at4 (F := F) cn (1 : Fin 4).val⟩⌝ ∗ atPos ER (barCell c) 1 ∅ 0 ∗ dstKit c 1 0 1 (slotM 0 1) ∗ dstKit c 1 0 2 (slotM 0 2) ∗ dstKit c 1 1 1 (slotM 1 1) ∗ dstKit c 1 1 2 (slotM 1 2) ∗ dstKit c 3 0 0 (outM (gc c 0 0) 0) ∗ dstKit c 3 0 1 (outM (gc c 0 1) 0) ∗ dstKit c 3 0 2 (outM (gc c 0 2) 0) ∗ dstKit c 3 1 0 (outM (gc c 1 0) 1) ∗ dstKit c 3 1 1 (outM (gc c 1 1) 1) ∗ dstKit c 3 1 2 (outM (gc c 1 2) 1) ∗ waitKit c 0 0 0 ∗ waitKit c 1 0 0 ∗ waitKit c 0 1 0 ∗ waitKit c 1 1 0 ∗ smem ids c pm lc cn pf a0 a1 a2 a3 a4 ∗ owesL c ((dues c).drop 4))) := by
  rw [k0_part3_eq_skeleton]
  unfold k0_part3_skel
  iintro ⟨#HC, BT1, BP1, O1, BC, BA, A0_0, A1_0, SK1_00, SK1_10, S⟩
  iapply (wp_signalBar ids E K c 1 ((dues c).drop 2) (dev2 c)) $$ [O1 BT1 BP1]
  · isplitr; · iapply (ctx_invs ids E K c); iexact HC
    isplitl [O1]; · iexact O1
    isplitl [BT1]; · iexact BT1
    isplitl [BP1]; · iexact BP1
    iapply (ctx_bar ids E K c 1); iexact HC
  iintro O2
  iapply (wp_waitBar ids E K c ((dues c).drop 2) (dues_above c 2 1 (by decide))) $$ [BC O2 BA]
  · isplitr; · iapply (ctx_invs ids E K c); iexact HC
    isplitr; · iapply (ctx_lev ids E K c); iexact HC
    isplitl [BC]; · iexact BC
    isplitl [O2]; · iexact O2
    iexact BA
  iintro ⟨O2, BD, L0, L1⟩
  unfold barPay lend
  icases L0 with ⟨⟨S00, T00, #r00, #t00⟩, ⟨S01, T01, #r01, #t01⟩, ⟨S02, T02, #r02, #t02⟩⟩
  icases L1 with ⟨⟨S10, T10, #r10, #t10⟩, ⟨S11, T11, #r11, #t11⟩, ⟨S12, T12, #r12, #t12⟩⟩
  ihave DS00 := (show _ ⊢ dstKit c 1 0 0 (slotM 0 0) from .rfl) $$ [S00]
  · isplitl [S00]; · iexact S00
    iexact r00
  ihave DS01 := (show _ ⊢ dstKit c 1 0 1 (slotM 0 1) from .rfl) $$ [S01]
  · isplitl [S01]; · iexact S01
    iexact r01
  ihave DS02 := (show _ ⊢ dstKit c 1 0 2 (slotM 0 2) from .rfl) $$ [S02]
  · isplitl [S02]; · iexact S02
    iexact r02
  ihave DS10 := (show _ ⊢ dstKit c 1 1 0 (slotM 1 0) from .rfl) $$ [S10]
  · isplitl [S10]; · iexact S10
    iexact r10
  ihave DS11 := (show _ ⊢ dstKit c 1 1 1 (slotM 1 1) from .rfl) $$ [S11]
  · isplitl [S11]; · iexact S11
    iexact r11
  ihave DS12 := (show _ ⊢ dstKit c 1 1 2 (slotM 1 2) from .rfl) $$ [S12]
  · isplitl [S12]; · iexact S12
    iexact r12
  ihave DG00 := (show _ ⊢ dstKit c 3 0 0 (outM (gc c 0 0) 0) from .rfl) $$ [T00]
  · isplitl [T00]; · iexact T00
    iexact t00
  ihave DG01 := (show _ ⊢ dstKit c 3 0 1 (outM (gc c 0 1) 0) from .rfl) $$ [T01]
  · isplitl [T01]; · iexact T01
    iexact t01
  ihave DG02 := (show _ ⊢ dstKit c 3 0 2 (outM (gc c 0 2) 0) from .rfl) $$ [T02]
  · isplitl [T02]; · iexact T02
    iexact t02
  ihave DG10 := (show _ ⊢ dstKit c 3 1 0 (outM (gc c 1 0) 1) from .rfl) $$ [T10]
  · isplitl [T10]; · iexact T10
    iexact t10
  ihave DG11 := (show _ ⊢ dstKit c 3 1 1 (outM (gc c 1 1) 1) from .rfl) $$ [T11]
  · isplitl [T11]; · iexact T11
    iexact t11
  ihave DG12 := (show _ ⊢ dstKit c 3 1 2 (outM (gc c 1 2) 1) from .rfl) $$ [T12]
  · isplitl [T12]; · iexact T12
    iexact t12
  iapply (wp_sendK ids E K c 0 1 0 0 ((dues c).drop 3) (dev3 c) rfl rfl (A ids E 0 (Fin.val (n := 3) 0) c) .rfl (recvPay ids E c 0 0)) $$ [A0_0 DS00 O2 SK1_00]
  · isplitr; · iexact HC
    isplitl [A0_0]; · iexact A0_0
    isplitl [DS00]; · iexact DS00
    isplitl [O2]; · iexact O2
    iexact SK1_00
  iintro ⟨W0_00, W1_00, O3⟩
  iapply (wp_sendK ids E K c 0 1 1 0 ((dues c).drop 4) (dev4 c) rfl rfl (A ids E 1 (Fin.val (n := 3) 0) c) .rfl (recvPay ids E c 1 0)) $$ [A1_0 DS10 O3 SK1_10]
  · isplitr; · iexact HC
    isplitl [A1_0]; · iexact A1_0
    isplitl [DS10]; · iexact DS10
    isplitl [O3]; · iexact O3
    iexact SK1_10
  iintro ⟨W0_10, W1_10, O4⟩
  unfold smem; icases S with ⟨H0, H1, H2, H3, H4⟩
  iapply (wp_sload c (hn := numel1_S1) (hp := rfl) 1 rfl pf) $$ H3; iintro H3
  iapply (wp_sload c (hn := numel1_S1) (hp := rfl) 1 rfl cn) $$ H2; iintro H2
  ihave S := (show _ ⊢ smem ids c pm lc cn pf a0 a1 a2 a3 a4 from .rfl) $$ [H0 H1 H2 H3 H4]
  · unfold smem
    isplitl [H0]; · iexact H0
    isplitl [H1]; · iexact H1
    isplitl [H2]; · iexact H2
    isplitl [H3]; · iexact H3
    iexact H4
  iapply (wpc_ret c)
  isplitr; · ipureintro; rfl
  isplitl [BD]; · iexact BD
  isplitl [DS01]; · iexact DS01
  isplitl [DS02]; · iexact DS02
  isplitl [DS11]; · iexact DS11
  isplitl [DS12]; · iexact DS12
  isplitl [DG00]; · iexact DG00
  isplitl [DG01]; · iexact DG01
  isplitl [DG02]; · iexact DG02
  isplitl [DG10]; · iexact DG10
  isplitl [DG11]; · iexact DG11
  isplitl [DG12]; · iexact DG12
  isplitl [W0_00]; · iexact W0_00
  isplitl [W1_00]; · iexact W1_00
  isplitl [W0_10]; · iexact W0_10
  isplitl [W1_10]; · iexact W1_10
  isplitl [S]; · iexact S
  iexact O4

/-- Part 4: the gather of the two neighbours' chunks. -/
theorem part4_run (hP : Plans ids c pm lc cn pf) :
    iprop(ctx ids E K c ∗ smem ids c pm lc cn pf a0 a1 a2 a3 a4 ∗ grp (F := F) c 1 ∗ grp (F := F) c 2 ∗ (eL c ↦[Finset.univ]{fullShare.left} (E c)) ∗ (eL c ↦[Finset.univ]{fullShare.right} (E c)) ∗ owesL c ((dues c).drop 4))
      ⊢ wpc c (k0_part4 (F := F) a0 h0 a1 h1 a2 h2 a3 h3 a4 h4 eM (Memref.isWhole_whole _) oM (Memref.isWhole_whole _) gM (Memref.isWhole_whole _) rM (Memref.isWhole_whole _) aM (Memref.isWhole_whole _) cc0_scratch3 cc0_scratch4 cc0_scratch5 cc0_scratch6 cc0_scratch7 cc0_scratch8 (at4 (F := F) pf (1 : Fin 4).val) (at4 (F := F) cn (1 : Fin 4).val))
        (fun _ => iprop(smem ids c pm lc cn pf a0 a1 a2 a3 a4 ∗ grpDone ids E c 1 ∗ grpDone ids E c 2 ∗ (eL c ↦[Finset.univ]{fullShare.left} (E c)) ∗ (eL c ↦[Finset.univ]{fullShare.right} (E c)) ∗ owesL c ((dues c).drop 4))) := by
  rw [k0_part4_eq_skeleton]
  unfold k0_part4_skel
  iintro ⟨#HC, S, G1, G2, EL, ER_, O4⟩
  unfold smem; icases S with ⟨H0, H1, H2, H3, H4⟩
  iapply (wpc_assume c (hP.chk1 1))
  icases G1 with ⟨Hg, Hs⟩
  iapply (wp_issueGroup ids E c (ch c 1) 1 pm lc _ _ fullShare.left (hP 1) (toNat_back _) (toNat_back _) (fun t u => ⟨_, rfl⟩)) $$ [Hg EL Hs H0 H1]
  · isplitl [Hg]; · iexact Hg
    isplitl [EL]; · iexact EL
    isplitl [Hs]; · iexact Hs
    isplitl [H0]; · iexact H0
    iexact H1
  iintro ⟨Hf1, H0, H1⟩
  iapply (wp_sload c (hn := numel1_S1) (hp := rfl) 2 rfl pf) $$ H3; iintro H3
  iapply (wp_sload c (hn := numel1_S1) (hp := rfl) 2 rfl cn) $$ H2; iintro H2
  iapply (wpc_assume c (hP.chk1 2))
  icases G2 with ⟨Hg, Hs⟩
  iapply (wp_issueGroup ids E c (ch c 2) 2 pm lc _ _ fullShare.right (hP 2) (toNat_back _) (toNat_back _) (fun t u => ⟨_, rfl⟩)) $$ [Hg ER_ Hs H0 H1]
  · isplitl [Hg]; · iexact Hg
    isplitl [ER_]; · iexact ER_
    isplitl [Hs]; · iexact Hs
    isplitl [H0]; · iexact H0
    iexact H1
  iintro ⟨Hf2, H0, H1⟩
  iapply (wp_sload c (hn := numel1_S1) (hp := rfl) 1 rfl cn) $$ H2; iintro H2
  iapply (wpc_assume c (hP.chk6 1))
  iapply (wp_drainGroup ids E c (ch c 1) 1 pm lc _ _ fullShare.left (hP 1) ((dues c).drop 4) (dues_above c 4 0 (by decide)) (toNat_back _) (fun t u => rfl)) $$ [Hf1 O4]
  · isplitr; · iapply (ctx_lev ids E K c); iexact HC
    isplitl [Hf1]; · iexact Hf1
    iexact O4
  iintro ⟨Hg, EL, Hs, O4⟩
  ihave D1 := (show _ ⊢ grpDone ids E c 1 from .rfl) $$ [Hg Hs]
  · isplitl [Hg]; · iexact Hg
    iexact Hs
  iapply (wp_sload c (hn := numel1_S1) (hp := rfl) 2 rfl cn) $$ H2; iintro H2
  iapply (wpc_assume c (hP.chk6 2))
  iapply (wp_drainGroup ids E c (ch c 2) 2 pm lc _ _ fullShare.right (hP 2) ((dues c).drop 4) (dues_above c 4 0 (by decide)) (toNat_back _) (fun t u => rfl)) $$ [Hf2 O4]
  · isplitr; · iapply (ctx_lev ids E K c); iexact HC
    isplitl [Hf2]; · iexact Hf2
    iexact O4
  iintro ⟨Hg, ER_, Hs, O4⟩
  ihave D2 := (show _ ⊢ grpDone ids E c 2 from .rfl) $$ [Hg Hs]
  · isplitl [Hg]; · iexact Hg
    iexact Hs
  ihave S := (show _ ⊢ smem ids c pm lc cn pf a0 a1 a2 a3 a4 from .rfl) $$ [H0 H1 H2 H3 H4]
  · unfold smem
    isplitl [H0]; · iexact H0
    isplitl [H1]; · iexact H1
    isplitl [H2]; · iexact H2
    isplitl [H3]; · iexact H3
    iexact H4
  iapply (wpc_ret c)
  isplitl [S]; · iexact S
  isplitl [D1]; · iexact D1
  isplitl [D2]; · iexact D2
  isplitl [EL]; · iexact EL
  isplitl [ER_]; · iexact ER_
  iexact O4

end Parts

end Cert.KernelIdeal.Run
-- ==== Proof.KernelIdeal.Parts2.lean ====
/-
  Parts 5 to 10 of the body: the first and second sums.
-/
module

public import proofs.«01_k».proof.Proof.KernelIdeal.Bundles

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

local notation "𝕄" => MT nD τ sig Unit (Elt F) ℕ UU ℕ

section Parts

variable (ids : Dev nD → Vec F S4096x1 .i32) (E : Dev nD → Vec F S8192x2048 .f32) (K : GSem nD τ sig → ℕ) (c : Dev nD)
  (pm lc : Vec F S4096 .i32) (cn pf : Vec F S4 .i32)
  (a0 : Memref sig .tc .smem S4096 .i32) (h0 : a0.IsWhole) (a1 : Memref sig .tc .smem S4096 .i32) (h1 : a1.IsWhole)
  (a2 : Memref sig .tc .smem S4 .i32) (h2 : a2.IsWhole) (a3 : Memref sig .tc .smem S4 .i32) (h3 : a3.IsWhole)
  (a4 : Memref sig .tc .vmem S4096x1 .i32) (h4 : a4.IsWhole)

/-- Part 5: the first arrival of direction 0. -/
theorem part5_run (v2 v7 : BitVec 32) :
    iprop(ctx ids E K c ∗ waitKit c 0 0 0 ∗ waitKit c 1 0 0 ∗ smem ids c pm lc cn pf a0 a1 a2 a3 a4 ∗ owesL c ((dues c).drop 4))
      ⊢ wpc c (k0_part5 (F := F) a0 h0 a1 h1 a2 h2 a3 h3 a4 h4 eM (Memref.isWhole_whole _) oM (Memref.isWhole_whole _) gM (Memref.isWhole_whole _) rM (Memref.isWhole_whole _) aM (Memref.isWhole_whole _) cc0_scratch3 cc0_scratch4 cc0_scratch5 cc0_scratch6 cc0_scratch7 cc0_scratch8 c v2 v7 (W8 c))
        (fun v => iprop(∃ w, ⌜v = ⟨w, k0_pay5 (shapeCast S1x1x1024x1024 (A ids E 0 0 (pv 0 c)) shapeCasts_S1024x1024_S1x1x1024x1024), k0_pay6 (idsAt ids c (ch c 1)), k0_pay7 (W8 c)⟩⌝ ∗ smem ids c pm lc cn pf a0 a1 a2 a3 a4 ∗ done c 0 0 0 ∗ done c 1 0 0 ∗ owns (c : Thread nD τ) (accM 0) fullShare (A ids E 0 0 c) ∗ owns (c : Thread nD τ) (slotM 0 0) fullShare (A ids E 0 0 (pv 0 c)) ∗ owesL c ((dues c).drop 4))) := by
  rw [k0_part5_eq_skeleton]
  unfold k0_part5_skel
  iintro ⟨#HC, W0_00, W1_00, S, O4⟩
  iapply (wp_waitK ids E K c 0 0 0 ((dues c).drop 4) rfl (dues_above c 4 _ (by decide))) $$ [W0_00 O4]
  · isplitr; · iexact HC
    isplitl [W0_00]; · iexact W0_00
    iexact O4
  iintro ⟨O4, N0_00, A0_0⟩
  ihave A0_0 := (show (dmaPay ids E c 0 0 0 : sProp 𝕄) ⊢ owns (c : Thread nD τ) (accM 0) fullShare (A ids E 0 0 c) from Entails.of_eq rfl) $$ A0_0
  iapply (wp_waitK ids E K c 1 0 0 ((dues c).drop 4) rfl (dues_above c 4 _ (by decide))) $$ [W1_00 O4]
  · isplitr; · iexact HC
    isplitl [W1_00]; · iexact W1_00
    iexact O4
  iintro ⟨O4, N1_00, R00⟩
  ihave R00 := (show (dmaPay ids E c 1 0 0 : sProp 𝕄) ⊢ owns (c : Thread nD τ) (slotM 0 0) fullShare (A ids E 0 0 (pv 0 c)) from Entails.of_eq rfl) $$ R00
  unfold smem; icases S with ⟨H0, H1, H2, H3, H4⟩
  iapply (wp_loadSlot c (m := rM) (r := slotR 0 0) (fun _ => rfl) squeezes_S1x1x1024x1024_S1024x1024 shapeCasts_S1024x1024_S1x1x1024x1024 (A ids E 0 0 (pv 0 c))) $$ R00; iintro R00
  iapply (wp_loadIds ids c (ch c 1) (off22_1 c)) $$ H4; iintro H4
  ihave S := (show _ ⊢ smem ids c pm lc cn pf a0 a1 a2 a3 a4 from .rfl) $$ [H0 H1 H2 H3 H4]
  · unfold smem
    isplitl [H0]; · iexact H0
    isplitl [H1]; · iexact H1
    isplitl [H2]; · iexact H2
    isplitl [H3]; · iexact H3
    iexact H4
  iapply (wpc_ret c)
  iexists _; isplitr; · ipureintro; rfl
  isplitl [S]; · iexact S
  isplitl [N0_00]; · iexact N0_00
  isplitl [N1_00]; · iexact N1_00
  isplitl [A0_0]; · iexact A0_0
  isplitl [R00]; · iexact R00
  iexact O4

/-- Part 6: the first sum of direction 0. -/
theorem part6_run (v5 w : BitVec 32) :
    iprop(ctx ids E K c ∗ grpDone ids E c 1 ∗ owns (c : Thread nD τ) (slotM 0 0) fullShare (A ids E 0 0 (pv 0 c)) ∗ waitKit c 0 1 0 ∗ owesL c ((dues c).drop 4))
      ⊢ wpc c (k0_part6 (F := F) a0 h0 a1 h1 a2 h2 a3 h3 a4 h4 eM (Memref.isWhole_whole _) oM (Memref.isWhole_whole _) gM (Memref.isWhole_whole _) rM (Memref.isWhole_whole _) aM (Memref.isWhole_whole _) cc0_scratch3 cc0_scratch4 cc0_scratch5 cc0_scratch6 cc0_scratch7 cc0_scratch8 c v5 (W8 c) w (k0_pay5 (shapeCast S1x1x1024x1024 (A ids E 0 0 (pv 0 c)) shapeCasts_S1024x1024_S1x1x1024x1024)) (k0_pay6 (idsAt ids c (ch c 1))) (k0_pay7 (W8 c)))
        (fun _ => iprop(grpDone ids E c 1 ∗ owns (c : Thread nD τ) (slotM 0 0) fullShare (A ids E 0 1 c) ∗ done c 0 1 0 ∗ owns (c : Thread nD τ) (accM 1) fullShare (A ids E 1 0 c) ∗ owesL c ((dues c).drop 4))) := by
  rw [k0_part6_eq_skeleton]
  unfold k0_part6_skel
  iintro ⟨#HC, D1, R00, W0_10, O4⟩
  icases D1 with ⟨Hg, Hs⟩
  iapply (wp_loadG ids E c (ch c 1) 0 (off23 c)) $$ Hg
  iintro %g %hg Hg
  ihave D1 := (show _ ⊢ grpDone ids E c 1 from .rfl) $$ [Hg Hs]
  · isplitl [Hg]; · iexact Hg
    iexact Hs
  iapply (wp_loadSlot c (m := rM) (r := slotR 0 0) (fun _ => rfl) squeezes_S1x1x1024x1024_S1024x1024 shapeCasts_S1024x1024_S1x1x1024x1024 (A ids E 0 0 (pv 0 c))) $$ R00; iintro R00
  iapply (wp_storeSlot c (m := rM) (r := slotR 0 0) (fun _ => rfl) squeezes_S1x1x1024x1024_S1024x1024) $$ [R00]
  · iexists _; iexact R00
  iintro U00
  ihave U00 := (Entails.of_eq (congrArg (fun z => owns (c : Thread nD τ) (slotM 0 0) fullShare (z)) ((pay8 c _ _ g).trans (congrArg (addf _) hg)))) $$ U00
  iapply (wp_waitK ids E K c 0 1 0 ((dues c).drop 4) rfl (dues_above c 4 _ (by decide))) $$ [W0_10 O4]
  · isplitr; · iexact HC
    isplitl [W0_10]; · iexact W0_10
    iexact O4
  iintro ⟨O4, N0_10, A1_0⟩
  ihave A1_0 := (show (dmaPay ids E c 0 1 0 : sProp 𝕄) ⊢ owns (c : Thread nD τ) (accM 1) fullShare (A ids E 1 0 c) from Entails.of_eq rfl) $$ A1_0
  iapply (wpc_ret c)
  isplitl [D1]; · iexact D1
  isplitl [U00]; · iexact U00
  isplitl [N0_10]; · iexact N0_10
  isplitl [A1_0]; · iexact A1_0
  iexact O4

/-- Part 7: the first sum of direction 1. -/
theorem part7_run (v2 : BitVec 32) :
    iprop(ctx ids E K c ∗ waitKit c 1 1 0 ∗ smem ids c pm lc cn pf a0 a1 a2 a3 a4 ∗ grpDone ids E c 2 ∗ owesL c ((dues c).drop 4))
      ⊢ wpc c (k0_part7 (F := F) a0 h0 a1 h1 a2 h2 a3 h3 a4 h4 eM (Memref.isWhole_whole _) oM (Memref.isWhole_whole _) gM (Memref.isWhole_whole _) rM (Memref.isWhole_whole _) aM (Memref.isWhole_whole _) cc0_scratch3 cc0_scratch4 cc0_scratch5 cc0_scratch6 cc0_scratch7 cc0_scratch8 c v2 (W8 c))
        (fun _ => iprop(smem ids c pm lc cn pf a0 a1 a2 a3 a4 ∗ grpDone ids E c 2 ∗ done c 1 1 0 ∗ owns (c : Thread nD τ) (slotM 1 0) fullShare (A ids E 1 1 c) ∗ owesL c ((dues c).drop 4))) := by
  rw [k0_part7_eq_skeleton]
  unfold k0_part7_skel
  iintro ⟨#HC, W1_10, S, D2, O4⟩
  iapply (wp_waitK ids E K c 1 1 0 ((dues c).drop 4) rfl (dues_above c 4 _ (by decide))) $$ [W1_10 O4]
  · isplitr; · iexact HC
    isplitl [W1_10]; · iexact W1_10
    iexact O4
  iintro ⟨O4, N1_10, R10⟩
  ihave R10 := (show (dmaPay ids E c 1 1 0 : sProp 𝕄) ⊢ owns (c : Thread nD τ) (slotM 1 0) fullShare (A ids E 1 0 (pv 1 c)) from Entails.of_eq rfl) $$ R10
  unfold smem; icases S with ⟨H0, H1, H2, H3, H4⟩
  iapply (wp_loadSlot c (m := rM) (r := slotR 1 0) (fun _ => rfl) squeezes_S1x1x1024x1024_S1024x1024 shapeCasts_S1024x1024_S1x1x1024x1024 (A ids E 1 0 (pv 1 c))) $$ R10; iintro R10
  iapply (wp_loadIds ids c (ch c 2) (off22_0 c)) $$ H4; iintro H4
  icases D2 with ⟨Hg, Hs⟩
  iapply (wp_loadG ids E c (ch c 2) 1 (off24 c)) $$ Hg
  iintro %g %hg Hg
  ihave D2 := (show _ ⊢ grpDone ids E c 2 from .rfl) $$ [Hg Hs]
  · isplitl [Hg]; · iexact Hg
    iexact Hs
  iapply (wp_loadSlot c (m := rM) (r := slotR 1 0) (fun _ => rfl) squeezes_S1x1x1024x1024_S1024x1024 shapeCasts_S1024x1024_S1x1x1024x1024 (A ids E 1 0 (pv 1 c))) $$ R10; iintro R10
  iapply (wp_storeSlot c (m := rM) (r := slotR 1 0) (fun _ => rfl) squeezes_S1x1x1024x1024_S1024x1024) $$ [R10]
  · iexists _; iexact R10
  iintro U10
  ihave U10 := (Entails.of_eq (congrArg (fun z => owns (c : Thread nD τ) (slotM 1 0) fullShare (z)) ((pay9 c _ _ g).trans (congrArg (addf _) hg)))) $$ U10
  ihave S := (show _ ⊢ smem ids c pm lc cn pf a0 a1 a2 a3 a4 from .rfl) $$ [H0 H1 H2 H3 H4]
  · unfold smem
    isplitl [H0]; · iexact H0
    isplitl [H1]; · iexact H1
    isplitl [H2]; · iexact H2
    isplitl [H3]; · iexact H3
    iexact H4
  iapply (wpc_ret c)
  isplitl [S]; · iexact S
  isplitl [D2]; · iexact D2
  isplitl [N1_10]; · iexact N1_10
  isplitl [U10]; · iexact U10
  iexact O4

/-- Part 8: the second two copies, and the start of the gather of the last chunk. -/
theorem part8_run (hP : Plans ids c pm lc cn pf) (v5 v7 : BitVec 32) :
    iprop(ctx ids E K c ∗ owns (c : Thread nD τ) (slotM 0 0) fullShare (A ids E 0 1 c) ∗ owns (c : Thread nD τ) (slotM 1 0) fullShare (A ids E 1 1 c) ∗ dstKit c 1 0 1 (slotM 0 1) ∗ dstKit c 1 1 1 (slotM 1 1) ∗ stepKit c 0 1 0 1 ∗ stepKit c 0 1 1 1 ∗ owesL c ((dues c).drop 4) ∗ smem ids c pm lc cn pf a0 a1 a2 a3 a4 ∗ grp (F := F) c 3 ∗ (eL c ↦[Finset.univ]{fullShare} (E c)))
      ⊢ wpc c (k0_part8 (F := F) a0 h0 a1 h1 a2 h2 a3 h3 a4 h4 eM (Memref.isWhole_whole _) oM (Memref.isWhole_whole _) gM (Memref.isWhole_whole _) rM (Memref.isWhole_whole _) aM (Memref.isWhole_whole _) cc0_scratch3 cc0_scratch4 cc0_scratch5 cc0_scratch6 cc0_scratch7 cc0_scratch8 c v5 v7)
        (fun _ => iprop(smem ids c pm lc cn pf a0 a1 a2 a3 a4 ∗ fly ids E c (ch c 3) 3 pm lc (at4 (F := F) pf (3 : Fin 4).val).toNat (at4 (F := F) cn (3 : Fin 4).val).toNat fullShare ∗ waitKit c 0 0 1 ∗ waitKit c 1 0 1 ∗ waitKit c 0 1 1 ∗ waitKit c 1 1 1 ∗ owesL c ((dues c).drop 6))) := by
  rw [k0_part8_eq_skeleton]
  unfold k0_part8_skel
  iintro ⟨#HC, U00, U10, DS01, DS11, SK1_01, SK1_11, O4, S, G3, E⟩
  iapply (wp_sendK ids E K c 0 1 0 1 ((dues c).drop 5) (dev5 c) rfl rfl (A ids E 0 (Fin.val (n := 3) 1) c) .rfl (recvPay ids E c 0 1)) $$ [U00 DS01 O4 SK1_01]
  · isplitr; · iexact HC
    isplitl [U00]; · iexact U00
    isplitl [DS01]; · iexact DS01
    isplitl [O4]; · iexact O4
    iexact SK1_01
  iintro ⟨W0_01, W1_01, O5⟩
  iapply (wp_sendK ids E K c 0 1 1 1 ((dues c).drop 6) (dev6 c) rfl rfl (A ids E 1 (Fin.val (n := 3) 1) c) .rfl (recvPay ids E c 1 1)) $$ [U10 DS11 O5 SK1_11]
  · isplitr; · iexact HC
    isplitl [U10]; · iexact U10
    isplitl [DS11]; · iexact DS11
    isplitl [O5]; · iexact O5
    iexact SK1_11
  iintro ⟨W0_11, W1_11, O6⟩
  unfold smem; icases S with ⟨H0, H1, H2, H3, H4⟩
  iapply (wp_sload c (hn := numel1_S1) (hp := rfl) 3 rfl pf) $$ H3; iintro H3
  iapply (wp_sload c (hn := numel1_S1) (hp := rfl) 3 rfl cn) $$ H2; iintro H2
  iapply (wpc_assume c (hP.chk1 3))
  icases G3 with ⟨Hg, Hs⟩
  iapply (wp_issueGroup ids E c (ch c 3) 3 pm lc _ _ fullShare (hP 3) (toNat_back _) (toNat_back _) (fun t u => ⟨_, rfl⟩)) $$ [Hg E Hs H0 H1]
  · isplitl [Hg]; · iexact Hg
    isplitl [E]; · iexact E
    isplitl [Hs]; · iexact Hs
    isplitl [H0]; · iexact H0
    iexact H1
  iintro ⟨F3, H0, H1⟩
  ihave S := (show _ ⊢ smem ids c pm lc cn pf a0 a1 a2 a3 a4 from .rfl) $$ [H0 H1 H2 H3 H4]
  · unfold smem
    isplitl [H0]; · iexact H0
    isplitl [H1]; · iexact H1
    isplitl [H2]; · iexact H2
    isplitl [H3]; · iexact H3
    iexact H4
  iapply (wpc_ret c)
  isplitl [S]; · iexact S
  isplitl [F3]; · iexact F3
  isplitl [W0_01]; · iexact W0_01
  isplitl [W1_01]; · iexact W1_01
  isplitl [W0_11]; · iexact W0_11
  isplitl [W1_11]; · iexact W1_11
  iexact O6

/-- Part 9: the end of that gather, and the second arrival of direction 0. -/
theorem part9_run (hP : Plans ids c pm lc cn pf) (v2 v7 : BitVec 32) :
    iprop(ctx ids E K c ∗ smem ids c pm lc cn pf a0 a1 a2 a3 a4 ∗ fly ids E c (ch c 3) 3 pm lc (at4 (F := F) pf (3 : Fin 4).val).toNat (at4 (F := F) cn (3 : Fin 4).val).toNat fullShare ∗ waitKit c 0 0 1 ∗ waitKit c 1 0 1 ∗ owesL c ((dues c).drop 6))
      ⊢ wpc c (k0_part9 (F := F) a0 h0 a1 h1 a2 h2 a3 h3 a4 h4 eM (Memref.isWhole_whole _) oM (Memref.isWhole_whole _) gM (Memref.isWhole_whole _) rM (Memref.isWhole_whole _) aM (Memref.isWhole_whole _) cc0_scratch3 cc0_scratch4 cc0_scratch5 cc0_scratch6 cc0_scratch7 cc0_scratch8 v2 v7)
        (fun v => iprop(∃ w w', ⌜v = ⟨w, w'⟩⌝ ∗ smem ids c pm lc cn pf a0 a1 a2 a3 a4 ∗ grpDone ids E c 3 ∗ (eL c ↦[Finset.univ]{fullShare} (E c)) ∗ done c 0 0 1 ∗ done c 1 0 1 ∗ owns (c : Thread nD τ) (slotM 0 0) fullShare (A ids E 0 1 c) ∗ owns (c : Thread nD τ) (slotM 0 1) fullShare (A ids E 0 1 (pv 0 c)) ∗ owesL c ((dues c).drop 6))) := by
  rw [k0_part9_eq_skeleton]
  unfold k0_part9_skel
  iintro ⟨#HC, S, F3, W0_01, W1_01, O6⟩
  unfold smem; icases S with ⟨H0, H1, H2, H3, H4⟩
  iapply (wp_sload c (hn := numel1_S1) (hp := rfl) 3 rfl cn) $$ H2; iintro H2
  iapply (wpc_assume c (hP.chk6 3))
  iapply (wp_drainGroup ids E c (ch c 3) 3 pm lc _ _ fullShare (hP 3) ((dues c).drop 6) (dues_above c 6 0 (by decide)) (toNat_back _) (fun t u => rfl)) $$ [F3 O6]
  · isplitr; · iapply (ctx_lev ids E K c); iexact HC
    isplitl [F3]; · iexact F3
    iexact O6
  iintro ⟨Hg, E, Hs, O6⟩
  ihave D3 := (show _ ⊢ grpDone ids E c 3 from .rfl) $$ [Hg Hs]
  · isplitl [Hg]; · iexact Hg
    iexact Hs
  ihave S := (show _ ⊢ smem ids c pm lc cn pf a0 a1 a2 a3 a4 from .rfl) $$ [H0 H1 H2 H3 H4]
  · unfold smem
    isplitl [H0]; · iexact H0
    isplitl [H1]; · iexact H1
    isplitl [H2]; · iexact H2
    isplitl [H3]; · iexact H3
    iexact H4
  iapply (wp_waitK ids E K c 0 0 1 ((dues c).drop 6) rfl (dues_above c 6 _ (by decide))) $$ [W0_01 O6]
  · isplitr; · iexact HC
    isplitl [W0_01]; · iexact W0_01
    iexact O6
  iintro ⟨O6, N0_01, U00⟩
  ihave U00 := (show (dmaPay ids E c 0 0 1 : sProp 𝕄) ⊢ owns (c : Thread nD τ) (slotM 0 0) fullShare (A ids E 0 1 c) from Entails.of_eq rfl) $$ U00
  iapply (wp_waitK ids E K c 1 0 1 ((dues c).drop 6) rfl (dues_above c 6 _ (by decide))) $$ [W1_01 O6]
  · isplitr; · iexact HC
    isplitl [W1_01]; · iexact W1_01
    iexact O6
  iintro ⟨O6, N1_01, R01⟩
  ihave R01 := (show (dmaPay ids E c 1 0 1 : sProp 𝕄) ⊢ owns (c : Thread nD τ) (slotM 0 1) fullShare (A ids E 0 1 (pv 0 c)) from Entails.of_eq rfl) $$ R01
  iapply (wpc_ret c)
  iexists _, _; isplitr; · ipureintro; rfl
  isplitl [S]; · iexact S
  isplitl [D3]; · iexact D3
  isplitl [E]; · iexact E
  isplitl [N0_01]; · iexact N0_01
  isplitl [N1_01]; · iexact N1_01
  isplitl [U00]; · iexact U00
  isplitl [R01]; · iexact R01
  iexact O6

/-- Part 10: the second sum of direction 0. -/
theorem part10_run (w w' : BitVec 32) :
    iprop(ctx ids E K c ∗ owns (c : Thread nD τ) (slotM 0 1) fullShare (A ids E 0 1 (pv 0 c)) ∗ smem ids c pm lc cn pf a0 a1 a2 a3 a4 ∗ grpDone ids E c 3)
      ⊢ wpc c (k0_part10 (F := F) a0 h0 a1 h1 a2 h2 a3 h3 a4 h4 eM (Memref.isWhole_whole _) oM (Memref.isWhole_whole _) gM (Memref.isWhole_whole _) rM (Memref.isWhole_whole _) aM (Memref.isWhole_whole _) cc0_scratch3 cc0_scratch4 cc0_scratch5 cc0_scratch6 cc0_scratch7 cc0_scratch8 c (W8 c) w w')
        (fun _ => iprop(smem ids c pm lc cn pf a0 a1 a2 a3 a4 ∗ grpDone ids E c 3 ∗ owns (c : Thread nD τ) (slotM 0 1) fullShare (A ids E 0 2 c))) := by
  rw [k0_part10_eq_skeleton]
  unfold k0_part10_skel
  iintro ⟨#HC, R01, S, D3⟩
  unfold smem; icases S with ⟨H0, H1, H2, H3, H4⟩
  iapply (wp_loadSlot c (m := rM) (r := slotR 0 1) (fun _ => rfl) squeezes_S1x1x1024x1024_S1024x1024 shapeCasts_S1024x1024_S1x1x1024x1024 (A ids E 0 1 (pv 0 c))) $$ R01; iintro R01
  iapply (wp_loadIds ids c (ch c 3) (off31_0 c)) $$ H4; iintro H4
  icases D3 with ⟨Hg, Hs⟩
  iapply (wp_loadG ids E c (ch c 3) 0 (off32_1 c)) $$ Hg
  iintro %g %hg Hg
  ihave D3 := (show _ ⊢ grpDone ids E c 3 from .rfl) $$ [Hg Hs]
  · isplitl [Hg]; · iexact Hg
    iexact Hs
  iapply (wp_loadSlot c (m := rM) (r := slotR 0 1) (fun _ => rfl) squeezes_S1x1x1024x1024_S1024x1024 shapeCasts_S1024x1024_S1x1x1024x1024 (A ids E 0 1 (pv 0 c))) $$ R01; iintro R01
  iapply (wp_storeSlot c (m := rM) (r := slotR 0 1) (fun _ => rfl) squeezes_S1x1x1024x1024_S1024x1024) $$ [R01]
  · iexists _; iexact R01
  iintro U01
  ihave U01 := (Entails.of_eq (congrArg (fun z => owns (c : Thread nD τ) (slotM 0 1) fullShare (z)) ((pay10 c _ _ g).trans (congrArg (addf _) hg)))) $$ U01
  ihave S := (show _ ⊢ smem ids c pm lc cn pf a0 a1 a2 a3 a4 from .rfl) $$ [H0 H1 H2 H3 H4]
  · unfold smem
    isplitl [H0]; · iexact H0
    isplitl [H1]; · iexact H1
    isplitl [H2]; · iexact H2
    isplitl [H3]; · iexact H3
    iexact H4
  iapply (wpc_ret c)
  isplitl [S]; · iexact S
  isplitl [D3]; · iexact D3
  iexact U01

end Parts

end Cert.KernelIdeal.Run
-- ==== Proof.KernelIdeal.Parts3.lean ====
/-
  Parts 11 to 16 of the body: the third sums.
-/
module

public import proofs.«01_k».proof.Proof.KernelIdeal.Bundles

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

local notation "𝕄" => MT nD τ sig Unit (Elt F) ℕ UU ℕ

section Parts

variable (ids : Dev nD → Vec F S4096x1 .i32) (E : Dev nD → Vec F S8192x2048 .f32) (K : GSem nD τ sig → ℕ) (c : Dev nD)
  (pm lc : Vec F S4096 .i32) (cn pf : Vec F S4 .i32)
  (a0 : Memref sig .tc .smem S4096 .i32) (h0 : a0.IsWhole) (a1 : Memref sig .tc .smem S4096 .i32) (h1 : a1.IsWhole)
  (a2 : Memref sig .tc .smem S4 .i32) (h2 : a2.IsWhole) (a3 : Memref sig .tc .smem S4 .i32) (h3 : a3.IsWhole)
  (a4 : Memref sig .tc .vmem S4096x1 .i32) (h4 : a4.IsWhole)

/-- Part 11: the second arrival of direction 1. -/
theorem part11_run (v2 v5 : BitVec 32) :
    iprop(ctx ids E K c ∗ waitKit c 0 1 1 ∗ waitKit c 1 1 1 ∗ smem ids c pm lc cn pf a0 a1 a2 a3 a4 ∗ grpDone ids E c 3 ∗ owesL c ((dues c).drop 6))
      ⊢ wpc c (k0_part11 (F := F) a0 h0 a1 h1 a2 h2 a3 h3 a4 h4 eM (Memref.isWhole_whole _) oM (Memref.isWhole_whole _) gM (Memref.isWhole_whole _) rM (Memref.isWhole_whole _) aM (Memref.isWhole_whole _) cc0_scratch3 cc0_scratch4 cc0_scratch5 cc0_scratch6 cc0_scratch7 cc0_scratch8 c v2 v5 (W8 c))
        (fun v => iprop(∃ g, ⌜v = ⟨k0_pay11 (shapeCast S1x1x1024x1024 (A ids E 1 1 (pv 1 c)) shapeCasts_S1024x1024_S1x1x1024x1024), k0_pay12 (W8 c) (idsAt ids c (ch c 3)) g⟩ ∧ mskd (baseW c) (idsAt ids c (ch c 3)) g = X ids E c (ch c 3) 1⌝ ∗ smem ids c pm lc cn pf a0 a1 a2 a3 a4 ∗ grpDone ids E c 3 ∗ done c 0 1 1 ∗ done c 1 1 1 ∗ owns (c : Thread nD τ) (slotM 1 0) fullShare (A ids E 1 1 c) ∗ owns (c : Thread nD τ) (slotM 1 1) fullShare (A ids E 1 1 (pv 1 c)) ∗ owesL c ((dues c).drop 6))) := by
  rw [k0_part11_eq_skeleton]
  unfold k0_part11_skel
  iintro ⟨#HC, W0_11, W1_11, S, D3, O6⟩
  iapply (wp_waitK ids E K c 0 1 1 ((dues c).drop 6) rfl (dues_above c 6 _ (by decide))) $$ [W0_11 O6]
  · isplitr; · iexact HC
    isplitl [W0_11]; · iexact W0_11
    iexact O6
  iintro ⟨O6, N0_11, U10⟩
  ihave U10 := (show (dmaPay ids E c 0 1 1 : sProp 𝕄) ⊢ owns (c : Thread nD τ) (slotM 1 0) fullShare (A ids E 1 1 c) from Entails.of_eq rfl) $$ U10
  iapply (wp_waitK ids E K c 1 1 1 ((dues c).drop 6) rfl (dues_above c 6 _ (by decide))) $$ [W1_11 O6]
  · isplitr; · iexact HC
    isplitl [W1_11]; · iexact W1_11
    iexact O6
  iintro ⟨O6, N1_11, R11⟩
  ihave R11 := (show (dmaPay ids E c 1 1 1 : sProp 𝕄) ⊢ owns (c : Thread nD τ) (slotM 1 1) fullShare (A ids E 1 1 (pv 1 c)) from Entails.of_eq rfl) $$ R11
  unfold smem; icases S with ⟨H0, H1, H2, H3, H4⟩
  iapply (wp_loadSlot c (m := rM) (r := slotR 1 1) (fun _ => rfl) squeezes_S1x1x1024x1024_S1024x1024 shapeCasts_S1024x1024_S1x1x1024x1024 (A ids E 1 1 (pv 1 c))) $$ R11; iintro R11
  iapply (wp_loadIds ids c (ch c 3) (off31_1 c)) $$ H4; iintro H4
  icases D3 with ⟨Hg, Hs⟩
  iapply (wp_loadG ids E c (ch c 3) 1 (off33_0 c)) $$ Hg
  iintro %g %hg Hg
  ihave D3 := (show _ ⊢ grpDone ids E c 3 from .rfl) $$ [Hg Hs]
  · isplitl [Hg]; · iexact Hg
    iexact Hs
  ihave S := (show _ ⊢ smem ids c pm lc cn pf a0 a1 a2 a3 a4 from .rfl) $$ [H0 H1 H2 H3 H4]
  · unfold smem
    isplitl [H0]; · iexact H0
    isplitl [H1]; · iexact H1
    isplitl [H2]; · iexact H2
    isplitl [H3]; · iexact H3
    iexact H4
  iapply (wpc_ret c)
  iexists g; isplitr; · ipureintro; exact ⟨rfl, hg⟩
  isplitl [S]; · iexact S
  isplitl [D3]; · iexact D3
  isplitl [N0_11]; · iexact N0_11
  isplitl [N1_11]; · iexact N1_11
  isplitl [U10]; · iexact U10
  isplitl [R11]; · iexact R11
  iexact O6

/-- Part 12: the second sum of direction 1, and the third two copies. -/
theorem part12_run (v5 v7 : BitVec 32) (g : Vec F S1024x1024 .f32) (hg : mskd (baseW c) (idsAt ids c (ch c 3)) g = X ids E c (ch c 3) 1) :
    iprop(ctx ids E K c ∗ owns (c : Thread nD τ) (slotM 1 1) fullShare (A ids E 1 1 (pv 1 c)) ∗ owns (c : Thread nD τ) (slotM 0 1) fullShare (A ids E 0 2 c) ∗ dstKit c 1 0 2 (slotM 0 2) ∗ dstKit c 1 1 2 (slotM 1 2) ∗ stepKit c 0 1 0 2 ∗ stepKit c 0 1 1 2 ∗ owesL c ((dues c).drop 6))
      ⊢ wpc c (k0_part12 (F := F) a0 h0 a1 h1 a2 h2 a3 h3 a4 h4 eM (Memref.isWhole_whole _) oM (Memref.isWhole_whole _) gM (Memref.isWhole_whole _) rM (Memref.isWhole_whole _) aM (Memref.isWhole_whole _) cc0_scratch3 cc0_scratch4 cc0_scratch5 cc0_scratch6 cc0_scratch7 cc0_scratch8 c v5 v7 (k0_pay11 (shapeCast S1x1x1024x1024 (A ids E 1 1 (pv 1 c)) shapeCasts_S1024x1024_S1x1x1024x1024)) (k0_pay12 (W8 c) (idsAt ids c (ch c 3)) g))
        (fun _ => iprop(waitKit c 0 0 2 ∗ waitKit c 1 0 2 ∗ waitKit c 0 1 2 ∗ waitKit c 1 1 2 ∗ owesL c ((dues c).drop 8))) := by
  rw [k0_part12_eq_skeleton]
  unfold k0_part12_skel
  iintro ⟨#HC, R11, U01, DS02, DS12, SK1_02, SK1_12, O6⟩
  iapply (wp_loadSlot c (m := rM) (r := slotR 1 1) (fun _ => rfl) squeezes_S1x1x1024x1024_S1024x1024 shapeCasts_S1024x1024_S1x1x1024x1024 (A ids E 1 1 (pv 1 c))) $$ R11; iintro R11
  iapply (wp_storeSlot c (m := rM) (r := slotR 1 1) (fun _ => rfl) squeezes_S1x1x1024x1024_S1024x1024) $$ [R11]
  · iexists _; iexact R11
  iintro U11
  ihave U11 := (Entails.of_eq (congrArg (fun z => owns (c : Thread nD τ) (slotM 1 1) fullShare (z)) ((pay13 c _ _ g).trans (congrArg (addf _) hg)))) $$ U11
  iapply (wp_sendK ids E K c 0 1 0 2 ((dues c).drop 7) (dev7 c) rfl rfl (A ids E 0 (Fin.val (n := 3) 2) c) .rfl (recvPay ids E c 0 2)) $$ [U01 DS02 O6 SK1_02]
  · isplitr; · iexact HC
    isplitl [U01]; · iexact U01
    isplitl [DS02]; · iexact DS02
    isplitl [O6]; · iexact O6
    iexact SK1_02
  iintro ⟨W0_02, W1_02, O7⟩
  iapply (wp_sendK ids E K c 0 1 1 2 ((dues c).drop 8) (dev8 c) rfl rfl (A ids E 1 (Fin.val (n := 3) 2) c) .rfl (recvPay ids E c 1 2)) $$ [U11 DS12 O7 SK1_12]
  · isplitr; · iexact HC
    isplitl [U11]; · iexact U11
    isplitl [DS12]; · iexact DS12
    isplitl [O7]; · iexact O7
    iexact SK1_12
  iintro ⟨W0_12, W1_12, O8⟩
  iapply (wpc_ret c)
  isplitl [W0_02]; · iexact W0_02
  isplitl [W1_02]; · iexact W1_02
  isplitl [W0_12]; · iexact W0_12
  isplitl [W1_12]; · iexact W1_12
  iexact O8

/-- Part 13: the third arrival of direction 0. -/
theorem part13_run (v2 v7 : BitVec 32) :
    iprop(ctx ids E K c ∗ waitKit c 0 0 2 ∗ waitKit c 1 0 2 ∗ smem ids c pm lc cn pf a0 a1 a2 a3 a4 ∗ owesL c ((dues c).drop 8))
      ⊢ wpc c (k0_part13 (F := F) a0 h0 a1 h1 a2 h2 a3 h3 a4 h4 eM (Memref.isWhole_whole _) oM (Memref.isWhole_whole _) gM (Memref.isWhole_whole _) rM (Memref.isWhole_whole _) aM (Memref.isWhole_whole _) cc0_scratch3 cc0_scratch4 cc0_scratch5 cc0_scratch6 cc0_scratch7 cc0_scratch8 c v2 v7)
        (fun v => iprop(∃ w, ⌜v = ⟨w, k0_pay14 (shapeCast S1x1x1024x1024 (A ids E 0 2 (pv 0 c)) shapeCasts_S1024x1024_S1x1x1024x1024), idsAt ids c (ch c 2)⟩⌝ ∗ smem ids c pm lc cn pf a0 a1 a2 a3 a4 ∗ done c 0 0 2 ∗ done c 1 0 2 ∗ owns (c : Thread nD τ) (slotM 0 1) fullShare (A ids E 0 2 c) ∗ owns (c : Thread nD τ) (slotM 0 2) fullShare (A ids E 0 2 (pv 0 c)) ∗ owesL c ((dues c).drop 8))) := by
  rw [k0_part13_eq_skeleton]
  unfold k0_part13_skel
  iintro ⟨#HC, W0_02, W1_02, S, O8⟩
  iapply (wp_waitK ids E K c 0 0 2 ((dues c).drop 8) rfl (dues_above c 8 _ (by decide))) $$ [W0_02 O8]
  · isplitr; · iexact HC
    isplitl [W0_02]; · iexact W0_02
    iexact O8
  iintro ⟨O8, N0_02, U01⟩
  ihave U01 := (show (dmaPay ids E c 0 0 2 : sProp 𝕄) ⊢ owns (c : Thread nD τ) (slotM 0 1) fullShare (A ids E 0 2 c) from Entails.of_eq rfl) $$ U01
  iapply (wp_waitK ids E K c 1 0 2 ((dues c).drop 8) rfl (dues_above c 8 _ (by decide))) $$ [W1_02 O8]
  · isplitr; · iexact HC
    isplitl [W1_02]; · iexact W1_02
    iexact O8
  iintro ⟨O8, N1_02, R02⟩
  ihave R02 := (show (dmaPay ids E c 1 0 2 : sProp 𝕄) ⊢ owns (c : Thread nD τ) (slotM 0 2) fullShare (A ids E 0 2 (pv 0 c)) from Entails.of_eq rfl) $$ R02
  unfold smem; icases S with ⟨H0, H1, H2, H3, H4⟩
  iapply (wp_loadSlot c (m := rM) (r := slotR 0 2) (fun _ => rfl) squeezes_S1x1x1024x1024_S1024x1024 shapeCasts_S1024x1024_S1x1x1024x1024 (A ids E 0 2 (pv 0 c))) $$ R02; iintro R02
  iapply (wp_loadIds ids c (ch c 2) (off31_2 c)) $$ H4; iintro H4
  ihave S := (show _ ⊢ smem ids c pm lc cn pf a0 a1 a2 a3 a4 from .rfl) $$ [H0 H1 H2 H3 H4]
  · unfold smem
    isplitl [H0]; · iexact H0
    isplitl [H1]; · iexact H1
    isplitl [H2]; · iexact H2
    isplitl [H3]; · iexact H3
    iexact H4
  iapply (wpc_ret c)
  iexists _; isplitr; · ipureintro; rfl
  isplitl [S]; · iexact S
  isplitl [N0_02]; · iexact N0_02
  isplitl [N1_02]; · iexact N1_02
  isplitl [U01]; · iexact U01
  isplitl [R02]; · iexact R02
  iexact O8

/-- Part 14: the third sum of direction 0, and the start of its copy to the result. -/
theorem part14_run (w : BitVec 32) :
    iprop(ctx ids E K c ∗ grpDone ids E c 2 ∗ owns (c : Thread nD τ) (accM 0) fullShare (A ids E 0 0 c) ∗ anyOwn c (outM (gc c 0 0) 0) ∗ Transfers.Batch EC (c : Thread nD τ) (.dma outq) () N (copyDone ids E c) 0 0 ∗ waitKit c 0 1 2 ∗ owesL c ((dues c).drop 8))
      ⊢ wpc c (k0_part14 (F := F) a0 h0 a1 h1 a2 h2 a3 h3 a4 h4 eM (Memref.isWhole_whole _) oM (Memref.isWhole_whole _) gM (Memref.isWhole_whole _) rM (Memref.isWhole_whole _) aM (Memref.isWhole_whole _) cc0_scratch3 cc0_scratch4 cc0_scratch5 cc0_scratch6 cc0_scratch7 cc0_scratch8 c (W8 c) w (k0_pay14 (shapeCast S1x1x1024x1024 (A ids E 0 2 (pv 0 c)) shapeCasts_S1024x1024_S1x1x1024x1024)) (idsAt ids c (ch c 2)))
        (fun _ => iprop(grpDone ids E c 2 ∗ Transfers.Batch EC (c : Thread nD τ) (.dma outq) () N (copyDone ids E c) 1 0 ∗ done c 0 1 2 ∗ owns (c : Thread nD τ) (slotM 1 1) fullShare (A ids E 1 2 c) ∗ owesL c ((dues c).drop 8))) := by
  rw [k0_part14_eq_skeleton]
  unfold k0_part14_skel
  iintro ⟨#HC, D2, A0_0, X0, B0, W0_12, O8⟩
  icases D2 with ⟨Hg, Hs⟩
  iapply (wp_loadG ids E c (ch c 2) 0 (off32_0 c)) $$ Hg
  iintro %g %hg Hg
  ihave D2 := (show _ ⊢ grpDone ids E c 2 from .rfl) $$ [Hg Hs]
  · isplitl [Hg]; · iexact Hg
    iexact Hs
  iapply (wp_loadSlot c (m := aM) (r := accR 0) (fun _ => rfl) squeezes_S1x1024x1024_S1024x1024 shapeCasts_S1024x1024_S1x1024x1024 (A ids E 0 0 c)) $$ A0_0; iintro A0_0
  iapply (wp_storeSlot c (m := aM) (r := accR 0) (fun _ => rfl) squeezes_S1x1024x1024_S1024x1024) $$ [A0_0]
  · iexists _; iexact A0_0
  iintro A0_3
  ihave A0_3 := (Entails.of_eq (congrArg (fun z => owns (c : Thread nD τ) (accM 0) fullShare (z)) ((pay15 c _ _ g).trans (congrArg (addf _) hg)))) $$ A0_3
  iapply (wp_copyOut ids E c 0 (off34_m3 c)) $$ [A0_3 X0 B0]
  · isplitl [A0_3]; · iexact A0_3
    isplitl [X0]; · iexact X0
    iexact B0
  iintro B1
  iapply (wp_waitK ids E K c 0 1 2 ((dues c).drop 8) rfl (dues_above c 8 _ (by decide))) $$ [W0_12 O8]
  · isplitr; · iexact HC
    isplitl [W0_12]; · iexact W0_12
    iexact O8
  iintro ⟨O8, N0_12, U11⟩
  ihave U11 := (show (dmaPay ids E c 0 1 2 : sProp 𝕄) ⊢ owns (c : Thread nD τ) (slotM 1 1) fullShare (A ids E 1 2 c) from Entails.of_eq rfl) $$ U11
  iapply (wpc_ret c)
  isplitl [D2]; · iexact D2
  isplitl [B1]; · iexact B1
  isplitl [N0_12]; · iexact N0_12
  isplitl [U11]; · iexact U11
  iexact O8

/-- Part 15: the third arrival of direction 1. -/
theorem part15_run (v2 v5 : BitVec 32) :
    iprop(ctx ids E K c ∗ waitKit c 1 1 2 ∗ smem ids c pm lc cn pf a0 a1 a2 a3 a4 ∗ grpDone ids E c 1 ∗ owesL c ((dues c).drop 8))
      ⊢ wpc c (k0_part15 (F := F) a0 h0 a1 h1 a2 h2 a3 h3 a4 h4 eM (Memref.isWhole_whole _) oM (Memref.isWhole_whole _) gM (Memref.isWhole_whole _) rM (Memref.isWhole_whole _) aM (Memref.isWhole_whole _) cc0_scratch3 cc0_scratch4 cc0_scratch5 cc0_scratch6 cc0_scratch7 cc0_scratch8 c v2 v5 (W8 c))
        (fun v => iprop(∃ w g, ⌜v = ⟨w, k0_pay16 (W8 c) (shapeCast S1x1x1024x1024 (A ids E 1 2 (pv 1 c)) shapeCasts_S1024x1024_S1x1x1024x1024) (idsAt ids c (ch c 1)) g⟩ ∧ mskd (baseW c) (idsAt ids c (ch c 1)) g = X ids E c (ch c 1) 1⌝ ∗ smem ids c pm lc cn pf a0 a1 a2 a3 a4 ∗ grpDone ids E c 1 ∗ done c 1 1 2 ∗ owns (c : Thread nD τ) (slotM 1 2) fullShare (A ids E 1 2 (pv 1 c)) ∗ owesL c ((dues c).drop 8))) := by
  rw [k0_part15_eq_skeleton]
  unfold k0_part15_skel
  iintro ⟨#HC, W1_12, S, D1, O8⟩
  iapply (wp_waitK ids E K c 1 1 2 ((dues c).drop 8) rfl (dues_above c 8 _ (by decide))) $$ [W1_12 O8]
  · isplitr; · iexact HC
    isplitl [W1_12]; · iexact W1_12
    iexact O8
  iintro ⟨O8, N1_12, R12⟩
  ihave R12 := (show (dmaPay ids E c 1 1 2 : sProp 𝕄) ⊢ owns (c : Thread nD τ) (slotM 1 2) fullShare (A ids E 1 2 (pv 1 c)) from Entails.of_eq rfl) $$ R12
  unfold smem; icases S with ⟨H0, H1, H2, H3, H4⟩
  iapply (wp_loadSlot c (m := rM) (r := slotR 1 2) (fun _ => rfl) squeezes_S1x1x1024x1024_S1024x1024 shapeCasts_S1024x1024_S1x1x1024x1024 (A ids E 1 2 (pv 1 c))) $$ R12; iintro R12
  iapply (wp_loadIds ids c (ch c 1) (off31_3 c)) $$ H4; iintro H4
  icases D1 with ⟨Hg, Hs⟩
  iapply (wp_loadG ids E c (ch c 1) 1 (off33_1 c)) $$ Hg
  iintro %g %hg Hg
  ihave D1 := (show _ ⊢ grpDone ids E c 1 from .rfl) $$ [Hg Hs]
  · isplitl [Hg]; · iexact Hg
    iexact Hs
  ihave S := (show _ ⊢ smem ids c pm lc cn pf a0 a1 a2 a3 a4 from .rfl) $$ [H0 H1 H2 H3 H4]
  · unfold smem
    isplitl [H0]; · iexact H0
    isplitl [H1]; · iexact H1
    isplitl [H2]; · iexact H2
    isplitl [H3]; · iexact H3
    iexact H4
  iapply (wpc_ret c)
  iexists _, g; isplitr; · ipureintro; exact ⟨rfl, hg⟩
  isplitl [S]; · iexact S
  isplitl [D1]; · iexact D1
  isplitl [N1_12]; · iexact N1_12
  isplitl [R12]; · iexact R12
  iexact O8

/-- Part 16: the third sum of direction 1, and the copies to the result. -/
theorem part16_run (v2 v7 w : BitVec 32) (g : Vec F S1024x1024 .f32) (hg : mskd (baseW c) (idsAt ids c (ch c 1)) g = X ids E c (ch c 1) 1) :
    iprop(ctx ids E K c ∗ owns (c : Thread nD τ) (accM 1) fullShare (A ids E 1 0 c) ∗ anyOwn c (outM (gc c 1 0) 1) ∗ Transfers.Batch EC (c : Thread nD τ) (.dma outq) () N (copyDone ids E c) 1 0 ∗ owesL c ((dues c).drop 8))
      ⊢ wpc c (k0_part16 (F := F) a0 h0 a1 h1 a2 h2 a3 h3 a4 h4 eM (Memref.isWhole_whole _) oM (Memref.isWhole_whole _) gM (Memref.isWhole_whole _) rM (Memref.isWhole_whole _) aM (Memref.isWhole_whole _) cc0_scratch3 cc0_scratch4 cc0_scratch5 cc0_scratch6 cc0_scratch7 cc0_scratch8 c v2 v7 w (k0_pay16 (W8 c) (shapeCast S1x1x1024x1024 (A ids E 1 2 (pv 1 c)) shapeCasts_S1024x1024_S1x1x1024x1024) (idsAt ids c (ch c 1)) g))
        (fun v => iprop(⌜v = Scalar.muli v7 1#32⌝ ∗ owns (c : Thread nD τ) (accM 0) fullShare (A ids E 0 3 c) ∗ owns (c : Thread nD τ) (accM 1) fullShare (A ids E 1 3 c) ∗ owns (c : Thread nD τ) (outM (gc c 0 0) 0) fullShare (Fn ids E (gc c 0 0) 0) ∗ owns (c : Thread nD τ) (outM (gc c 1 0) 1) fullShare (Fn ids E (gc c 1 0) 1) ∗ semVal ((c : Thread nD τ), .dma outq) 0 ∗ owesL c ((dues c).drop 8))) := by
  rw [k0_part16_eq_skeleton]
  unfold k0_part16_skel
  iintro ⟨#HC, A1_0, X1, B1, O8⟩
  iapply (wp_loadSlot c (m := aM) (r := accR 1) (fun _ => rfl) squeezes_S1x1024x1024_S1024x1024 shapeCasts_S1024x1024_S1x1024x1024 (A ids E 1 0 c)) $$ A1_0; iintro A1_0
  iapply (wp_storeSlot c (m := aM) (r := accR 1) (fun _ => rfl) squeezes_S1x1024x1024_S1024x1024) $$ [A1_0]
  · iexists _; iexact A1_0
  iintro A1_3
  ihave A1_3 := (Entails.of_eq (congrArg (fun z => owns (c : Thread nD τ) (accM 1) fullShare (z)) ((pay17 c _ _ g).trans (congrArg (addf _) hg)))) $$ A1_3
  iapply (wp_copyOut ids E c 1 (off35_3 c)) $$ [A1_3 X1 B1]
  · isplitl [A1_3]; · iexact A1_3
    isplitl [X1]; · iexact X1
    iexact B1
  iintro B2
  iapply (wp_waitOuts ids E c ((dues c).drop 8) (dues_above c 8 0 (by decide))) $$ [B2 O8]
  · isplitr; · iapply (ctx_lev ids E K c); iexact HC
    isplitl [B2]; · iexact B2
    iexact O8
  iintro ⟨C0, C1, OS, O8⟩
  icases C0 with ⟨A0_3, P00⟩
  icases C1 with ⟨A1_3, P10⟩
  iapply (wpc_ret c)
  isplitr; · ipureintro; rfl
  isplitl [A0_3]; · iexact A0_3
  isplitl [A1_3]; · iexact A1_3
  isplitl [P00]; · iexact P00
  isplitl [P10]; · iexact P10
  isplitl [OS]; · iexact OS
  iexact O8

end Parts

end Cert.KernelIdeal.Run
-- ==== Proof.KernelIdeal.Parts4.lean ====
/-
  Parts 17 to 20 of the body: the gather between the devices.
-/
module

public import proofs.«01_k».proof.Proof.KernelIdeal.Bundles

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

local notation "𝕄" => MT nD τ sig Unit (Elt F) ℕ UU ℕ

section Parts

variable (ids : Dev nD → Vec F S4096x1 .i32) (E : Dev nD → Vec F S8192x2048 .f32) (K : GSem nD τ sig → ℕ) (c : Dev nD)
  (pm lc : Vec F S4096 .i32) (cn pf : Vec F S4 .i32)
  (a0 : Memref sig .tc .smem S4096 .i32) (h0 : a0.IsWhole) (a1 : Memref sig .tc .smem S4096 .i32) (h1 : a1.IsWhole)
  (a2 : Memref sig .tc .smem S4 .i32) (h2 : a2.IsWhole) (a3 : Memref sig .tc .smem S4 .i32) (h3 : a3.IsWhole)
  (a4 : Memref sig .tc .vmem S4096x1 .i32) (h4 : a4.IsWhole)

/-- Part 17: the first two copies of the gather between the devices. -/
theorem part17_run (v2 v5 v7 w : BitVec 32) :
    iprop(ctx ids E K c ∗ owns (c : Thread nD τ) (outM (gc c 0 0) 0) fullShare (Fn ids E (gc c 0 0) 0) ∗ owns (c : Thread nD τ) (outM (gc c 1 0) 1) fullShare (Fn ids E (gc c 1 0) 1) ∗ dstKit c 3 0 0 (outM (gc c 0 0) 0) ∗ dstKit c 3 1 0 (outM (gc c 1 0) 1) ∗ stepKit c 2 3 0 0 ∗ stepKit c 2 3 1 0 ∗ owesL c ((dues c).drop 8))
      ⊢ wpc c (k0_part17 (F := F) a0 h0 a1 h1 a2 h2 a3 h3 a4 h4 eM (Memref.isWhole_whole _) oM (Memref.isWhole_whole _) gM (Memref.isWhole_whole _) rM (Memref.isWhole_whole _) aM (Memref.isWhole_whole _) cc0_scratch3 cc0_scratch4 cc0_scratch5 cc0_scratch6 cc0_scratch7 cc0_scratch8 c v2 v5 v7 w)
        (fun _ => iprop(done c 2 0 0 ∗ owns (c : Thread nD τ) (outM (gc c 0 0) 0) fullShare (Fn ids E (gc c 0 0) 0) ∗ waitKit c 3 0 0 ∗ waitKit c 2 1 0 ∗ waitKit c 3 1 0 ∗ owesL c ((dues c).drop 10))) := by
  rw [k0_part17_eq_skeleton]
  unfold k0_part17_skel
  iintro ⟨#HC, P00, P10, DG00, DG10, SK3_00, SK3_10, O8⟩
  iapply (wp_sendG ids E K c 0 0 ((dues c).drop 9) (dev9 c) rfl rfl (off34_1 c)) $$ [P00 DG00 O8 SK3_00]
  · isplitr; · iexact HC
    isplitl [P00]; · iexact P00
    isplitl [DG00]; · iexact DG00
    isplitl [O8]; · iexact O8
    iexact SK3_00
  iintro ⟨W2_00, W3_00, O9⟩
  iapply (wp_sendG ids E K c 1 0 ((dues c).drop 10) (dev10 c) rfl rfl (off35_m1 c)) $$ [P10 DG10 O9 SK3_10]
  · isplitr; · iexact HC
    isplitl [P10]; · iexact P10
    isplitl [DG10]; · iexact DG10
    isplitl [O9]; · iexact O9
    iexact SK3_10
  iintro ⟨W2_10, W3_10, O10⟩
  iapply (wp_waitK ids E K c 2 0 0 ((dues c).drop 10) rfl (dues_above c 10 _ (by decide))) $$ [W2_00 O10]
  · isplitr; · iexact HC
    isplitl [W2_00]; · iexact W2_00
    iexact O10
  iintro ⟨O10, N2_00, P00⟩
  ihave P00 := (show (dmaPay ids E c 2 0 0 : sProp 𝕄) ⊢ owns (c : Thread nD τ) (outM (gc c 0 0) 0) fullShare (Fn ids E (gc c 0 0) 0) from Entails.of_eq rfl) $$ P00
  iapply (wpc_ret c)
  isplitl [N2_00]; · iexact N2_00
  isplitl [P00]; · iexact P00
  isplitl [W3_00]; · iexact W3_00
  isplitl [W2_10]; · iexact W2_10
  isplitl [W3_10]; · iexact W3_10
  iexact O10

/-- Part 18: the first arrivals, and the second copy of direction 0. -/
theorem part18_run (v2 v5 v7 : BitVec 32) :
    iprop(ctx ids E K c ∗ waitKit c 3 0 0 ∗ waitKit c 2 1 0 ∗ waitKit c 3 1 0 ∗ dstKit c 3 0 1 (outM (gc c 0 1) 0) ∗ stepKit c 2 3 0 1 ∗ owesL c ((dues c).drop 10))
      ⊢ wpc c (k0_part18 (F := F) a0 h0 a1 h1 a2 h2 a3 h3 a4 h4 eM (Memref.isWhole_whole _) oM (Memref.isWhole_whole _) gM (Memref.isWhole_whole _) rM (Memref.isWhole_whole _) aM (Memref.isWhole_whole _) cc0_scratch3 cc0_scratch4 cc0_scratch5 cc0_scratch6 cc0_scratch7 cc0_scratch8 c v2 v5 v7)
        (fun v => iprop(∃ w w', ⌜v = ⟨w, w'⟩⌝ ∗ done c 3 0 0 ∗ done c 2 1 0 ∗ owns (c : Thread nD τ) (outM (gc c 1 0) 1) fullShare (Fn ids E (gc c 1 0) 1) ∗ done c 3 1 0 ∗ owns (c : Thread nD τ) (outM (gc c 1 1) 1) fullShare (Fn ids E (gc c 1 1) 1) ∗ waitKit c 2 0 1 ∗ waitKit c 3 0 1 ∗ owesL c ((dues c).drop 11))) := by
  rw [k0_part18_eq_skeleton]
  unfold k0_part18_skel
  iintro ⟨#HC, W3_00, W2_10, W3_10, DG01, SK3_01, O10⟩
  iapply (wp_waitK ids E K c 3 0 0 ((dues c).drop 10) rfl (dues_above c 10 _ (by decide))) $$ [W3_00 O10]
  · isplitr; · iexact HC
    isplitl [W3_00]; · iexact W3_00
    iexact O10
  iintro ⟨O10, N3_00, P01⟩
  ihave P01 := (recvG ids E c 0 0 1 (gc_next00 c)) $$ P01
  iapply (wp_waitK ids E K c 2 1 0 ((dues c).drop 10) rfl (dues_above c 10 _ (by decide))) $$ [W2_10 O10]
  · isplitr; · iexact HC
    isplitl [W2_10]; · iexact W2_10
    iexact O10
  iintro ⟨O10, N2_10, P10⟩
  ihave P10 := (show (dmaPay ids E c 2 1 0 : sProp 𝕄) ⊢ owns (c : Thread nD τ) (outM (gc c 1 0) 1) fullShare (Fn ids E (gc c 1 0) 1) from Entails.of_eq rfl) $$ P10
  iapply (wp_waitK ids E K c 3 1 0 ((dues c).drop 10) rfl (dues_above c 10 _ (by decide))) $$ [W3_10 O10]
  · isplitr; · iexact HC
    isplitl [W3_10]; · iexact W3_10
    iexact O10
  iintro ⟨O10, N3_10, P11⟩
  ihave P11 := (recvG ids E c 1 0 1 (gc_next10 c)) $$ P11
  iapply (wp_sendG ids E K c 0 1 ((dues c).drop 11) (dev11 c) rfl rfl (off34_0 c)) $$ [P01 DG01 O10 SK3_01]
  · isplitr; · iexact HC
    isplitl [P01]; · iexact P01
    isplitl [DG01]; · iexact DG01
    isplitl [O10]; · iexact O10
    iexact SK3_01
  iintro ⟨W2_01, W3_01, O11⟩
  iapply (wpc_ret c)
  iexists _, _; isplitr; · ipureintro; rfl
  isplitl [N3_00]; · iexact N3_00
  isplitl [N2_10]; · iexact N2_10
  isplitl [P10]; · iexact P10
  isplitl [N3_10]; · iexact N3_10
  isplitl [P11]; · iexact P11
  isplitl [W2_01]; · iexact W2_01
  isplitl [W3_01]; · iexact W3_01
  iexact O11

/-- Part 19: the second copy of direction 1. -/
theorem part19_run (v5 v7 w w' : BitVec 32) :
    iprop(ctx ids E K c ∗ owns (c : Thread nD τ) (outM (gc c 1 1) 1) fullShare (Fn ids E (gc c 1 1) 1) ∗ dstKit c 3 1 1 (outM (gc c 1 1) 1) ∗ stepKit c 2 3 1 1 ∗ waitKit c 2 0 1 ∗ waitKit c 3 0 1 ∗ owesL c ((dues c).drop 11))
      ⊢ wpc c (k0_part19 (F := F) a0 h0 a1 h1 a2 h2 a3 h3 a4 h4 eM (Memref.isWhole_whole _) oM (Memref.isWhole_whole _) gM (Memref.isWhole_whole _) rM (Memref.isWhole_whole _) aM (Memref.isWhole_whole _) cc0_scratch3 cc0_scratch4 cc0_scratch5 cc0_scratch6 cc0_scratch7 cc0_scratch8 c v5 v7 w w')
        (fun _ => iprop(done c 2 0 1 ∗ owns (c : Thread nD τ) (outM (gc c 0 1) 0) fullShare (Fn ids E (gc c 0 1) 0) ∗ done c 3 0 1 ∗ owns (c : Thread nD τ) (outM (gc c 0 2) 0) fullShare (Fn ids E (gc c 0 2) 0) ∗ done c 2 1 1 ∗ owns (c : Thread nD τ) (outM (gc c 1 1) 1) fullShare (Fn ids E (gc c 1 1) 1) ∗ waitKit c 3 1 1 ∗ owesL c ((dues c).drop 12))) := by
  rw [k0_part19_eq_skeleton]
  unfold k0_part19_skel
  iintro ⟨#HC, P11, DG11, SK3_11, W2_01, W3_01, O11⟩
  iapply (wp_sendG ids E K c 1 1 ((dues c).drop 12) (dev12 c) rfl rfl (off35_0 c)) $$ [P11 DG11 O11 SK3_11]
  · isplitr; · iexact HC
    isplitl [P11]; · iexact P11
    isplitl [DG11]; · iexact DG11
    isplitl [O11]; · iexact O11
    iexact SK3_11
  iintro ⟨W2_11, W3_11, O12⟩
  iapply (wp_waitK ids E K c 2 0 1 ((dues c).drop 12) rfl (dues_above c 12 _ (by decide))) $$ [W2_01 O12]
  · isplitr; · iexact HC
    isplitl [W2_01]; · iexact W2_01
    iexact O12
  iintro ⟨O12, N2_01, P01⟩
  ihave P01 := (show (dmaPay ids E c 2 0 1 : sProp 𝕄) ⊢ owns (c : Thread nD τ) (outM (gc c 0 1) 0) fullShare (Fn ids E (gc c 0 1) 0) from Entails.of_eq rfl) $$ P01
  iapply (wp_waitK ids E K c 3 0 1 ((dues c).drop 12) rfl (dues_above c 12 _ (by decide))) $$ [W3_01 O12]
  · isplitr; · iexact HC
    isplitl [W3_01]; · iexact W3_01
    iexact O12
  iintro ⟨O12, N3_01, P02⟩
  ihave P02 := (recvG ids E c 0 1 2 (gc_next01 c)) $$ P02
  iapply (wp_waitK ids E K c 2 1 1 ((dues c).drop 12) rfl (dues_above c 12 _ (by decide))) $$ [W2_11 O12]
  · isplitr; · iexact HC
    isplitl [W2_11]; · iexact W2_11
    iexact O12
  iintro ⟨O12, N2_11, P11⟩
  ihave P11 := (show (dmaPay ids E c 2 1 1 : sProp 𝕄) ⊢ owns (c : Thread nD τ) (outM (gc c 1 1) 1) fullShare (Fn ids E (gc c 1 1) 1) from Entails.of_eq rfl) $$ P11
  iapply (wpc_ret c)
  isplitl [N2_01]; · iexact N2_01
  isplitl [P01]; · iexact P01
  isplitl [N3_01]; · iexact N3_01
  isplitl [P02]; · iexact P02
  isplitl [N2_11]; · iexact N2_11
  isplitl [P11]; · iexact P11
  isplitl [W3_11]; · iexact W3_11
  iexact O12

/-- Part 20: the third copy of direction 0. -/
theorem part20_run (v2 v5 v7 : BitVec 32) :
    iprop(ctx ids E K c ∗ waitKit c 3 1 1 ∗ owns (c : Thread nD τ) (outM (gc c 0 2) 0) fullShare (Fn ids E (gc c 0 2) 0) ∗ dstKit c 3 0 2 (outM (gc c 0 2) 0) ∗ stepKit c 2 3 0 2 ∗ owesL c ((dues c).drop 12))
      ⊢ wpc c (k0_part20 (F := F) a0 h0 a1 h1 a2 h2 a3 h3 a4 h4 eM (Memref.isWhole_whole _) oM (Memref.isWhole_whole _) gM (Memref.isWhole_whole _) rM (Memref.isWhole_whole _) aM (Memref.isWhole_whole _) cc0_scratch3 cc0_scratch4 cc0_scratch5 cc0_scratch6 cc0_scratch7 cc0_scratch8 c v2 v5 v7)
        (fun _ => iprop(done c 3 1 1 ∗ owns (c : Thread nD τ) (outM (gc c 1 2) 1) fullShare (Fn ids E (gc c 1 2) 1) ∗ waitKit c 2 0 2 ∗ waitKit c 3 0 2 ∗ owesL c ((dues c).drop 13))) := by
  rw [k0_part20_eq_skeleton]
  unfold k0_part20_skel
  iintro ⟨#HC, W3_11, P02, DG02, SK3_02, O12⟩
  iapply (wp_waitK ids E K c 3 1 1 ((dues c).drop 12) rfl (dues_above c 12 _ (by decide))) $$ [W3_11 O12]
  · isplitr; · iexact HC
    isplitl [W3_11]; · iexact W3_11
    iexact O12
  iintro ⟨O12, N3_11, P12⟩
  ihave P12 := (recvG ids E c 1 1 2 (gc_next11 c)) $$ P12
  iapply (wp_sendG ids E K c 0 2 ((dues c).drop 13) (dev13 c) rfl rfl (off34_m1 c)) $$ [P02 DG02 O12 SK3_02]
  · isplitr; · iexact HC
    isplitl [P02]; · iexact P02
    isplitl [DG02]; · iexact DG02
    isplitl [O12]; · iexact O12
    iexact SK3_02
  iintro ⟨W2_02, W3_02, O13⟩
  iapply (wpc_ret c)
  isplitl [N3_11]; · iexact N3_11
  isplitl [P12]; · iexact P12
  isplitl [W2_02]; · iexact W2_02
  isplitl [W3_02]; · iexact W3_02
  iexact O13

end Parts

end Cert.KernelIdeal.Run
-- ==== Proof.KernelIdeal.Body.lean ====
/-
  The body of the kernel, from its parts.
-/
module

public import proofs.«01_k».proof.Proof.KernelIdeal.Parts1
public import proofs.«01_k».proof.Proof.KernelIdeal.Parts2
public import proofs.«01_k».proof.Proof.KernelIdeal.Parts3
public import proofs.«01_k».proof.Proof.KernelIdeal.Parts4

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

local notation "𝕄" => MT nD τ sig Unit (Elt F) ℕ UU ℕ

section Body

variable (ids : Dev nD → Vec F S4096x1 .i32) (E : Dev nD → Vec F S8192x2048 .f32) (K : GSem nD τ sig → ℕ) (c : Dev nD)
  (pm lc : Vec F S4096 .i32) (cn pf : Vec F S4 .i32)
  (a0 : Memref sig .tc .smem S4096 .i32) (h0 : a0.IsWhole) (a1 : Memref sig .tc .smem S4096 .i32) (h1 : a1.IsWhole)
  (a2 : Memref sig .tc .smem S4 .i32) (h2 : a2.IsWhole) (a3 : Memref sig .tc .smem S4 .i32) (h3 : a3.IsWhole)
  (a4 : Memref sig .tc .vmem S4096x1 .i32) (h4 : a4.IsWhole)

/-- What the body takes. -/
abbrev bodyPre : sProp 𝕄 :=
  iprop(smem ids c pm lc cn pf a0 a1 a2 a3 a4 ∗ (eL c ↦[Finset.univ]{fullShare} (E c)) ∗ grp (F := F) c 0 ∗ grp (F := F) c 1 ∗ grp (F := F) c 2 ∗ grp (F := F) c 3 ∗ anyOwn c (accM 0) ∗ anyOwn c (accM 1) ∗ semVal ((c : Thread nD τ), .dma outq) 0 ∗ anyOwn c (outM (gc c 0 0) 0) ∗ anyOwn c (outM (gc c 1 0) 1) ∗ cred (tallyAt (barCell c) () 2) ∗ atPos ER (barCell c) 0 ∅ 0 ∗ dutyTok ER (barCell (pv 0 c)) 0 0 ∗ dutyTok ER (barCell (pv 1 c)) 0 1 ∗ barPay (F := F) (pv 0 c) 0 ∗ barPay (F := F) (pv 1 c) 1 ∗ stepKit c 0 1 0 0 ∗ stepKit c 0 1 0 1 ∗ stepKit c 0 1 0 2 ∗ stepKit c 0 1 1 0 ∗ stepKit c 0 1 1 1 ∗ stepKit c 0 1 1 2 ∗ stepKit c 2 3 0 0 ∗ stepKit c 2 3 0 1 ∗ stepKit c 2 3 0 2 ∗ stepKit c 2 3 1 0 ∗ stepKit c 2 3 1 1 ∗ stepKit c 2 3 1 2 ∗ owesL c ((dues c).drop 0))

/-- What the body leaves. -/
abbrev bodyPost : sProp 𝕄 :=
  iprop(smem ids c pm lc cn pf a0 a1 a2 a3 a4 ∗ (eL c ↦[Finset.univ]{fullShare} (E c)) ∗ grpDone ids E c 0 ∗ grpDone ids E c 1 ∗ grpDone ids E c 2 ∗ grpDone ids E c 3 ∗ owns (c : Thread nD τ) (accM 0) fullShare (A ids E 0 3 c) ∗ owns (c : Thread nD τ) (accM 1) fullShare (A ids E 1 3 c) ∗ semVal ((c : Thread nD τ), .dma outq) 0 ∗ owns (c : Thread nD τ) (slotM 0 0) fullShare (A ids E 0 1 c) ∗ owns (c : Thread nD τ) (slotM 0 1) fullShare (A ids E 0 2 c) ∗ owns (c : Thread nD τ) (slotM 0 2) fullShare (A ids E 0 2 (pv 0 c)) ∗ owns (c : Thread nD τ) (slotM 1 0) fullShare (A ids E 1 1 c) ∗ owns (c : Thread nD τ) (slotM 1 1) fullShare (A ids E 1 2 c) ∗ owns (c : Thread nD τ) (slotM 1 2) fullShare (A ids E 1 2 (pv 1 c)) ∗ owns (c : Thread nD τ) (outM (gc c 0 0) 0) fullShare (Fn ids E (gc c 0 0) 0) ∗ owns (c : Thread nD τ) (outM (gc c 0 1) 0) fullShare (Fn ids E (gc c 0 1) 0) ∗ owns (c : Thread nD τ) (outM (gc c 0 2) 0) fullShare (Fn ids E (gc c 0 2) 0) ∗ owns (c : Thread nD τ) (outM (gc (pv 0 c) 0 2) 0) fullShare (Fn ids E (gc (pv 0 c) 0 2) 0) ∗ owns (c : Thread nD τ) (outM (gc c 1 0) 1) fullShare (Fn ids E (gc c 1 0) 1) ∗ owns (c : Thread nD τ) (outM (gc c 1 1) 1) fullShare (Fn ids E (gc c 1 1) 1) ∗ owns (c : Thread nD τ) (outM (gc c 1 2) 1) fullShare (Fn ids E (gc c 1 2) 1) ∗ owns (c : Thread nD τ) (outM (gc (pv 1 c) 1 2) 1) fullShare (Fn ids E (gc (pv 1 c) 1 2) 1) ∗ atPos ER (barCell c) 1 ∅ 0 ∗ done c 0 0 0 ∗ done c 0 0 1 ∗ done c 0 0 2 ∗ done c 0 1 0 ∗ done c 0 1 1 ∗ done c 0 1 2 ∗ done c 1 0 0 ∗ done c 1 0 1 ∗ done c 1 0 2 ∗ done c 1 1 0 ∗ done c 1 1 1 ∗ done c 1 1 2 ∗ done c 2 0 0 ∗ done c 2 0 1 ∗ done c 2 0 2 ∗ done c 2 1 0 ∗ done c 2 1 1 ∗ done c 2 1 2 ∗ done c 3 0 0 ∗ done c 3 0 1 ∗ done c 3 0 2 ∗ done c 3 1 0 ∗ done c 3 1 1 ∗ done c 3 1 2 ∗ owesL c ((dues c).drop 14))

/-- The same, before the last two waits. -/
abbrev bodyMid : sProp 𝕄 :=
  iprop(smem ids c pm lc cn pf a0 a1 a2 a3 a4 ∗ (eL c ↦[Finset.univ]{fullShare} (E c)) ∗ grpDone ids E c 0 ∗ grpDone ids E c 1 ∗ grpDone ids E c 2 ∗ grpDone ids E c 3 ∗ owns (c : Thread nD τ) (accM 0) fullShare (A ids E 0 3 c) ∗ owns (c : Thread nD τ) (accM 1) fullShare (A ids E 1 3 c) ∗ semVal ((c : Thread nD τ), .dma outq) 0 ∗ owns (c : Thread nD τ) (slotM 0 0) fullShare (A ids E 0 1 c) ∗ owns (c : Thread nD τ) (slotM 0 1) fullShare (A ids E 0 2 c) ∗ owns (c : Thread nD τ) (slotM 0 2) fullShare (A ids E 0 2 (pv 0 c)) ∗ owns (c : Thread nD τ) (slotM 1 0) fullShare (A ids E 1 1 c) ∗ owns (c : Thread nD τ) (slotM 1 1) fullShare (A ids E 1 2 c) ∗ owns (c : Thread nD τ) (slotM 1 2) fullShare (A ids E 1 2 (pv 1 c)) ∗ owns (c : Thread nD τ) (outM (gc c 0 0) 0) fullShare (Fn ids E (gc c 0 0) 0) ∗ owns (c : Thread nD τ) (outM (gc c 0 1) 0) fullShare (Fn ids E (gc c 0 1) 0) ∗ owns (c : Thread nD τ) (outM (gc c 0 2) 0) fullShare (Fn ids E (gc c 0 2) 0) ∗ owns (c : Thread nD τ) (outM (gc (pv 0 c) 0 2) 0) fullShare (Fn ids E (gc (pv 0 c) 0 2) 0) ∗ owns (c : Thread nD τ) (outM (gc c 1 0) 1) fullShare (Fn ids E (gc c 1 0) 1) ∗ owns (c : Thread nD τ) (outM (gc c 1 1) 1) fullShare (Fn ids E (gc c 1 1) 1) ∗ atPos ER (barCell c) 1 ∅ 0 ∗ done c 0 0 0 ∗ done c 0 0 1 ∗ done c 0 0 2 ∗ done c 0 1 0 ∗ done c 0 1 1 ∗ done c 0 1 2 ∗ done c 1 0 0 ∗ done c 1 0 1 ∗ done c 1 0 2 ∗ done c 1 1 0 ∗ done c 1 1 1 ∗ done c 1 1 2 ∗ done c 2 0 0 ∗ done c 2 0 1 ∗ done c 2 0 2 ∗ done c 2 1 0 ∗ done c 2 1 1 ∗ done c 3 0 0 ∗ done c 3 0 1 ∗ done c 3 0 2 ∗ done c 3 1 0 ∗ done c 3 1 1 ∗ owesL c ((dues c).drop 14) ∗ waitKit c 2 1 2 ∗ waitKit c 3 1 2)

theorem part21_run (hP : Plans ids c pm lc cn pf) :
    iprop(ctx ids E K c ∗ bodyPre ids E c pm lc cn pf a0 a1 a2 a3 a4)
      ⊢ wpc c (k0_part21 (F := F) a0 h0 a1 h1 a2 h2 a3 h3 a4 h4 eM (Memref.isWhole_whole _) oM (Memref.isWhole_whole _) gM (Memref.isWhole_whole _) rM (Memref.isWhole_whole _) aM (Memref.isWhole_whole _) cc0_scratch3 cc0_scratch4 cc0_scratch5 cc0_scratch6 cc0_scratch7 cc0_scratch8) (fun v => iprop(∃ w, ⌜v = ⟨c, w⟩⌝ ∗ bodyMid ids E c pm lc cn pf a0 a1 a2 a3 a4)) := by
  rw [k0_part21_eq_skeleton]
  unfold k0_part21_skel
  iintro ⟨#HC, S, E, G0, G1, G2, G3, A0x, A1x, OS, X0, X1, BC, BA, BT0, BT1, BP0, BP1, SK1_00, SK1_01, SK1_02, SK1_10, SK1_11, SK1_12, SK3_00, SK3_01, SK3_02, SK3_10, SK3_11, SK3_12, O0⟩
  iapply (wpc_seq c (part1_run ids E K c pm lc cn pf a0 h0 a1 h1 a2 h2 a3 h3 a4 h4 hP )) $$ [S G0 E O0]
  · isplitr; · iexact HC
    isplitl [S]; · iexact S
    isplitl [G0]; · iexact G0
    isplitl [E]; · iexact E
    iexact O0
  iintro %v1 ⟨%hv1, S, D0, E, O0⟩
  subst hv1
  iapply (wpc_seq c (part2_run ids E K c pm lc cn pf a0 h0 a1 h1 a2 h2 a3 h3 a4 h4 _ _)) $$ [S D0 A0x A1x BT0 BP0 O0]
  · isplitr; · iexact HC
    isplitl [S]; · iexact S
    isplitl [D0]; · iexact D0
    isplitl [A0x]; · iexact A0x
    isplitl [A1x]; · iexact A1x
    isplitl [BT0]; · iexact BT0
    isplitl [BP0]; · iexact BP0
    iexact O0
  iintro %v2 ⟨%hv2, S, D0, A0_0, A1_0, O1⟩
  subst hv2
  iapply (wpc_seq c (part3_run ids E K c pm lc cn pf a0 h0 a1 h1 a2 h2 a3 h3 a4 h4 _ _)) $$ [BT1 BP1 O1 BC BA A0_0 A1_0 SK1_00 SK1_10 S]
  · isplitr; · iexact HC
    isplitl [BT1]; · iexact BT1
    isplitl [BP1]; · iexact BP1
    isplitl [O1]; · iexact O1
    isplitl [BC]; · iexact BC
    isplitl [BA]; · iexact BA
    isplitl [A0_0]; · iexact A0_0
    isplitl [A1_0]; · iexact A1_0
    isplitl [SK1_00]; · iexact SK1_00
    isplitl [SK1_10]; · iexact SK1_10
    iexact S
  iintro %v3 ⟨%hv3, BD, DS01, DS02, DS11, DS12, DG00, DG01, DG02, DG10, DG11, DG12, W0_00, W1_00, W0_10, W1_10, S, O4⟩
  subst hv3
  ihave EE := (pointsTo_share (PosShare.mem_left_op_right fullShare)).1 $$ E
  icases EE with ⟨EL, ER_⟩
  iapply (wpc_seq c (part4_run ids E K c pm lc cn pf a0 h0 a1 h1 a2 h2 a3 h3 a4 h4 hP )) $$ [S G1 G2 EL ER_ O4]
  · isplitr; · iexact HC
    isplitl [S]; · iexact S
    isplitl [G1]; · iexact G1
    isplitl [G2]; · iexact G2
    isplitl [EL]; · iexact EL
    isplitl [ER_]; · iexact ER_
    iexact O4
  iintro %v4 ⟨S, D1, D2, EL, ER_, O4⟩
  iapply (wpc_seq c (part5_run ids E K c pm lc cn pf a0 h0 a1 h1 a2 h2 a3 h3 a4 h4 _ _)) $$ [W0_00 W1_00 S O4]
  · isplitr; · iexact HC
    isplitl [W0_00]; · iexact W0_00
    isplitl [W1_00]; · iexact W1_00
    isplitl [S]; · iexact S
    iexact O4
  iintro %v5 ⟨%w5, %hv5, S, N0_00, N1_00, A0_0, R00, O4⟩
  subst hv5
  iapply (wpc_seq c (part6_run ids E K c a0 h0 a1 h1 a2 h2 a3 h3 a4 h4 _ _)) $$ [D1 R00 W0_10 O4]
  · isplitr; · iexact HC
    isplitl [D1]; · iexact D1
    isplitl [R00]; · iexact R00
    isplitl [W0_10]; · iexact W0_10
    iexact O4
  iintro %v6 ⟨D1, U00, N0_10, A1_0, O4⟩
  iapply (wpc_seq c (part7_run ids E K c pm lc cn pf a0 h0 a1 h1 a2 h2 a3 h3 a4 h4 _)) $$ [W1_10 S D2 O4]
  · isplitr; · iexact HC
    isplitl [W1_10]; · iexact W1_10
    isplitl [S]; · iexact S
    isplitl [D2]; · iexact D2
    iexact O4
  iintro %v7 ⟨S, D2, N1_10, U10, O4⟩
  ihave EE := (pointsTo_share (PosShare.mem_left_op_right fullShare)).2 $$ [EL ER_]
  · isplitl [EL]; · iexact EL
    iexact ER_
  irename EE => E
  iapply (wpc_seq c (part8_run ids E K c pm lc cn pf a0 h0 a1 h1 a2 h2 a3 h3 a4 h4 hP _ _)) $$ [U00 U10 DS01 DS11 SK1_01 SK1_11 O4 S G3 E]
  · isplitr; · iexact HC
    isplitl [U00]; · iexact U00
    isplitl [U10]; · iexact U10
    isplitl [DS01]; · iexact DS01
    isplitl [DS11]; · iexact DS11
    isplitl [SK1_01]; · iexact SK1_01
    isplitl [SK1_11]; · iexact SK1_11
    isplitl [O4]; · iexact O4
    isplitl [S]; · iexact S
    isplitl [G3]; · iexact G3
    iexact E
  iintro %v8 ⟨S, F3, W0_01, W1_01, W0_11, W1_11, O6⟩
  iapply (wpc_seq c (part9_run ids E K c pm lc cn pf a0 h0 a1 h1 a2 h2 a3 h3 a4 h4 hP _ _)) $$ [S F3 W0_01 W1_01 O6]
  · isplitr; · iexact HC
    isplitl [S]; · iexact S
    isplitl [F3]; · iexact F3
    isplitl [W0_01]; · iexact W0_01
    isplitl [W1_01]; · iexact W1_01
    iexact O6
  iintro %v9 ⟨%w9, %wp9, %hv9, S, D3, E, N0_01, N1_01, U00, R01, O6⟩
  subst hv9
  iapply (wpc_seq c (part10_run ids E K c pm lc cn pf a0 h0 a1 h1 a2 h2 a3 h3 a4 h4 _ _)) $$ [R01 S D3]
  · isplitr; · iexact HC
    isplitl [R01]; · iexact R01
    isplitl [S]; · iexact S
    iexact D3
  iintro %v10 ⟨S, D3, U01⟩
  iapply (wpc_seq c (part11_run ids E K c pm lc cn pf a0 h0 a1 h1 a2 h2 a3 h3 a4 h4 _ _)) $$ [W0_11 W1_11 S D3 O6]
  · isplitr; · iexact HC
    isplitl [W0_11]; · iexact W0_11
    isplitl [W1_11]; · iexact W1_11
    isplitl [S]; · iexact S
    isplitl [D3]; · iexact D3
    iexact O6
  iintro %v11 ⟨%g11, %hv11, S, D3, N0_11, N1_11, U10, R11, O6⟩
  obtain ⟨hv11, hg11⟩ := hv11
  subst hv11
  iapply (wpc_seq c (part12_run ids E K c a0 h0 a1 h1 a2 h2 a3 h3 a4 h4 _ _ _ hg11)) $$ [R11 U01 DS02 DS12 SK1_02 SK1_12 O6]
  · isplitr; · iexact HC
    isplitl [R11]; · iexact R11
    isplitl [U01]; · iexact U01
    isplitl [DS02]; · iexact DS02
    isplitl [DS12]; · iexact DS12
    isplitl [SK1_02]; · iexact SK1_02
    isplitl [SK1_12]; · iexact SK1_12
    iexact O6
  iintro %v12 ⟨W0_02, W1_02, W0_12, W1_12, O8⟩
  iapply (wpc_seq c (part13_run ids E K c pm lc cn pf a0 h0 a1 h1 a2 h2 a3 h3 a4 h4 _ _)) $$ [W0_02 W1_02 S O8]
  · isplitr; · iexact HC
    isplitl [W0_02]; · iexact W0_02
    isplitl [W1_02]; · iexact W1_02
    isplitl [S]; · iexact S
    iexact O8
  iintro %v13 ⟨%w13, %hv13, S, N0_02, N1_02, U01, R02, O8⟩
  subst hv13
  imod (Transfers.batch_alloc' EC (c : Thread nD τ) () N (copyDone ids E c)) $$ OS with B0
  iapply (wpc_seq c (part14_run ids E K c a0 h0 a1 h1 a2 h2 a3 h3 a4 h4 _)) $$ [D2 A0_0 X0 B0 W0_12 O8]
  · isplitr; · iexact HC
    isplitl [D2]; · iexact D2
    isplitl [A0_0]; · iexact A0_0
    isplitl [X0]; · iexact X0
    isplitl [B0]; · iexact B0
    isplitl [W0_12]; · iexact W0_12
    iexact O8
  iintro %v14 ⟨D2, B1, N0_12, U11, O8⟩
  iapply (wpc_seq c (part15_run ids E K c pm lc cn pf a0 h0 a1 h1 a2 h2 a3 h3 a4 h4 _ _)) $$ [W1_12 S D1 O8]
  · isplitr; · iexact HC
    isplitl [W1_12]; · iexact W1_12
    isplitl [S]; · iexact S
    isplitl [D1]; · iexact D1
    iexact O8
  iintro %v15 ⟨%w15, %g15, %hv15, S, D1, N1_12, R12, O8⟩
  obtain ⟨hv15, hg15⟩ := hv15
  subst hv15
  iapply (wpc_seq c (part16_run ids E K c a0 h0 a1 h1 a2 h2 a3 h3 a4 h4 _ _ _ _ hg15)) $$ [A1_0 X1 B1 O8]
  · isplitr; · iexact HC
    isplitl [A1_0]; · iexact A1_0
    isplitl [X1]; · iexact X1
    isplitl [B1]; · iexact B1
    iexact O8
  iintro %v16 ⟨%hv16, A0_3, A1_3, P00, P10, OS, O8⟩
  subst hv16
  iapply (wpc_seq c (part17_run ids E K c a0 h0 a1 h1 a2 h2 a3 h3 a4 h4 _ _ _ _)) $$ [P00 P10 DG00 DG10 SK3_00 SK3_10 O8]
  · isplitr; · iexact HC
    isplitl [P00]; · iexact P00
    isplitl [P10]; · iexact P10
    isplitl [DG00]; · iexact DG00
    isplitl [DG10]; · iexact DG10
    isplitl [SK3_00]; · iexact SK3_00
    isplitl [SK3_10]; · iexact SK3_10
    iexact O8
  iintro %v17 ⟨N2_00, P00, W3_00, W2_10, W3_10, O10⟩
  iapply (wpc_seq c (part18_run ids E K c a0 h0 a1 h1 a2 h2 a3 h3 a4 h4 _ _ _)) $$ [W3_00 W2_10 W3_10 DG01 SK3_01 O10]
  · isplitr; · iexact HC
    isplitl [W3_00]; · iexact W3_00
    isplitl [W2_10]; · iexact W2_10
    isplitl [W3_10]; · iexact W3_10
    isplitl [DG01]; · iexact DG01
    isplitl [SK3_01]; · iexact SK3_01
    iexact O10
  iintro %v18 ⟨%w18, %wp18, %hv18, N3_00, N2_10, P10, N3_10, P11, W2_01, W3_01, O11⟩
  subst hv18
  iapply (wpc_seq c (part19_run ids E K c a0 h0 a1 h1 a2 h2 a3 h3 a4 h4 _ _ _ _)) $$ [P11 DG11 SK3_11 W2_01 W3_01 O11]
  · isplitr; · iexact HC
    isplitl [P11]; · iexact P11
    isplitl [DG11]; · iexact DG11
    isplitl [SK3_11]; · iexact SK3_11
    isplitl [W2_01]; · iexact W2_01
    isplitl [W3_01]; · iexact W3_01
    iexact O11
  iintro %v19 ⟨N2_01, P01, N3_01, P02, N2_11, P11, W3_11, O12⟩
  iapply (wpc_seq c (part20_run ids E K c a0 h0 a1 h1 a2 h2 a3 h3 a4 h4 _ _ _)) $$ [W3_11 P02 DG02 SK3_02 O12]
  · isplitr; · iexact HC
    isplitl [W3_11]; · iexact W3_11
    isplitl [P02]; · iexact P02
    isplitl [DG02]; · iexact DG02
    isplitl [SK3_02]; · iexact SK3_02
    iexact O12
  iintro %v20 ⟨N3_11, P12, W2_02, W3_02, O13⟩
  iapply (wp_sendG ids E K c 1 2 ((dues c).drop 14) (dev14 c) rfl rfl (off35_1 c)) $$ [P12 DG12 O13 SK3_12]
  · isplitr; · iexact HC
    isplitl [P12]; · iexact P12
    isplitl [DG12]; · iexact DG12
    isplitl [O13]; · iexact O13
    iexact SK3_12
  iintro ⟨W2_12, W3_12, O14⟩
  iapply (wp_waitK ids E K c 2 0 2 ((dues c).drop 14) rfl (dues_above c 14 _ (by decide))) $$ [W2_02 O14]
  · isplitr; · iexact HC
    isplitl [W2_02]; · iexact W2_02
    iexact O14
  iintro ⟨O14, N2_02, P02⟩
  ihave P02 := (show (dmaPay ids E c 2 0 2 : sProp 𝕄) ⊢ owns (c : Thread nD τ) (outM (gc c 0 2) 0) fullShare (Fn ids E (gc c 0 2) 0) from Entails.of_eq rfl) $$ P02
  iapply (wp_waitK ids E K c 3 0 2 ((dues c).drop 14) rfl (dues_above c 14 _ (by decide))) $$ [W3_02 O14]
  · isplitr; · iexact HC
    isplitl [W3_02]; · iexact W3_02
    iexact O14
  iintro ⟨O14, N3_02, Q02⟩
  ihave Q02 := (show (dmaPay ids E c 3 0 2 : sProp 𝕄) ⊢ owns (c : Thread nD τ) (outM (gc (pv 0 c) 0 2) 0) fullShare (Fn ids E (gc (pv 0 c) 0 2) 0) from Entails.of_eq rfl) $$ Q02
  iapply (wpc_ret c)
  iexists _
  isplitr; · ipureintro; rfl
  isplitl [S]; · iexact S
  isplitl [E]; · iexact E
  isplitl [D0]; · iexact D0
  isplitl [D1]; · iexact D1
  isplitl [D2]; · iexact D2
  isplitl [D3]; · iexact D3
  isplitl [A0_3]; · iexact A0_3
  isplitl [A1_3]; · iexact A1_3
  isplitl [OS]; · iexact OS
  isplitl [U00]; · iexact U00
  isplitl [U01]; · iexact U01
  isplitl [R02]; · iexact R02
  isplitl [U10]; · iexact U10
  isplitl [U11]; · iexact U11
  isplitl [R12]; · iexact R12
  isplitl [P00]; · iexact P00
  isplitl [P01]; · iexact P01
  isplitl [P02]; · iexact P02
  isplitl [Q02]; · iexact Q02
  isplitl [P10]; · iexact P10
  isplitl [P11]; · iexact P11
  isplitl [BD]; · iexact BD
  isplitl [N0_00]; · iexact N0_00
  isplitl [N0_01]; · iexact N0_01
  isplitl [N0_02]; · iexact N0_02
  isplitl [N0_10]; · iexact N0_10
  isplitl [N0_11]; · iexact N0_11
  isplitl [N0_12]; · iexact N0_12
  isplitl [N1_00]; · iexact N1_00
  isplitl [N1_01]; · iexact N1_01
  isplitl [N1_02]; · iexact N1_02
  isplitl [N1_10]; · iexact N1_10
  isplitl [N1_11]; · iexact N1_11
  isplitl [N1_12]; · iexact N1_12
  isplitl [N2_00]; · iexact N2_00
  isplitl [N2_01]; · iexact N2_01
  isplitl [N2_02]; · iexact N2_02
  isplitl [N2_10]; · iexact N2_10
  isplitl [N2_11]; · iexact N2_11
  isplitl [N3_00]; · iexact N3_00
  isplitl [N3_01]; · iexact N3_01
  isplitl [N3_02]; · iexact N3_02
  isplitl [N3_10]; · iexact N3_10
  isplitl [N3_11]; · iexact N3_11
  isplitl [O14]; · iexact O14
  isplitl [W2_12]; · iexact W2_12
  iexact W3_12

/-- The body of device c: from its own share of the buffers and of the protocol, every piece of the result at the sum. -/
theorem body_run (hP : Plans ids c pm lc cn pf) :
    iprop(ctx ids E K c ∗ bodyPre ids E c pm lc cn pf a0 a1 a2 a3 a4)
      ⊢ wpc c (cc0_body (F := F) a0 h0 a1 h1 a2 h2 a3 h3 a4 h4 eM (Memref.isWhole_whole _) oM (Memref.isWhole_whole _) gM (Memref.isWhole_whole _) rM (Memref.isWhole_whole _) aM (Memref.isWhole_whole _) cc0_scratch3 cc0_scratch4 cc0_scratch5 cc0_scratch6 cc0_scratch7 cc0_scratch8) (fun _ => bodyPost ids E c pm lc cn pf a0 a1 a2 a3 a4) := by
  rw [cc0_body_eq_skeleton]
  unfold cc0_body_skel
  iintro ⟨#HC, HB⟩
  iapply (wpc_seq c (part21_run ids E K c pm lc cn pf a0 h0 a1 h1 a2 h2 a3 h3 a4 h4 hP)) $$ [HB]
  · isplitr; · iexact HC
    iexact HB
  iintro %v ⟨%w, %hv, S, E, D0, D1, D2, D3, A0_3, A1_3, OS, U00, U01, R02, U10, U11, R12, P00, P01, P02, Q02, P10, P11, BD, N0_00, N0_01, N0_02, N0_10, N0_11, N0_12, N1_00, N1_01, N1_02, N1_10, N1_11, N1_12, N2_00, N2_01, N2_02, N2_10, N2_11, N3_00, N3_01, N3_02, N3_10, N3_11, O14, W2_12, W3_12⟩
  subst hv
  iapply (wp_waitK ids E K c 2 1 2 ((dues c).drop 14) rfl (dues_above c 14 _ (by decide))) $$ [W2_12 O14]
  · isplitr; · iexact HC
    isplitl [W2_12]; · iexact W2_12
    iexact O14
  iintro ⟨O14, N2_12, P12⟩
  ihave P12 := (show (dmaPay ids E c 2 1 2 : sProp 𝕄) ⊢ owns (c : Thread nD τ) (outM (gc c 1 2) 1) fullShare (Fn ids E (gc c 1 2) 1) from Entails.of_eq rfl) $$ P12
  iapply (wp_waitK ids E K c 3 1 2 ((dues c).drop 14) rfl (dues_above c 14 _ (by decide))) $$ [W3_12 O14]
  · isplitr; · iexact HC
    isplitl [W3_12]; · iexact W3_12
    iexact O14
  iintro ⟨O14, N3_12, Q12⟩
  ihave Q12 := (show (dmaPay ids E c 3 1 2 : sProp 𝕄) ⊢ owns (c : Thread nD τ) (outM (gc (pv 1 c) 1 2) 1) fullShare (Fn ids E (gc (pv 1 c) 1 2) 1) from Entails.of_eq rfl) $$ Q12
  iapply (wpc_ret c)
  isplitl [S]; · iexact S
  isplitl [E]; · iexact E
  isplitl [D0]; · iexact D0
  isplitl [D1]; · iexact D1
  isplitl [D2]; · iexact D2
  isplitl [D3]; · iexact D3
  isplitl [A0_3]; · iexact A0_3
  isplitl [A1_3]; · iexact A1_3
  isplitl [OS]; · iexact OS
  isplitl [U00]; · iexact U00
  isplitl [U01]; · iexact U01
  isplitl [R02]; · iexact R02
  isplitl [U10]; · iexact U10
  isplitl [U11]; · iexact U11
  isplitl [R12]; · iexact R12
  isplitl [P00]; · iexact P00
  isplitl [P01]; · iexact P01
  isplitl [P02]; · iexact P02
  isplitl [Q02]; · iexact Q02
  isplitl [P10]; · iexact P10
  isplitl [P11]; · iexact P11
  isplitl [P12]; · iexact P12
  isplitl [Q12]; · iexact Q12
  isplitl [BD]; · iexact BD
  isplitl [N0_00]; · iexact N0_00
  isplitl [N0_01]; · iexact N0_01
  isplitl [N0_02]; · iexact N0_02
  isplitl [N0_10]; · iexact N0_10
  isplitl [N0_11]; · iexact N0_11
  isplitl [N0_12]; · iexact N0_12
  isplitl [N1_00]; · iexact N1_00
  isplitl [N1_01]; · iexact N1_01
  isplitl [N1_02]; · iexact N1_02
  isplitl [N1_10]; · iexact N1_10
  isplitl [N1_11]; · iexact N1_11
  isplitl [N1_12]; · iexact N1_12
  isplitl [N2_00]; · iexact N2_00
  isplitl [N2_01]; · iexact N2_01
  isplitl [N2_02]; · iexact N2_02
  isplitl [N2_10]; · iexact N2_10
  isplitl [N2_11]; · iexact N2_11
  isplitl [N2_12]; · iexact N2_12
  isplitl [N3_00]; · iexact N3_00
  isplitl [N3_01]; · iexact N3_01
  isplitl [N3_02]; · iexact N3_02
  isplitl [N3_10]; · iexact N3_10
  isplitl [N3_11]; · iexact N3_11
  isplitl [N3_12]; · iexact N3_12
  iexact O14

end Body

end Cert.KernelIdeal.Run
-- ==== Proof.KernelIdeal.Buffers.lean ====
/-
  The buffers a device's body works in, cut into the pieces it works on, and put back together.
-/
module

public import proofs.«01_k».proof.Proof.KernelIdeal.Body
public import Idealize.ShloMosaic.Lib.Ring
public import Idealize.ShloMosaic.Lib.Memref

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

local notation "𝕄" => MT nD τ sig Unit (Elt F) ℕ UU ℕ

theorem elt_nonempty (e : EltTy) : Nonempty (Elt F e) := by
  cases e with
  | fp8e4m3 => exact ⟨(FloatOps.ofBits .fp8e4m3 0 : F .fp8e4m3)⟩
  | fp8e5m2 => exact ⟨(FloatOps.ofBits .fp8e5m2 0 : F .fp8e5m2)⟩
  | bf16 => exact ⟨(FloatOps.ofBits .bf16 0 : F .bf16)⟩
  | f16 => exact ⟨(FloatOps.ofBits .f16 0 : F .f16)⟩
  | f32 => exact ⟨(FloatOps.ofBits .f32 0 : F .f32)⟩
  | _ => exact ⟨(0 : BitVec _)⟩

/-- A separating conjunction, factor by factor. -/
theorem mono {I : Type} [DecidableEq I] (s : Finset I) {Φ Ψ : I → sProp 𝕄} (h : ∀ i, Φ i ⊢ Ψ i) : bigSep s Φ ⊢ bigSep s Ψ :=
  BI.bigSep_mono fun i _ => h i

/-- A memref owned at some contents is its elements held at some contents. -/
theorem any_iff {sp : Space} {sh : Shape} {e : EltTy} (c : Dev nD) (m : Memref sig .tc sp sh e) :
    (anyOwn c m : sProp 𝕄) ⊣⊢ iprop(∃ f, m.view.loc (c : Thread nD τ) ↦[m.view.set]{fullShare} f) := by
  constructor
  · unfold anyOwn owns
    iintro ⟨%X, %f, -, H⟩
    iexists f; iexact H
  · iintro ⟨%f, H⟩
    iexists _
    iapply (owns_intro (c : Thread nD τ) m fullShare f) $$ H

/-- Disjoint parts of a buffer, each at some contents, are their union at some contents. -/
theorem biUnion_any {T : Type} [DecidableEq T] {ℓ : Loc nD τ sig} (S : Finset T) (K : T → Finset (Idx ℓ))
    (h : ∀ t ∈ S, ∀ t' ∈ S, t ≠ t' → Disjoint (K t) (K t')) :
    bigSep S (fun t => iprop(∃ f : Buf (Elt F) ℓ, ℓ ↦[K t]{fullShare} f)) ⊢ (iprop(∃ g : Buf (Elt F) ℓ, ℓ ↦[S.biUnion K]{fullShare} g) : sProp 𝕄) := by
  have hne : Nonempty (Buf (Elt F) ℓ) := ⟨fun _ => Classical.choice (elt_nonempty _)⟩
  refine (bigSep_exists_pi S (fun t f => ℓ ↦[K t]{fullShare} f)).trans ?_
  iintro ⟨%fs, H⟩
  ihave H' := (pointsTo_biUnion_join S K fs (Classical.choice hne) h) $$ H
  icases H' with ⟨%g, -, H⟩
  iexists g; iexact H

theorem any_biUnion {T : Type} [DecidableEq T] {ℓ : Loc nD τ sig} (S : Finset T) (K : T → Finset (Idx ℓ))
    (h : ∀ t ∈ S, ∀ t' ∈ S, t ≠ t' → Disjoint (K t) (K t')) (f : Buf (Elt F) ℓ) :
    (ℓ ↦[S.biUnion K]{fullShare} f : sProp 𝕄) ⊢ bigSep S (fun t => iprop(∃ f : Buf (Elt F) ℓ, ℓ ↦[K t]{fullShare} f)) := by
  rw [pointsTo_biUnion S K h]
  refine mono S fun t => ?_
  iintro H; iexists f; iexact H

/-! ## Where the pieces lie -/

def rS (p : Fin 2 × Fin 3) : Finset S2x3x1024x1024.Idx := Finset.univ.filter fun x => (x 0).val = p.1.val ∧ (x 1).val = p.2.val
def aS (d : Fin 2) : Finset S2x1024x1024.Idx := Finset.univ.filter fun x => (x 0).val = d.val
def oS (p : Dev nD × Fin 2) : Finset S4096x2048.Idx := Finset.univ.filter fun x => (x 0).val / 1024 = p.1.val ∧ (x 1).val / 1024 = p.2.val

theorem slot_set (d : Fin 2) (s : Fin 3) : (slotM d s).view.set = rS (d, s) := by
  refine (Memref.set_view_squeeze _ _).trans ((View.set_slice_whole _ _).trans ?_)
  ext x
  refine (Rect.mem_set_unit (i := x)).trans ?_
  have hx2 : (x 2).val < 1024 := (x 2).isLt
  have hx3 : (x 3).val < 1024 := (x 3).isLt
  simp only [rS, Finset.mem_filter, Finset.mem_univ, true_and]
  constructor
  · intro h
    have h0 : d.val ≤ (x 0).val ∧ (x 0).val < d.val + 1 := h 0
    have h1 : s.val ≤ (x 1).val ∧ (x 1).val < s.val + 1 := h 1
    omega
  · intro h a
    match a with
    | ⟨0, _⟩ => show d.val ≤ (x 0).val ∧ (x 0).val < d.val + 1; omega
    | ⟨1, _⟩ => show s.val ≤ (x 1).val ∧ (x 1).val < s.val + 1; omega
    | ⟨2, _⟩ => show 0 ≤ (x 2).val ∧ (x 2).val < 0 + 1024; omega
    | ⟨3, _⟩ => show 0 ≤ (x 3).val ∧ (x 3).val < 0 + 1024; omega

theorem acc_set (d : Fin 2) : (accM d).view.set = aS d := by
  refine (Memref.set_view_squeeze _ _).trans ((View.set_slice_whole _ _).trans ?_)
  ext x
  refine (Rect.mem_set_unit (i := x)).trans ?_
  have hx1 : (x 1).val < 1024 := (x 1).isLt
  have hx2 : (x 2).val < 1024 := (x 2).isLt
  simp only [aS, Finset.mem_filter, Finset.mem_univ, true_and]
  constructor
  · intro h
    have h0 : d.val ≤ (x 0).val ∧ (x 0).val < d.val + 1 := h 0
    omega
  · intro h a
    match a with
    | ⟨0, _⟩ => show d.val ≤ (x 0).val ∧ (x 0).val < d.val + 1; omega
    | ⟨1, _⟩ => show 0 ≤ (x 1).val ∧ (x 1).val < 0 + 1024; omega
    | ⟨2, _⟩ => show 0 ≤ (x 2).val ∧ (x 2).val < 0 + 1024; omega

theorem chunk_set (p : Dev nD × Fin 2) : (chunkR p.1 p.2).set = oS p := by
  ext x
  refine (Rect.mem_set_unit (i := x)).trans ?_
  have hx0 : (x 0).val < 4096 := (x 0).isLt
  have hx1 : (x 1).val < 2048 := (x 1).isLt
  have hk := p.1.isLt
  have hd := p.2.isLt
  simp only [oS, Finset.mem_filter, Finset.mem_univ, true_and]
  constructor
  · intro h
    have h0 : 1024 * p.1.val ≤ (x 0).val ∧ (x 0).val < 1024 * p.1.val + 1024 := h 0
    have h1 : 1024 * p.2.val ≤ (x 1).val ∧ (x 1).val < 1024 * p.2.val + 1024 := h 1
    omega
  · intro h a
    match a with
    | ⟨0, _⟩ => show 1024 * p.1.val ≤ (x 0).val ∧ (x 0).val < 1024 * p.1.val + 1024; omega
    | ⟨1, _⟩ => show 1024 * p.2.val ≤ (x 1).val ∧ (x 1).val < 1024 * p.2.val + 1024; omega
theorem out_set (p : Dev nD × Fin 2) : (outM p.1 p.2).view.set = oS p := (View.set_slice_whole _ _).trans (chunk_set p)

theorem rS_disj (p q : Fin 2 × Fin 3) (h : p ≠ q) : Disjoint (rS p) (rS q) := by
  refine Finset.disjoint_left.mpr fun x hp hq => h ?_
  have hp := (Finset.mem_filter.mp hp).2
  have hq := (Finset.mem_filter.mp hq).2
  exact Prod.ext (Fin.ext (by omega)) (Fin.ext (by omega))
theorem aS_disj (p q : Fin 2) (h : p ≠ q) : Disjoint (aS p) (aS q) := by
  refine Finset.disjoint_left.mpr fun x hp hq => h ?_
  have hp := (Finset.mem_filter.mp hp).2
  have hq := (Finset.mem_filter.mp hq).2
  exact Fin.ext (by omega)
theorem oS_disj (p q : Dev nD × Fin 2) (h : p ≠ q) : Disjoint (oS p) (oS q) := by
  refine Finset.disjoint_left.mpr fun x hp hq => h ?_
  have hp := (Finset.mem_filter.mp hp).2
  have hq := (Finset.mem_filter.mp hq).2
  exact Prod.ext (Fin.ext (by omega)) (Fin.ext (by omega))
theorem gChunk_disj (p q : Dev nD) (h : p ≠ q) : Disjoint (gChunk p) (gChunk q) := by
  refine Finset.disjoint_left.mpr fun x hp hq => h ?_
  have hp := (Finset.mem_filter.mp hp).2
  have hq := (Finset.mem_filter.mp hq).2
  exact Fin.ext (by omega)
theorem rS_cover : (Finset.univ : Finset (Fin 2 × Fin 3)).biUnion rS = Finset.univ := by
  ext x
  simp only [Finset.mem_biUnion, Finset.mem_univ, true_and, iff_true]
  exact ⟨(x 0, x 1), Finset.mem_filter.mpr ⟨Finset.mem_univ _, rfl, rfl⟩⟩
theorem aS_cover : (Finset.univ : Finset (Fin 2)).biUnion aS = Finset.univ := by
  ext x
  simp only [Finset.mem_biUnion, Finset.mem_univ, true_and, iff_true]
  exact ⟨x 0, Finset.mem_filter.mpr ⟨Finset.mem_univ _, rfl⟩⟩
theorem chunk_lt (x : S4096x2048.Idx) : (x 0).val / 1024 < 4 := by
  have hx0 : (x 0).val < 4096 := (x 0).isLt
  omega
theorem half_lt (x : S4096x2048.Idx) : (x 1).val / 1024 < 2 := by
  have hx1 : (x 1).val < 2048 := (x 1).isLt
  omega
theorem oS_cover : (Finset.univ : Finset (Dev nD × Fin 2)).biUnion oS = Finset.univ := by
  ext x
  simp only [Finset.mem_biUnion, Finset.mem_univ, true_and, iff_true]
  exact ⟨(⟨_, chunk_lt x⟩, ⟨_, half_lt x⟩), Finset.mem_filter.mpr ⟨Finset.mem_univ _, rfl, rfl⟩⟩
theorem gChunk_cover : (Finset.univ : Finset (Dev nD)).biUnion gChunk = Finset.univ := by
  ext x
  simp only [Finset.mem_biUnion, Finset.mem_univ, true_and, iff_true]
  exact ⟨⟨_, chunk_lt x⟩, Finset.mem_filter.mpr ⟨Finset.mem_univ _, rfl⟩⟩

/-! ## Cutting and joining -/

abbrev rL (c : Dev nD) : Loc nD τ sig := rM.view.loc (c : Thread nD τ)
abbrev aL (c : Dev nD) : Loc nD τ sig := aM.view.loc (c : Thread nD τ)
abbrev oL (c : Dev nD) : Loc nD τ sig := oM.view.loc (c : Thread nD τ)

/-- The landing slots are the whole buffer. -/
theorem slots_iff (c : Dev nD) :
    (iprop(∃ f : Vec F S2x3x1024x1024 .bf16, rL c ↦{fullShare} f) : sProp 𝕄) ⊣⊢ bigSep (Finset.univ : Finset (Fin 2 × Fin 3)) (fun p => anyOwn c (slotM p.1 p.2)) := by
  have e (p : Fin 2 × Fin 3) : (anyOwn c (slotM p.1 p.2) : sProp 𝕄) ⊣⊢ iprop(∃ f : Vec F S2x3x1024x1024 .bf16, rL c ↦[rS p]{fullShare} f) := by
    have := any_iff (F := F) c (slotM p.1 p.2)
    rw [slot_set] at this
    exact this
  constructor
  · iintro ⟨%f, H⟩
    ihave H' := (show (rL c ↦{fullShare} f : sProp 𝕄) ⊢ rL c ↦[(Finset.univ : Finset (Fin 2 × Fin 3)).biUnion rS]{fullShare} f from
      Entails.of_eq (by rw [rS_cover])) $$ H
    ihave H'' := (any_biUnion (F := F) (ℓ := rL c) Finset.univ rS (fun p _ q _ h => rS_disj p q h) f) $$ H'
    iapply (mono Finset.univ fun p => (e p).2) $$ H''
  · refine (mono Finset.univ fun p => (e p).1).trans ((biUnion_any (F := F) (ℓ := rL c) Finset.univ rS (fun p _ q _ h => rS_disj p q h)).trans ?_)
    rw [rS_cover]; exact .rfl

/-- The two running sums are the whole buffer. -/
theorem accs_iff (c : Dev nD) :
    (iprop(∃ f : Vec F S2x1024x1024 .bf16, aL c ↦{fullShare} f) : sProp 𝕄) ⊣⊢ bigSep (Finset.univ : Finset (Fin 2)) (fun d => anyOwn c (accM d)) := by
  have e (d : Fin 2) : (anyOwn c (accM d) : sProp 𝕄) ⊣⊢ iprop(∃ f : Vec F S2x1024x1024 .bf16, aL c ↦[aS d]{fullShare} f) := by
    have := any_iff (F := F) c (accM d)
    rw [acc_set] at this
    exact this
  constructor
  · iintro ⟨%f, H⟩
    ihave H' := (show (aL c ↦{fullShare} f : sProp 𝕄) ⊢ aL c ↦[(Finset.univ : Finset (Fin 2)).biUnion aS]{fullShare} f from
      Entails.of_eq (by rw [aS_cover])) $$ H
    ihave H'' := (any_biUnion (F := F) (ℓ := aL c) Finset.univ aS (fun p _ q _ h => aS_disj p q h) f) $$ H'
    iapply (mono Finset.univ fun p => (e p).2) $$ H''
  · refine (mono Finset.univ fun p => (e p).1).trans ((biUnion_any (F := F) (ℓ := aL c) Finset.univ aS (fun p _ q _ h => aS_disj p q h)).trans ?_)
    rw [aS_cover]; exact .rfl

/-- The four chunks of the gather buffer are the whole buffer. -/
theorem chunks_iff (c : Dev nD) :
    (iprop(∃ f : Vec F S4096x2048 .f32, gL c ↦{fullShare} f) : sProp 𝕄)
      ⊣⊢ bigSep (Finset.univ : Finset (Dev nD)) (fun k => iprop(∃ f : Vec F S4096x2048 .f32, gL c ↦[gChunk k]{fullShare} f)) := by
  constructor
  · iintro ⟨%f, H⟩
    ihave H' := (show (gL c ↦{fullShare} f : sProp 𝕄) ⊢ gL c ↦[(Finset.univ : Finset (Dev nD)).biUnion gChunk]{fullShare} f from
      Entails.of_eq (by rw [gChunk_cover])) $$ H
    iapply (any_biUnion (F := F) (ℓ := gL c) Finset.univ gChunk (fun p _ q _ h => gChunk_disj p q h) f) $$ H'
  · refine (biUnion_any (F := F) (ℓ := gL c) Finset.univ gChunk (fun p _ q _ h => gChunk_disj p q h)).trans ?_
    rw [gChunk_cover]; exact .rfl

/-- The result cut into its eight pieces. -/
theorem outs_split (c : Dev nD) (f : Vec F S4096x2048 .bf16) :
    (oL c ↦{fullShare} f : sProp 𝕄) ⊢ bigSep (Finset.univ : Finset (Dev nD × Fin 2)) (fun p => anyOwn c (outM p.1 p.2)) := by
  have e (p : Dev nD × Fin 2) : (anyOwn c (outM p.1 p.2) : sProp 𝕄) ⊣⊢ iprop(∃ f : Vec F S4096x2048 .bf16, oL c ↦[oS p]{fullShare} f) := by
    have := any_iff (F := F) c (outM p.1 p.2)
    rw [out_set] at this
    exact this
  iintro H
  ihave H' := (show (oL c ↦{fullShare} f : sProp 𝕄) ⊢ oL c ↦[(Finset.univ : Finset (Dev nD × Fin 2)).biUnion oS]{fullShare} f from
    Entails.of_eq (by rw [oS_cover])) $$ H
  ihave H'' := (any_biUnion (F := F) (ℓ := oL c) Finset.univ oS (fun p _ q _ h => oS_disj p q h) f) $$ H'
  iapply (mono Finset.univ fun p => (e p).2) $$ H''

variable (ids : Dev nD → Vec F S4096x1 .i32) (E : Dev nD → Vec F S8192x2048 .f32)

/-- The whole result: at each place the final sum of its chunk and half. -/
def outVal : Vec F S4096x2048 .bf16 := fun x =>
  Fn ids E ⟨_, chunk_lt x⟩ ⟨_, half_lt x⟩
    (ix2 ⟨(x 0).val % 1024, Nat.mod_lt _ (by decide)⟩ ⟨(x 1).val % 1024, Nat.mod_lt _ (by decide)⟩)

theorem outVal_emb (k : Dev nD) (d : Fin 2) (j : S1024x1024.Idx) : outVal ids E ((chunkR k d).emb j) = Fn ids E k d j := by
  have hj0 : (j 0).val < 1024 := (j 0).isLt
  have hj1 : (j 1).val < 1024 := (j 1).isLt
  have e0 : (((chunkR k d).emb j) 0).val = 1024 * k.val + (j 0).val := by
    show 1024 * k.val + 1 * (j 0).val = _; omega
  have e1 : (((chunkR k d).emb j) 1).val = 1024 * d.val + (j 1).val := by
    show 1024 * d.val + 1 * (j 1).val = _; omega
  have h0 : (⟨_, chunk_lt ((chunkR k d).emb j)⟩ : Dev nD) = k := Fin.ext (by show (((chunkR k d).emb j) 0).val / 1024 = k.val; omega)
  have h1 : (⟨_, half_lt ((chunkR k d).emb j)⟩ : Fin 2) = d := Fin.ext (by show (((chunkR k d).emb j) 1).val / 1024 = d.val; omega)
  have h2 : (⟨(((chunkR k d).emb j) 0).val % 1024, Nat.mod_lt _ (by decide)⟩ : Fin 1024) = j 0 :=
    Fin.ext (by show (((chunkR k d).emb j) 0).val % 1024 = (j 0).val; omega)
  have h3 : (⟨(((chunkR k d).emb j) 1).val % 1024, Nat.mod_lt _ (by decide)⟩ : Fin 1024) = j 1 :=
    Fin.ext (by show (((chunkR k d).emb j) 1).val % 1024 = (j 1).val; omega)
  unfold outVal
  rw [h0, h1, h2, h3]
  exact congrArg (Fn ids E k d) (eq_ix2 j).symm

/-- The eight pieces at the final sums are the result at its value. -/
theorem outs_join (c : Dev nD) :
    bigSep (Finset.univ : Finset (Dev nD × Fin 2)) (fun p => owns (c : Thread nD τ) (outM p.1 p.2) fullShare (Fn ids E p.1 p.2))
      ⊢ (oL c ↦{fullShare} (outVal ids E) : sProp 𝕄) := by
  have : ∀ e, Nonempty (Elt F e) := elt_nonempty
  refine BI.Entails.trans ?_ (Entails.of_eq (owns_whole (c : Thread nD τ) main_v33 fullShare (outVal ids E)))
  refine BI.Entails.trans (mono Finset.univ fun p => Entails.of_eq ?_)
    (owns_of_rects (c : Thread nD τ) oM fullShare (fun p : Dev nD × Fin 2 => chunkR p.1 p.2) (fun _ _ => rfl)
      (fun p q h => by rw [chunk_set, chunk_set]; exact oS_disj p q h)
      (by rw [show (fun p : Dev nD × Fin 2 => (chunkR p.1 p.2).set) = oS from funext chunk_set]; exact oS_cover) (outVal ids E))
  exact congrArg (owns (c : Thread nD τ) (outM p.1 p.2) fullShare) (funext fun j => (outVal_emb ids E p.1 p.2 j).symm)

end Cert.KernelIdeal.Run
-- ==== Proof.KernelIdeal.Ends.lean ====
/-
  The kernel body from whole buffers, opened cells and tokens to whole buffers and closed cells.
-/
module

public import proofs.«01_k».proof.Proof.KernelIdeal.Buffers

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

local notation "𝕄" => MT nD τ sig Unit (Elt F) ℕ UU ℕ

/-- The six steps, one by one. -/
theorem sep_ds (Φ : Fin 2 × Fin 3 → sProp 𝕄) : bigSep Finset.univ Φ = iprop(Φ (0, 0) ∗ Φ (0, 1) ∗ Φ (0, 2) ∗ Φ (1, 0) ∗ Φ (1, 1) ∗ Φ (1, 2)) :=
  bigSep_univ_eq_bigSepL [(0, 0), (0, 1), (0, 2), (1, 0), (1, 1), (1, 2)] (by decide) (by decide) Φ

/-- The twenty-four cells, one by one. -/
theorem sep_kds (Φ : Fin 4 × Fin 2 × Fin 3 → sProp 𝕄) : bigSep Finset.univ Φ = iprop(Φ (0, 0, 0) ∗ Φ (0, 0, 1) ∗ Φ (0, 0, 2) ∗ Φ (0, 1, 0) ∗ Φ (0, 1, 1) ∗ Φ (0, 1, 2) ∗ Φ (1, 0, 0) ∗ Φ (1, 0, 1) ∗ Φ (1, 0, 2) ∗ Φ (1, 1, 0) ∗ Φ (1, 1, 1) ∗ Φ (1, 1, 2) ∗ Φ (2, 0, 0) ∗ Φ (2, 0, 1) ∗ Φ (2, 0, 2) ∗ Φ (2, 1, 0) ∗ Φ (2, 1, 1) ∗ Φ (2, 1, 2) ∗ Φ (3, 0, 0) ∗ Φ (3, 0, 1) ∗ Φ (3, 0, 2) ∗ Φ (3, 1, 0) ∗ Φ (3, 1, 1) ∗ Φ (3, 1, 2)) :=
  bigSep_univ_eq_bigSepL [(0, 0, 0), (0, 0, 1), (0, 0, 2), (0, 1, 0), (0, 1, 1), (0, 1, 2), (1, 0, 0), (1, 0, 1), (1, 0, 2), (1, 1, 0), (1, 1, 1), (1, 1, 2), (2, 0, 0), (2, 0, 1), (2, 0, 2), (2, 1, 0), (2, 1, 1), (2, 1, 2), (3, 0, 0), (3, 0, 1), (3, 0, 2), (3, 1, 0), (3, 1, 1), (3, 1, 2)] (by decide) (by decide) Φ

/-- The four chunks, one by one. -/
theorem sep_ch (c : Dev nD) (Φ : Dev nD → sProp 𝕄) : bigSep Finset.univ Φ = iprop(Φ (ch c 0) ∗ Φ (ch c 1) ∗ Φ (ch c 2) ∗ Φ (ch c 3)) :=
  bigSep_univ_eq_bigSepL [(ch c 0), (ch c 1), (ch c 2), (ch c 3)] (by revert c; decide) (by revert c; decide) Φ

/-- The pieces of the result: those lent, and the one kept, in either direction. -/
theorem sep_outIn (c : Dev nD) (Φ : Dev nD × Fin 2 → sProp 𝕄) : bigSep Finset.univ Φ = iprop(Φ (gc (pv 0 c) 0 0, 0) ∗ Φ (gc (pv 0 c) 0 1, 0) ∗ Φ (gc (pv 0 c) 0 2, 0) ∗ Φ (gc c 0 0, 0) ∗ Φ (gc (pv 1 c) 1 0, 1) ∗ Φ (gc (pv 1 c) 1 1, 1) ∗ Φ (gc (pv 1 c) 1 2, 1) ∗ Φ (gc c 1 0, 1)) :=
  bigSep_univ_eq_bigSepL [(gc (pv 0 c) 0 0, 0), (gc (pv 0 c) 0 1, 0), (gc (pv 0 c) 0 2, 0), (gc c 0 0, 0), (gc (pv 1 c) 1 0, 1), (gc (pv 1 c) 1 1, 1), (gc (pv 1 c) 1 2, 1), (gc c 1 0, 1)] (by revert c; decide) (by revert c; decide) Φ

/-- The pieces of the result, as the body leaves them. -/
theorem sep_outEnd (c : Dev nD) (Φ : Dev nD × Fin 2 → sProp 𝕄) : bigSep Finset.univ Φ = iprop(Φ (gc c 0 0, 0) ∗ Φ (gc c 0 1, 0) ∗ Φ (gc c 0 2, 0) ∗ Φ (gc (pv 0 c) 0 2, 0) ∗ Φ (gc c 1 0, 1) ∗ Φ (gc c 1 1, 1) ∗ Φ (gc c 1 2, 1) ∗ Φ (gc (pv 1 c) 1 2, 1)) :=
  bigSep_univ_eq_bigSepL [(gc c 0 0, 0), (gc c 0 1, 0), (gc c 0 2, 0), (gc (pv 0 c) 0 2, 0), (gc c 1 0, 1), (gc c 1 1, 1), (gc c 1 2, 1), (gc (pv 1 c) 1 2, 1)] (by revert c; decide) (by revert c; decide) Φ

/-- Two conjuncts, one by one. -/
theorem sep_fin2 (Φ : Fin 2 → sProp 𝕄) : bigSep Finset.univ Φ = iprop(Φ 0 ∗ Φ 1) :=
  bigSep_univ_eq_bigSepL [0, 1] (by decide) (by decide) Φ

/-- Four conjuncts, one by one. -/
theorem sep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem gotten_any (ids : Dev nD → Vec F S4096x1 .i32) (E : Dev nD → Vec F S8192x2048 .f32) (c k : Dev nD) :
    (gotten ids E c k : sProp 𝕄) ⊢ iprop(∃ f : Vec F S4096x2048 .f32, gL c ↦[gChunk k]{fullShare} f) := by
  unfold gotten
  iintro ⟨%f, H, -⟩
  iexists f; iexact H

section Ends

variable (ids : Dev nD → Vec F S4096x1 .i32) (E : Dev nD → Vec F S8192x2048 .f32) (K : GSem nD τ sig → ℕ) (c : Dev nD)

/-- The counters of the device's own copies: the four groups' and the copy out's. -/
abbrev ownZero : sProp 𝕄 :=
  iprop((bigSep (Finset.univ : Finset (Fin 4)) fun o => semVal ((c : Thread nD τ), .dma (gsem o)) 0) ∗ semVal ((c : Thread nD τ), .dma outq) 0)
/-- The kernel's own buffers, whole, at contents not chosen. -/
abbrev scratch : sProp 𝕄 :=
  iprop((∃ f : Vec F S4096x2048 .f32, gL c ↦{fullShare} f) ∗ (∃ f : Vec F S2x3x1024x1024 .bf16, rL c ↦{fullShare} f)
    ∗ (∃ f : Vec F S2x1024x1024 .bf16, aL c ↦{fullShare} f))
/-- The device's places, tokens and credit, all cells open. -/
abbrev opened : sProp 𝕄 :=
  iprop(cred (tallyAt (barCell c) () 2) ∗ atPos ER (barCell c) 0 ∅ 0
    ∗ (bigSep (Finset.univ : Finset (Fin 2)) fun d => dutyTok ER (barCell (pv d c)) 0 d)
    ∗ (bigSep (Finset.univ : Finset (Fin 2 × Fin 3)) fun p => stepKit (F := F) c 0 1 p.1 p.2)
    ∗ (bigSep (Finset.univ : Finset (Fin 2 × Fin 3)) fun p => stepKit (F := F) c 2 3 p.1 p.2))

variable (pm lc : Vec F S4096 .i32) (cn pf : Vec F S4 .i32)
  (a0 : Memref sig .tc .smem S4096 .i32) (h0 : a0.IsWhole) (a1 : Memref sig .tc .smem S4096 .i32) (h1 : a1.IsWhole)
  (a2 : Memref sig .tc .smem S4 .i32) (h2 : a2.IsWhole) (a3 : Memref sig .tc .smem S4 .i32) (h3 : a3.IsWhole)
  (a4 : Memref sig .tc .vmem S4096x1 .i32) (h4 : a4.IsWhole)

/-- What the body takes, from whole buffers. -/
theorem bodyPre_intro :
    iprop(ctx ids E K c ∗ smem ids c pm lc cn pf a0 a1 a2 a3 a4 ∗ opened (F := F) c ∗ ownZero (F := F) c ∗ (eL c ↦{fullShare} (E c))
        ∗ (∃ f : Vec F S4096x2048 .bf16, oL c ↦{fullShare} f) ∗ scratch (F := F) c ∗ owesL c (dues c))
      ⊢ bodyPre ids E c pm lc cn pf a0 a1 a2 a3 a4 := by
  iintro ⟨#HC, S, ⟨BC, BA, BT, SK1, SK3⟩, ⟨GZ, OS⟩, E, ⟨%f, O⟩, ⟨G, R, A⟩, O0⟩
  ihave HR := (show ctx ids E K c ⊢ bigSep (Finset.univ : Finset (Fin 4 × Fin 2 × Fin 3)) (fun p => reached ER (cell p.1 p.2.1 p.2.2 c) 0) from by
    unfold ctx; exact BI.sep_and.trans (and_elimR.trans (BI.sep_and.trans (and_elimR.trans (BI.sep_and.trans and_elimL))))) $$ HC
  ihave HR' := (Entails.of_eq (sep_kds (F := F) _)) $$ HR
  icases HR' with ⟨-, -, -, -, -, -, #H1_00, #H1_01, #H1_02, #H1_10, #H1_11, #H1_12, -, -, -, -, -, -, #H3_00, #H3_01, #H3_02, #H3_10, #H3_11, #H3_12⟩
  ihave GZ' := (Entails.of_eq (sep_fin4 (F := F) (fun o => semVal ((c : Thread nD τ), .dma (gsem o)) 0))) $$ GZ
  icases GZ' with ⟨Z0, Z1, Z2, Z3⟩
  ihave G' := ((chunks_iff (F := F) c).1.trans (Entails.of_eq (sep_ch (F := F) c _))) $$ G
  icases G' with ⟨G0, G1, G2, G3⟩
  ihave R' := ((slots_iff (F := F) c).1.trans (Entails.of_eq (sep_ds (F := F) _))) $$ R
  icases R' with ⟨R00, R01, R02, R10, R11, R12⟩
  ihave A' := ((accs_iff (F := F) c).1.trans (Entails.of_eq (sep_fin2 (F := F) _))) $$ A
  icases A' with ⟨A0x, A1x⟩
  ihave O' := ((outs_split (F := F) c f).trans (Entails.of_eq (sep_outIn (F := F) c _))) $$ O
  icases O' with ⟨K00, K01, K02, X0, K10, K11, K12, X1⟩
  ihave BT' := (Entails.of_eq (sep_fin2 (F := F) _)) $$ BT
  icases BT' with ⟨BT0, BT1⟩
  ihave SK1' := (Entails.of_eq (sep_ds (F := F) _)) $$ SK1
  icases SK1' with ⟨SK1_00, SK1_01, SK1_02, SK1_10, SK1_11, SK1_12⟩
  ihave SK3' := (Entails.of_eq (sep_ds (F := F) _)) $$ SK3
  icases SK3' with ⟨SK3_00, SK3_01, SK3_02, SK3_10, SK3_11, SK3_12⟩
  isplitl [S]; · iexact S
  isplitl [E]; · iexact E
  isplitl [G0 Z0]
  · isplitl [G0]; · iexact G0
    iexact Z0
  isplitl [G1 Z1]
  · isplitl [G1]; · iexact G1
    iexact Z1
  isplitl [G2 Z2]
  · isplitl [G2]; · iexact G2
    iexact Z2
  isplitl [G3 Z3]
  · isplitl [G3]; · iexact G3
    iexact Z3
  isplitl [A0x]; · iexact A0x
  isplitl [A1x]; · iexact A1x
  isplitl [OS]; · iexact OS
  isplitl [X0]; · iexact X0
  isplitl [X1]; · iexact X1
  isplitl [BC]; · iexact BC
  isplitl [BA]; · iexact BA
  isplitl [BT0]; · iexact BT0
  isplitl [BT1]; · iexact BT1
  isplitl [R00 K00 R01 K01 R02 K02]
  · unfold barPay lend
    rw [nx_pv]
    isplitl [R00 K00]
    · isplitl [R00]; · iexact R00
      isplitl [K00]; · iexact K00
      isplitr; · iexact H1_00
      iexact H3_00
    isplitl [R01 K01]
    · isplitl [R01]; · iexact R01
      isplitl [K01]; · iexact K01
      isplitr; · iexact H1_01
      iexact H3_01
    isplitl [R02]; · iexact R02
    isplitl [K02]; · iexact K02
    isplitr; · iexact H1_02
    iexact H3_02
  isplitl [R10 K10 R11 K11 R12 K12]
  · unfold barPay lend
    rw [nx_pv]
    isplitl [R10 K10]
    · isplitl [R10]; · iexact R10
      isplitl [K10]; · iexact K10
      isplitr; · iexact H1_10
      iexact H3_10
    isplitl [R11 K11]
    · isplitl [R11]; · iexact R11
      isplitl [K11]; · iexact K11
      isplitr; · iexact H1_11
      iexact H3_11
    isplitl [R12]; · iexact R12
    isplitl [K12]; · iexact K12
    isplitr; · iexact H1_12
    iexact H3_12
  isplitl [SK1_00]; · iexact SK1_00
  isplitl [SK1_01]; · iexact SK1_01
  isplitl [SK1_02]; · iexact SK1_02
  isplitl [SK1_10]; · iexact SK1_10
  isplitl [SK1_11]; · iexact SK1_11
  isplitl [SK1_12]; · iexact SK1_12
  isplitl [SK3_00]; · iexact SK3_00
  isplitl [SK3_01]; · iexact SK3_01
  isplitl [SK3_02]; · iexact SK3_02
  isplitl [SK3_10]; · iexact SK3_10
  isplitl [SK3_11]; · iexact SK3_11
  isplitl [SK3_12]; · iexact SK3_12
  iexact O0

/-- What the body leaves, but for the staged operands, as whole buffers and closed cells. -/
abbrev talkDone : sProp 𝕄 :=
  iprop(semVal (barCell c) 0 ∗ ownZero (F := F) c ∗ (bigSep (Finset.univ : Finset (Fin 4 × Fin 2 × Fin 3)) fun p => semVal (cell p.1 p.2.1 p.2.2 c) 0)
    ∗ (eL c ↦{fullShare} (E c)) ∗ (oL c ↦{fullShare} (outVal ids E)) ∗ scratch (F := F) c)

theorem bodyPost_elim :
    iprop(ctx ids E K c ∗ bodyPost ids E c pm lc cn pf a0 a1 a2 a3 a4)
      ⊢ |={Set.univ}=> iprop(smem ids c pm lc cn pf a0 a1 a2 a3 a4 ∗ talkDone ids E c ∗ owesL c []) := by
  iintro ⟨#HC, S, E, D0, D1, D2, D3, A0_3, A1_3, OS, U00, U01, R02, U10, U11, R12, P00, P01, P02, Q02, P10, P11, P12, Q12, BD, N0_00, N0_01, N0_02, N0_10, N0_11, N0_12, N1_00, N1_01, N1_02, N1_10, N1_11, N1_12, N2_00, N2_01, N2_02, N2_10, N2_11, N2_12, N3_00, N3_01, N3_02, N3_10, N3_11, N3_12, O14⟩
  ihave HI := (ctx_invs ids E K c) $$ HC
  imod (Rounds.cell_close ER (rd ids E) (Set.mem_univ (K (barCell c))) id (duties_later ids E (barCell c))) $$ [BD] with ZB
  · isplitr; · iapply (invs_bar ids E K c); iexact HI
    iexact BD
  imod (show iprop(invs ids E K ∗ bigSep (Finset.univ : Finset (Fin 4 × Fin 2 × Fin 3)) (fun p => atPos ER (cell p.1 p.2.1 p.2.2 c) 1 ∅ 0))
      ⊢ (|={Set.univ}=> bigSep (Finset.univ : Finset (Fin 4 × Fin 2 × Fin 3)) fun p => semVal (cell p.1 p.2.1 p.2.2 c) 0 : sProp 𝕄) from
    (bigSep_with_persistent (R := invs ids E K) (Φ := fun p : Fin 4 × Fin 2 × Fin 3 => (atPos ER (cell p.1 p.2.1 p.2.2 c) 1 ∅ 0 : sProp 𝕄))
      fun p _ => sep_mono_left (invs_cell ids E K p.1 p.2.1 p.2.2 c)).trans
    (Rounds.cells_close ER (rd ids E) Finset.univ (fun p : Fin 4 × Fin 2 × Fin 3 => cell p.1 p.2.1 p.2.2 c) (fun p => K (cell p.1 p.2.1 p.2.2 c))
      (fun _ _ => Set.mem_univ _) (fun _ _ => id) (fun _ => 1) (fun p _ => duties_later ids E (cell p.1 p.2.1 p.2.2 c)))) $$ [N0_00 N0_01 N0_02 N0_10 N0_11 N0_12 N1_00 N1_01 N1_02 N1_10 N1_11 N1_12 N2_00 N2_01 N2_02 N2_10 N2_11 N2_12 N3_00 N3_01 N3_02 N3_10 N3_11 N3_12] with ZC
  · isplitr; · iexact HI
    iapply (Entails.of_eq (sep_kds (F := F) _).symm)
    isplitl [N0_00]; · iexact N0_00
    isplitl [N0_01]; · iexact N0_01
    isplitl [N0_02]; · iexact N0_02
    isplitl [N0_10]; · iexact N0_10
    isplitl [N0_11]; · iexact N0_11
    isplitl [N0_12]; · iexact N0_12
    isplitl [N1_00]; · iexact N1_00
    isplitl [N1_01]; · iexact N1_01
    isplitl [N1_02]; · iexact N1_02
    isplitl [N1_10]; · iexact N1_10
    isplitl [N1_11]; · iexact N1_11
    isplitl [N1_12]; · iexact N1_12
    isplitl [N2_00]; · iexact N2_00
    isplitl [N2_01]; · iexact N2_01
    isplitl [N2_02]; · iexact N2_02
    isplitl [N2_10]; · iexact N2_10
    isplitl [N2_11]; · iexact N2_11
    isplitl [N2_12]; · iexact N2_12
    isplitl [N3_00]; · iexact N3_00
    isplitl [N3_01]; · iexact N3_01
    isplitl [N3_02]; · iexact N3_02
    isplitl [N3_10]; · iexact N3_10
    isplitl [N3_11]; · iexact N3_11
    iexact N3_12

  icases D0 with ⟨D0, Z0⟩
  icases D1 with ⟨D1, Z1⟩
  icases D2 with ⟨D2, Z2⟩
  icases D3 with ⟨D3, Z3⟩
  imodintro
  isplitl [S]; · iexact S
  isplitr [O14]
  · isplitl [ZB]; · iexact ZB
    isplitl [Z0 Z1 Z2 Z3 OS]
    · isplitr [OS]
      · iapply (Entails.of_eq (sep_fin4 (F := F) (fun o => semVal ((c : Thread nD τ), .dma (gsem o)) 0)).symm)
        isplitl [Z0]; · iexact Z0
        isplitl [Z1]; · iexact Z1
        isplitl [Z2]; · iexact Z2
        iexact Z3
      iexact OS
    isplitl [ZC]; · iexact ZC
    isplitl [E]; · iexact E
    isplitl [P00 P01 P02 Q02 P10 P11 P12 Q12]
    · iapply (outs_join ids E c)
      iapply (Entails.of_eq (sep_outEnd (F := F) c _).symm)
      isplitl [P00]; · iexact P00
      isplitl [P01]; · iexact P01
      isplitl [P02]; · iexact P02
      isplitl [Q02]; · iexact Q02
      isplitl [P10]; · iexact P10
      isplitl [P11]; · iexact P11
      isplitl [P12]; · iexact P12
      iexact Q12

    isplitl [D0 D1 D2 D3]
    · iapply (chunks_iff (F := F) c).2
      iapply (Entails.of_eq (sep_ch (F := F) c _).symm)
      isplitl [D0]
      · iapply (gotten_any ids E c (ch c 0)); iexact D0
      isplitl [D1]
      · iapply (gotten_any ids E c (ch c 1)); iexact D1
      isplitl [D2]
      · iapply (gotten_any ids E c (ch c 2)); iexact D2
      iapply (gotten_any ids E c (ch c 3)); iexact D3

    isplitl [U00 U01 R02 U10 U11 R12]
    · iapply (slots_iff (F := F) c).2
      iapply (Entails.of_eq (sep_ds (F := F) _).symm)
      isplitl [U00]
      · iexists _; iexact U00
      isplitl [U01]
      · iexists _; iexact U01
      isplitl [R02]
      · iexists _; iexact R02
      isplitl [U10]
      · iexists _; iexact U10
      isplitl [U11]
      · iexists _; iexact U11
      iexists _; iexact R12

    iapply (accs_iff (F := F) c).2
    iapply (Entails.of_eq (sep_fin2 (F := F) _).symm)
    isplitl [A0_3]; · iexists _; iexact A0_3
    iexists _; iexact A1_3
  iexact O14

/-- The body, from whole buffers and open cells to whole buffers and closed cells. -/
theorem talk_run (hP : Plans ids c pm lc cn pf) :
    iprop(ctx ids E K c ∗ smem ids c pm lc cn pf a0 a1 a2 a3 a4 ∗ opened (F := F) c ∗ ownZero (F := F) c ∗ (eL c ↦{fullShare} (E c))
        ∗ (∃ f : Vec F S4096x2048 .bf16, oL c ↦{fullShare} f) ∗ scratch (F := F) c ∗ owesL c (dues c))
      ⊢ wpc c (cc0_body (F := F) a0 h0 a1 h1 a2 h2 a3 h3 a4 h4 eM (Memref.isWhole_whole _) oM (Memref.isWhole_whole _) gM (Memref.isWhole_whole _) rM (Memref.isWhole_whole _) aM (Memref.isWhole_whole _) cc0_scratch3 cc0_scratch4 cc0_scratch5 cc0_scratch6 cc0_scratch7 cc0_scratch8)
        (fun _ => iprop(smem ids c pm lc cn pf a0 a1 a2 a3 a4 ∗ talkDone ids E c ∗ owesL c [])) := by
  unfold wpc
  iintro ⟨#HC, H⟩
  iapply (wp_fupd _ _ _ _ _)
  iapply (wp_wand _ _ _ (Q := fun _ => bodyPost ids E c pm lc cn pf a0 a1 a2 a3 a4)) $$ [H]
  · iapply (body_run ids E K c pm lc cn pf a0 h0 a1 h1 a2 h2 a3 h3 a4 h4 hP)
    isplitr; · iexact HC
    iapply (bodyPre_intro ids E K c pm lc cn pf a0 a1 a2 a3 a4)
    isplitr; · iexact HC
    iexact H
  iintro %u HP
  iapply (bodyPost_elim ids E K c pm lc cn pf a0 a1 a2 a3 a4)
  isplitr; · iexact HC
  iexact HP

end Ends

end Cert.KernelIdeal.Run
-- ==== Proof.KernelIdeal.Region.lean ====
/-
  The kernel as one region of @main: what enters it, what it leaves.
-/
module

public import proofs.«01_k».proof.Proof.KernelIdeal.Ends

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

local notation "𝕄" => MT nD τ sig Unit (Elt F) ℕ UU ℕ

variable (m : (ℓ : Loc nD τ sig) → Buf (Elt F) ℓ)

/-- What the buffers hold when the kernel starts. -/
@[irreducible] def HV (c : Dev nD) : Valuation τ sig (Elt F) := V15 m c
theorem HV_eq (c : Dev nD) : HV m c = V15 m c := by unfold HV; rfl

/-- The ids and the parts of the table as every device holds them when the kernel starts. -/
def idsOf : Dev nD → Vec F S4096x1 .i32 := fun c => HV m c main_v32
def tabOf : Dev nD → Vec F S8192x2048 .f32 := fun c => HV m c main_arg1
/-- The host's plan, as the kernel reads it. -/
def PlansAt : Prop := ∀ c : Dev nD, Plans (idsOf m) c (HV m c main_v15) (HV m c main_v19) (HV m c main_v27) (HV m c main_v31)
/-- The valuation after the kernel. -/
def outsOf : Outs (F := F) := fun _ r c => if h : r = main_v33 then by subst h; exact outVal (idsOf m) (tabOf m) else HV m c r
def W' (c : Dev nD) : Valuation τ sig (Elt F) := V16 m (outsOf m) c

theorem W'_of (c : Dev nD) (r : Ref sig .tc) (h : r ∉ ([main_v33] : List (Ref sig .tc))) : W' m c r = HV m c r := by
  rw [HV_eq]; exact V16_of m (outsOf m) c r h
theorem W'_out (c : Dev nD) : W' m c main_v33 = outVal (idsOf m) (tabOf m) := by
  unfold W' V16
  rw [Function.update_self]
  unfold outsOf
  rw [dif_pos rfl]

theorem sep_join {I : Type} [DecidableEq I] {s : Finset I} {Φ Ψ : I → sProp 𝕄} : iprop(bigSep s Φ ∗ bigSep s Ψ) ⊢ bigSep s (fun i => iprop(Φ i ∗ Ψ i)) :=
  Entails.of_eq (bigSep_sep' _ _ _).symm
theorem sep_cut {I : Type} [DecidableEq I] {s : Finset I} {Φ Ψ : I → sProp 𝕄} : bigSep s (fun i => iprop(Φ i ∗ Ψ i)) ⊢ iprop(bigSep s Φ ∗ bigSep s Ψ) :=
  Entails.of_eq (bigSep_sep' _ _ _)

/-! ## The thread states around the kernel -/

/-- The device's own counters: the groups', the copy out's, the twenty-four of the talk. -/
def osem : Fin 4 ⊕ Unit ⊕ (Fin 4 × Fin 2 × Fin 3) → SemLoc sig
  | .inl o => .dma (gsem o)
  | .inr (.inl _) => .dma outq
  | .inr (.inr p) => .dma (qix p.1 p.2.1 p.2.2)

theorem osem_facts : Pipeline.OwnSemFacts spec0 osem := by decide +kernel

theorem ownSems_eq (c : Dev nD) : (Pipeline.ownSems0 osem c : sProp 𝕄)
    = iprop((bigSep (Finset.univ : Finset (Fin 4)) fun o => semVal ((c : Thread nD τ), .dma (gsem o)) 0) ∗ semVal ((c : Thread nD τ), .dma outq) 0
      ∗ bigSep (Finset.univ : Finset (Fin 4 × Fin 2 × Fin 3)) fun p => semVal (cell p.1 p.2.1 p.2.2 c) 0) := by
  unfold Pipeline.ownSems0
  rw [bigSep_univ_sum, bigSep_univ_sum, Finset.univ_unique (α := Unit), bigSep_singleton]
  rfl

/-- One token of every step, of the kind k, on the device that `r` names. -/
abbrev tokK (k : Fin 4) (r : Fin 2 → Dev nD) : sProp 𝕄 :=
  bigSep (Finset.univ : Finset (Fin 2 × Fin 3)) fun p => dutyTok ER (cell k p.1 p.2 (r p.1)) 0 0
abbrev credK (k : Fin 4) (c : Dev nD) : sProp 𝕄 :=
  bigSep (Finset.univ : Finset (Fin 2 × Fin 3)) fun p => cred (tallyAt (cell k p.1 p.2 c) () N)

/-- What every device may consult. -/
def recs (K : GSem nD τ sig → ℕ) : sProp 𝕄 :=
  iprop(invs (idsOf m) (tabOf m) K ∗ bigSep (Finset.univ : Finset (Dev nD)) fun c => reached ER (barCell c) 0)
instance recs_persistent (K : GSem nD τ sig → ℕ) : BI.Persistent (recs m K) := by unfold recs; infer_instance

/-- What is the device's alone: its place at the barrier, its rights to open, the tokens of the duties it pays. -/
def linear (c : Dev nD) : sProp 𝕄 :=
  iprop(atPos ER (barCell c) 0 ∅ 0 ∗ (bigSep (Finset.univ : Finset (Fin 4 × Fin 2 × Fin 3)) fun p => openTok ER (cell p.1 p.2.1 p.2.2 c))
    ∗ (bigSep (Finset.univ : Finset (Fin 2)) fun d => dutyTok ER (barCell (pv d c)) 0 d)
    ∗ tokK 0 (fun _ => c) ∗ tokK 1 (fun d => nx d c) ∗ tokK 2 (fun _ => c) ∗ tokK 3 (fun d => nx d c))
def credits (c : Dev nD) : sProp 𝕄 := iprop(cred (tallyAt (barCell c) () 2) ∗ credK 1 c ∗ credK 3 c)

def Tk (c : Dev nD) : sProp 𝕄 := iprop((∃ K, recs m K) ∗ linear (F := F) c ∗ credits (F := F) c)
def Xk (c : Dev nD) : sProp 𝕄 := iprop((∃ K, ctx (idsOf m) (tabOf m) K c) ∗ opened (F := F) c ∗ ownZero (F := F) c)
def Yk (c : Dev nD) : sProp 𝕄 := semVal (barCell c) 0

theorem kits (c : Dev nD) (ks kv : Fin 4) :
    iprop(tokK (F := F) ks (fun _ => c) ∗ tokK (F := F) kv (fun d => nx d c) ∗ (bigSep (Finset.univ : Finset (Fin 2 × Fin 3)) fun p => atPos ER (cell ks p.1 p.2 c) 0 ∅ 0)
        ∗ credK (F := F) kv c ∗ (bigSep (Finset.univ : Finset (Fin 2 × Fin 3)) fun p => atPos ER (cell kv p.1 p.2 c) 0 ∅ 0))
      ⊢ (bigSep (Finset.univ : Finset (Fin 2 × Fin 3)) fun p => stepKit (F := F) c ks kv p.1 p.2 : sProp 𝕄) := by
  unfold stepKit
  iintro ⟨H1, H2, H3, H4, H5⟩
  iapply sep_join; isplitl [H1]; · iexact H1
  iapply sep_join; isplitl [H2]; · iexact H2
  iapply sep_join; isplitl [H3]; · iexact H3
  iapply sep_join; isplitl [H4]; · iexact H4
  iexact H5

theorem reached_at (c : Dev nD) : bigSep (Finset.univ : Finset (Dev nD)) (fun c => (reached ER (barCell c) 0 : sProp 𝕄)) ⊢ reached ER (barCell c) 0 :=
  BI.bigSep_elim (Φ := fun c : Dev nD => (reached ER (barCell c) 0 : sProp 𝕄)) (Finset.mem_univ c)

theorem hopen (c : Dev nD) : iprop(Tk m c ∗ Pipeline.ownSems0 osem c ∗ levAts L lv) ⊢ (|={Set.univ}=> Xk m c : sProp 𝕄) := by
  rw [ownSems_eq]
  unfold Tk Xk recs linear credits
  iintro ⟨⟨⟨%K, #HI, #HR⟩, ⟨BA, OT, BT, T0, T1, T2, T3⟩, BC, C1, C3⟩, ⟨GZ, OS, CZ⟩, #HL⟩
  imod (show iprop((invs (idsOf m) (tabOf m) K ∗ bigSep (Finset.univ : Finset (Fin 4 × Fin 2 × Fin 3)) (fun p => openTok ER (cell p.1 p.2.1 p.2.2 c)))
        ∗ bigSep (Finset.univ : Finset (Fin 4 × Fin 2 × Fin 3)) (fun p => semVal (cell p.1 p.2.1 p.2.2 c) 0))
      ⊢ (|={Set.univ}=> bigSep (Finset.univ : Finset (Fin 4 × Fin 2 × Fin 3)) fun p => iprop(atPos ER (cell p.1 p.2.1 p.2.2 c) 0 ∅ 0 ∗ reached ER (cell p.1 p.2.1 p.2.2 c) 0) : sProp 𝕄) from
    (sep_mono_left (bigSep_with_persistent (R := invs (idsOf m) (tabOf m) K) (Φ := fun p : Fin 4 × Fin 2 × Fin 3 => (openTok ER (cell p.1 p.2.1 p.2.2 c) : sProp 𝕄))
      fun p _ => sep_mono_left (invs_cell (idsOf m) (tabOf m) K p.1 p.2.1 p.2.2 c))).trans
    (Rounds.cells_open ER (rd (idsOf m) (tabOf m)) Finset.univ (fun p : Fin 4 × Fin 2 × Fin 3 => cell p.1 p.2.1 p.2.2 c) (fun p => K (cell p.1 p.2.1 p.2.2 c))
      (fun _ _ => Set.mem_univ _))) $$ [OT CZ] with HA
  · isplitr [CZ]
    · isplitr; · iexact HI
      iexact OT
    iexact CZ
  ihave HA2 := sep_cut $$ HA
  icases HA2 with ⟨AT, #RE⟩
  ihave AT2 := (Entails.of_eq ((bigSep_univ_prod _).trans (sep_fin4 (F := F) (fun k => bigSep Finset.univ fun p : Fin 2 × Fin 3 => atPos ER (cell k p.1 p.2 c) 0 ∅ 0)))) $$ AT
  icases AT2 with ⟨AT0, AT1, AT2, AT3⟩
  imodintro
  isplitr [BA BT T0 T1 T2 T3 BC C1 C3 GZ OS AT0 AT1 AT2 AT3]
  · iexists K
    unfold ctx
    isplitr; · iexact HI
    isplitr; · iexact HL
    isplitr; · iexact RE
    iapply (Entails.of_eq (sep_fin2 (F := F) (fun d => reached ER (barCell (pv d c)) 0)).symm)
    isplitr
    · iapply (reached_at (F := F) (pv 0 c)); iexact HR
    iapply (reached_at (F := F) (pv 1 c)); iexact HR
  isplitr [GZ OS]
  · isplitl [BC]; · iexact BC
    isplitl [BA]; · iexact BA
    isplitl [BT]; · iexact BT
    isplitl [T0 T1 AT0 C1 AT1]
    · iapply (kits (F := F) c 0 1)
      isplitl [T0]; · iexact T0
      isplitl [T1]; · iexact T1
      isplitl [AT0]; · iexact AT0
      isplitl [C1]; · iexact C1
      iexact AT1
    iapply (kits (F := F) c 2 3)
    isplitl [T2]; · iexact T2
    isplitl [T3]; · iexact T3
    isplitl [AT2]; · iexact AT2
    isplitl [C3]; · iexact C3
    iexact AT3
  isplitl [GZ]; · iexact GZ
  iexact OS

/-! ## The proof data of the kernel's one pipeline -/

def winVal (c : Dev nD) : (w : Fin cfg0.W) → Buf (Elt F) ((cfg0.win w).arr.view.loc (c.tc : Thread nD τ))
  | 0 => HV m c main_v15
  | 1 => HV m c main_v19
  | 2 => HV m c main_v27
  | 3 => HV m c main_v31
  | 4 => HV m c main_v32
def winAfter (c : Dev nD) : (w : Fin cfg0.W) → (cfg0.win w).block.Idx → Elt F (cfg0.win w).elt
  | 0 => HV m c main_v15
  | 1 => HV m c main_v19
  | 2 => HV m c main_v27
  | 3 => HV m c main_v31
  | 4 => HV m c main_v32

/-- The kernel's own state before its one point, and after it. -/
def Φin (c : Dev nD) : sProp 𝕄 :=
  iprop(Xk m c ∗ (eL c ↦{fullShare} (tabOf m c)) ∗ (∃ f : Vec F S4096x2048 .bf16, oL c ↦{fullShare} f) ∗ scratch (F := F) c ∗ ∃ r, prngReg c r)
def Φend (c : Dev nD) : sProp 𝕄 := iprop(talkDone (idsOf m) (tabOf m) c ∗ ∃ r, prngReg c r)

def dat0 (c : Dev nD) : Pipeline.Dat τ (Elt F) Unit ℕ UU ℕ cfg0 c where
  A := winVal m c
  after w _ := winAfter m c w
  Φ t := if t.val = 0 then Φin m c else Φend m c
  q _ := fullShare
  owed t := if t.val = 0 then oweL (dues c) else 0
def pdats : (p : Fin 1) → (c : Dev nD) → Pipeline.Dat τ (Elt F) Unit ℕ UU ℕ (cfgs p) c := fun _ => dat0 m

theorem owed_zero (c : Dev nD) : (pdats m 0 c).owed 0 = oweL (dues c) := by
  show (if ((0 : Fin (cfg0.N + 1)).val = 0) then oweL (dues c) else 0) = _; exact if_pos rfl
theorem owed_first (c : Dev nD) : (dat0 m c).owed t0_0.castSucc = oweL (dues c) := by
  show (if (t0_0.castSucc : Fin (cfg0.N + 1)).val = 0 then oweL (dues c) else 0) = _; exact if_pos rfl
theorem owed_last (c : Dev nD) : (pdats m 0 c).owed (Fin.last _) = 0 := by
  show (if (Fin.last cfg0.N).val = 0 then oweL (dues c) else 0) = 0
  rw [Fin.val_last, if_neg (by rw [show cfg0.N = 1 from N_0]; decide)]

theorem owes_in (c : Dev nD) : ((dat0 m c).owesAt () t0_0.castSucc : sProp 𝕄) ⊢ owesL c (dues c) := by
  unfold Pipeline.Dat.owesAt Pipeline.owesWithin owesL; rw [owed_first]
  iintro ⟨%W, -, HO⟩; iexists W; iexact HO
theorem owes_out (c : Dev nD) : (owesL c [] : sProp 𝕄) ⊢ (dat0 m c).owesAt () t0_0.succ := by
  unfold Pipeline.Dat.owesAt Pipeline.owesWithin Pipeline.Dat.bound owesL
  rw [show (dat0 m c).owed t0_0.succ = 0 from owed_last m c]
  iintro ⟨%W, HO⟩; iexists W
  isplitr; · ipureintro; exact fun _ _ => Or.inl trivial
  iexact HO

theorem fill0 (v : Vec F S4096 .i32) (d : Vec F S4096 .i32) : win0_0.fill (grid0.coords t0_0) d ((win0_0.blk t0_0).view.read (Elt F) v) = v := by
  funext j
  refine Eq.trans (b := v ((win0_0.rect t0_0).emb j)) rfl (congrArg v (funext fun a => Fin.ext ?_))
  show 0 * S4096.size a + 1 * (j a).val = (j a).val
  omega
theorem fill1 (v : Vec F S4096 .i32) (d : Vec F S4096 .i32) : win0_1.fill (grid0.coords t0_0) d ((win0_1.blk t0_0).view.read (Elt F) v) = v := by
  funext j
  refine Eq.trans (b := v ((win0_1.rect t0_0).emb j)) rfl (congrArg v (funext fun a => Fin.ext ?_))
  show 0 * S4096.size a + 1 * (j a).val = (j a).val
  omega
theorem fill2 (v : Vec F S4 .i32) (d : Vec F S4 .i32) : win0_2.fill (grid0.coords t0_0) d ((win0_2.blk t0_0).view.read (Elt F) v) = v := by
  funext j
  refine Eq.trans (b := v ((win0_2.rect t0_0).emb j)) rfl (congrArg v (funext fun a => Fin.ext ?_))
  show 0 * S4.size a + 1 * (j a).val = (j a).val
  omega
theorem fill3 (v : Vec F S4 .i32) (d : Vec F S4 .i32) : win0_3.fill (grid0.coords t0_0) d ((win0_3.blk t0_0).view.read (Elt F) v) = v := by
  funext j
  refine Eq.trans (b := v ((win0_3.rect t0_0).emb j)) rfl (congrArg v (funext fun a => Fin.ext ?_))
  show 0 * S4.size a + 1 * (j a).val = (j a).val
  omega
theorem fill4 (v : Vec F S4096x1 .i32) (d : Vec F S4096x1 .i32) : win0_4.fill (grid0.coords t0_0) d ((win0_4.blk t0_0).view.read (Elt F) v) = v := by
  funext j
  refine Eq.trans (b := v ((win0_4.rect t0_0).emb j)) rfl (congrArg v (funext fun a => Fin.ext ?_))
  show 0 * S4096x1.size a + 1 * (j a).val = (j a).val
  omega

theorem before_w (c : Dev nD) : ∀ (w : Fin cfg0.W) (d), (dat0 m c).before w t0_0 d = winAfter m c w
  | 0, d => (Pipeline.Dat.before_fetched _ _ _ (fetch0_0 t0_0) d).trans (fill0 _ d)
  | 1, d => (Pipeline.Dat.before_fetched _ _ _ (fetch0_1 t0_0) d).trans (fill1 _ d)
  | 2, d => (Pipeline.Dat.before_fetched _ _ _ (fetch0_2 t0_0) d).trans (fill2 _ d)
  | 3, d => (Pipeline.Dat.before_fetched _ _ _ (fetch0_3 t0_0) d).trans (fill3 _ d)
  | 4, d => (Pipeline.Dat.before_fetched _ _ _ (fetch0_4 t0_0) d).trans (fill4 _ d)

end Cert.KernelIdeal.Run
-- ==== Proof.KernelIdeal.Seg.lean ====
/-
  The kernel region as a segment of @main.
-/
module

public import proofs.«01_k».proof.Proof.KernelIdeal.Region

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

local notation "𝕄" => MT nD τ sig Unit (Elt F) ℕ UU ℕ

variable (m : (ℓ : Loc nD τ sig) → Buf (Elt F) ℓ)

/-- The body obligation of the kernel's one point. -/
theorem body_obligation (hP : PlansAt m) (c : Dev nD) : Pipeline.BodyObligation (dat0 m c) (defs₀ (F := F)) 𝒱₀ () Set.univ := fun t => by
  obtain rfl := fin_N0 t
  rw [bigSep_W0, bigSep_W0]
  simp only [before_w]
  rw [show (dat0 m c).Φ t0_0.castSucc = Φin m c from rfl, show (dat0 m c).Φ t0_0.succ = Φend m c from rfl]
  unfold Φin Xk
  iintro ⟨⟨⟨⟨%K, #HC⟩, HO, HZ⟩, HE, HR, HS, HP⟩, HW, ⟨%d0, H0⟩, ⟨%d1, H1⟩, ⟨%d2, H2⟩, ⟨%d3, H3⟩, ⟨%d4, H4⟩⟩
  ihave HW' := (owes_in m c) $$ HW
  iapply (wp_wand _ _ _ (Q := fun _ => iprop(smem (idsOf m) c (HV m c main_v15) (HV m c main_v19) (HV m c main_v27) (HV m c main_v31)
      (win0_0.stage (cfg0.slots t0_0 0)) (win0_1.stage (cfg0.slots t0_0 1)) (win0_2.stage (cfg0.slots t0_0 2)) (win0_3.stage (cfg0.slots t0_0 3)) (win0_4.stage (cfg0.slots t0_0 4))
      ∗ talkDone (idsOf m) (tabOf m) c ∗ owesL c []))) $$ [HO HZ HE HR HS HW' H0 H1 H2 H3 H4]
  · iapply (talk_run (idsOf m) (tabOf m) K c (HV m c main_v15) (HV m c main_v19) (HV m c main_v27) (HV m c main_v31)
      (win0_0.stage (cfg0.slots t0_0 0)) (hstage0_0 0) (win0_1.stage (cfg0.slots t0_0 1)) (hstage0_1 0) (win0_2.stage (cfg0.slots t0_0 2)) (hstage0_2 0)
      (win0_3.stage (cfg0.slots t0_0 3)) (hstage0_3 0) (win0_4.stage (cfg0.slots t0_0 4)) (hstage0_4 0) (hP c))
    isplitr; · iexact HC
    isplitl [H0 H1 H2 H3 H4]
    · isplitl [H0]; · iexact H0
      isplitl [H1]; · iexact H1
      isplitl [H2]; · iexact H2
      isplitl [H3]; · iexact H3
      iexact H4
    isplitl [HO]; · iexact HO
    isplitl [HZ]; · iexact HZ
    isplitl [HE]; · iexact HE
    isplitl [HR]; · iexact HR
    isplitl [HS]; · iexact HS
    iexact HW'
  iintro %u ⟨⟨H0, H1, H2, H3, H4⟩, HT, HW⟩
  unfold Φend
  isplitl [HT HP]
  · isplitl [HT]; · iexact HT
    iexact HP
  isplitl [HW]; · iapply (owes_out m c); iexact HW
  isplitl [H0]; · iexact H0
  isplitl [H1]; · iexact H1
  isplitl [H2]; · iexact H2
  isplitl [H3]; · iexact H3
  iexact H4

/-! ## The region -/

/-- The unscoped buffers besides the windows' arrays, and the two of them that the body addresses. -/
abbrev Sr : Finset (DevRef τ sig) := Pipeline.ucRefs τ sig \ Pipeline.arrRefs (τ := τ) spec0
abbrev Hs : Finset (DevRef τ sig) := {Proc.devRef .tc main_arg1, Proc.devRef .tc main_v33}

theorem Hs_sub : Hs ⊆ Sr := by decide +kernel
theorem arr_sub : Pipeline.arrRefs (τ := τ) spec0 ⊆ Pipeline.ucRefs τ sig := by decide +kernel

theorem held_Hs (c : Dev nD) (W : Valuation τ sig (Elt F)) :
    (StableHlo.held (c : Thread nD τ) Hs W : sProp 𝕄) = iprop((eL c ↦{fullShare} (W main_arg1)) ∗ (oL c ↦{fullShare} (W main_v33))) := by
  unfold StableHlo.held
  rw [bigSep_eq_bigSepL_of_eq [Proc.devRef .tc main_arg1, Proc.devRef .tc main_v33] (by decide) (by decide)]
  rfl

theorem hin (c : Dev nD) : iprop(Pipeline.scopedRest spec0 c ∗ (∃ r, prngReg c r) ∗ StableHlo.held (c.tc : Thread nD τ) Hs (HV m c) ∗ Xk m c)
    ⊢ (pdats m 0 c).Φ 0 := by
  rw [show (pdats m 0 c).Φ 0 = Φin m c from rfl, scopedRest0_eq, held_Hs]
  unfold Φin
  iintro ⟨HS, HP, ⟨HE, HR⟩, HX⟩
  isplitl [HX]; · iexact HX
  isplitl [HE]; · iexact HE
  isplitl [HR]; · iexists _; iexact HR
  isplitl [HS]; · iexact HS
  iexact HP

theorem hout (c : Dev nD) : (pdats m 0 c).Φ (Fin.last cfg0.N)
    ⊢ iprop(Pipeline.scopedRest spec0 c ∗ (∃ r, prngReg c r) ∗ StableHlo.held (c.tc : Thread nD τ) Hs (W' m c) ∗ Pipeline.ownSems0 osem c ∗ Yk (F := F) c) := by
  rw [show (pdats m 0 c).Φ (Fin.last cfg0.N) = Φend m c from rfl, scopedRest0_eq, held_Hs, ownSems_eq, W'_out, W'_of m c main_arg1 (by decide)]
  unfold Φend Yk
  iintro ⟨⟨HB, ⟨HG, HQ⟩, HC, HE, HR, HS⟩, HP⟩
  isplitl [HS]; · iexact HS
  isplitl [HP]; · iexact HP
  isplitl [HE HR]
  · isplitl [HE]; · iexact HE
    iexact HR
  isplitr [HB]
  · isplitl [HG]; · iexact HG
    isplitl [HQ]; · iexact HQ
    iexact HC
  iexact HB

theorem lv_bar : 0 < lvS (.reg barS) := by decide
theorem lv_q : ∀ d s, 0 < lvS (.dma (qix 1 d s)) ∧ 0 < lvS (.dma (qix 3 d s)) := by decide +kernel
theorem due_tc (c : Dev nD) : ∀ p ∈ dues c, p.1.1.2 = .tc ∧ 0 < lvS p.1.2 := by
  intro p hp
  simp only [dues, dueR, List.mem_cons, List.mem_nil_iff, or_false] at hp
  rcases hp with rfl | rfl | rfl | rfl | rfl | rfl | rfl | rfl | rfl | rfl | rfl | rfl | rfl | rfl <;> first | exact ⟨rfl, lv_bar⟩ | exact ⟨rfl, (lv_q _ _).1⟩ | exact ⟨rfl, (lv_q _ _).2⟩

theorem cut (c : Dev nD) (t : Fin (cfg0.N + 1)) (g : GSem nD τ sig) (i : Unit) (h : 0 < (pdats m 0 c).owed t g i) :
    i ∈ L g ∧ (0 : ℕ) < lv g i := by
  have e : (pdats m 0 c).owed t = if t.val = 0 then oweL (dues c) else 0 := rfl
  rw [e] at h
  split at h
  · obtain ⟨p, hp, rfl⟩ := oweL_pos _ g i h
    have hd := due_tc c p hp
    exact ⟨by unfold L; rw [if_pos hd.1]; exact Finset.mem_singleton_self _, hd.2⟩
  · exact absurd h (Nat.lt_irrefl 0)

local notation "ℝ𝕊" => Pipeline.RegionSeg (pcfgs (F := F)) adm (pdats m) () defs₀ 𝒱₀ L lv

theorem win_hW (c : Dev nD) : ∀ w : Fin cfg0.W, winVal m c w = HV m c (Proc.devRef .tc (Pipeline.arrRef spec0 w))
  | 0 => rfl | 1 => rfl | 2 => rfl | 3 => rfl | 4 => rfl
theorem win_hW' (c : Dev nD) : ∀ w : Fin cfg0.W, winVal m c w = W' m c (Proc.devRef .tc (Pipeline.arrRef spec0 w))
  | 0 => (W'_of m c main_v15 (by decide)).symm | 1 => (W'_of m c main_v19 (by decide)).symm | 2 => (W'_of m c main_v27 (by decide)).symm
  | 3 => (W'_of m c main_v31 (by decide)).symm | 4 => (W'_of m c main_v32 (by decide)).symm

theorem rest_same (c : Dev nD) (b : DevRef τ sig) (hb : b ∈ Sr \ Hs) : W' m c b = HV m c b := by
  rw [HV_eq]
  unfold W' V16
  exact Function.update_of_ne (fun e => by
    subst e
    exact (Finset.mem_sdiff.mp hb).2 (Finset.mem_insert_of_mem (Finset.mem_singleton_self _))) _ _

set_option backward.isDefEq.respectTransparency.types false in
def reg0 (hP : PlansAt m) : ℝ𝕊 0 :=
  Pipeline.RegionSeg.ofTalk (pcfgs (F := F)) adm (pdats m) () defs₀ 𝒱₀ L lv 0 osem osem_facts
    Hs Sr Hs_sub launch0.toP rfl (fun c => (body_obligation m hP c).loose)
    (fun _ => 0) (fun c => oweL (dues c)) (fun c => (owed_zero m c).trans (zero_add _).symm) (owed_last m) (fun _ => rfl) (fun c w => by fin_cases w <;> rfl)
    (HV m) (W' m) (rest_same m)
    (Tk m) (Yk (F := F)) (Xk m) (Yk (F := F)) (hopen m) (hin m) (hout m)
    (fun c => by iintro H; imodintro; iexact H)
    (fun _ => 0)
    ⟨fun c w s => by fin_cases w <;> exact Finset.mem_singleton_self _, fun c w s => by fin_cases w <;> exact Nat.le_refl 0, fun c t g i h => cut m c t g i h⟩
    (fun _ => iprop(emp))
    (fun c w => win_hW m c w) (fun c w => (Pipeline.Dat.arrAt_in (pdats m 0 c) w (by fin_cases w <;> rfl) _).trans (win_hW' m c w))

end Cert.KernelIdeal.Run
-- ==== Proof.KernelIdeal.Start.lean ====
/-
  The launch: the invariants allocated, their tokens and credit dealt round the ring, and the run of @main.
-/
module

public import proofs.«01_k».proof.Proof.KernelIdeal.Seg

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

abbrev Cid : Type := Fin 4 × Fin 2 × Fin 3
abbrev csem (p : Cid) : SemLoc sig := .dma (qix p.1 p.2.1 p.2.2)
theorem csem_inj : Function.Injective csem := by decide +kernel
theorem csem_ne_bar : ∀ p : Cid, csem p ≠ .reg barS := fun p h => nomatch h

def barEmb : Dev nD ↪ GSem nD τ sig := ⟨fun c => barCell c, fun _ _ h => congrArg (fun g : GSem nD τ sig => g.1.1) h⟩
def scEmb : Dev nD × Cid ↪ GSem nD τ sig :=
  ⟨fun x => ((x.1 : Thread nD τ), csem x.2), fun _ _ h =>
    Prod.ext (congrArg (fun g : GSem nD τ sig => g.1.1) h) (csem_inj (congrArg Prod.snd h))⟩

/-- The barrier cells, whose counters the launch has; the cells the kernel's entry opens. -/
abbrev barCells : Finset (GSem nD τ sig) := Finset.univ.map barEmb
abbrev scCells : Finset (GSem nD τ sig) := Finset.univ.map scEmb

theorem cells_disjoint : Disjoint (barCells : Finset (GSem nD τ sig)) scCells := by
  refine Finset.disjoint_left.mpr fun g h₁ h₂ => ?_
  obtain ⟨c, -, rfl⟩ := Finset.mem_map.mp h₁
  obtain ⟨x, -, h⟩ := Finset.mem_map.mp h₂
  exact csem_ne_bar x.2 (congrArg Prod.snd h)

/-- A device's tokens: the two of its barrier cell, and one of each communication cell. -/
abbrev tokOf : Fin 2 ⊕ Cid → SemLoc sig × Fin 2
  | .inl d => (.reg barS, d)
  | .inr p => (csem p, 0)
theorem tokOf_inj : Function.Injective tokOf := by
  rintro (a | a) (b | b) h
  · exact congrArg Sum.inl (congrArg Prod.snd h)
  · exact absurd (congrArg Prod.fst h).symm (csem_ne_bar b)
  · exact absurd (congrArg Prod.fst h) (csem_ne_bar a)
  · exact congrArg Sum.inr (csem_inj (congrArg Prod.fst h))
def toks : Finset (GSem nD τ sig × ℕ × Fin 2) :=
  Finset.univ.map ⟨fun x : Dev nD × (Fin 2 ⊕ Cid) => (((x.1 : Thread nD τ), (tokOf x.2).1), 0, (tokOf x.2).2), fun _ _ h =>
    Prod.ext (congrArg (fun t : GSem nD τ sig × ℕ × Fin 2 => t.1.1.1) h)
      (tokOf_inj (Prod.ext (congrArg (fun t : GSem nD τ sig × ℕ × Fin 2 => t.1.2) h) (congrArg (fun t : GSem nD τ sig × ℕ × Fin 2 => t.2.2) h)))⟩

/-- The launch's element: the pipeline library's, the protocol's, and no counter of transfers in flight. -/
def u₀ : UU :=
  (initOf (Pipeline.cells (Pipeline.pin (pcfgs (F := F)) adm) cellOf_inj) (Pipeline.launchToks (Pipeline.pin (pcfgs (F := F)) adm) cellOf_inj),
    (launchOf barCells scCells toks, 1))

/-- All of `X`, kept at device 0 until the step that deals it. -/
def G (c : Dev nD) : sProp 𝕄 := if c = 0 then BI.own (ER (launchOf barCells scCells toks)) else iprop(emp)
theorem G_all : bigSep Finset.univ (G (F := F)) = BI.own (ER (launchOf barCells scCells toks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem recs_intro (K : GSem nD τ sig → ℕ) :
    iprop(bigSep (barCells ∪ scCells) (fun g => cellInv ER (rd (idsOf m) (tabOf m)) (K g) g) ∗ bigSep barCells (fun g => reached ER g 0)) ⊢ (recs m K : sProp 𝕄) := by
  unfold recs invs
  rw [BI.bigSep_union cells_disjoint, BI.bigSep_map, BI.bigSep_map, BI.bigSep_map]
  exact .rfl

/-! ## The tokens go to the devices that pay with them -/

theorem turn (e : Dev nD ≃ Dev nD) (Φ : Dev nD → sProp 𝕄) : bigSep Finset.univ Φ = bigSep Finset.univ fun c => Φ (e c) := bigSep_univ_equiv e Φ

/-- One step forward and back on the ring, in each direction, as a permutation. -/
def ring (d : Fin 2) : Dev nD ≃ Dev nD := ⟨nx d, pv d, by revert d; decide, by revert d; decide⟩

theorem swirl {α : Type} [Fintype α] (e : α → Dev nD ≃ Dev nD) (Φ : α → Dev nD → sProp 𝕄) :
    (bigSep Finset.univ fun c => bigSep Finset.univ fun a => Φ a c) = bigSep Finset.univ fun c => bigSep Finset.univ fun a => Φ a (e a c) := by
  rw [bigSep_univ_comm, bigSep_univ_comm (fun (c : Dev nD) a => Φ a (e a c))]
  exact bigSep_congr fun a _ => turn (e a) (Φ a)

theorem toks_eq : bigSep toks (fun x => (dutyTok ER x.1 x.2.1 x.2.2 : sProp 𝕄))
    = bigSep Finset.univ fun c : Dev nD => iprop((bigSep (Finset.univ : Finset (Fin 2)) fun d => dutyTok ER (barCell c) 0 d)
      ∗ tokK 0 (fun _ => c) ∗ tokK 1 (fun _ => c) ∗ tokK 2 (fun _ => c) ∗ tokK 3 (fun _ => c)) := by
  unfold toks
  rw [BI.bigSep_map, bigSep_univ_prod]
  refine bigSep_congr fun c _ => ?_
  rw [bigSep_univ_sum, bigSep_univ_prod]
  exact congrArg (fun X : sProp 𝕄 => iprop((bigSep (Finset.univ : Finset (Fin 2)) fun d => dutyTok ER (barCell c) 0 d) ∗ X))
    (sep_fin4 (F := F) (fun k => tokK k (fun _ => c)))

theorem toks_dealt : bigSep toks (fun x => (dutyTok ER x.1 x.2.1 x.2.2 : sProp 𝕄))
    = bigSep Finset.univ fun c : Dev nD => iprop((bigSep (Finset.univ : Finset (Fin 2)) fun d => dutyTok ER (barCell (pv d c)) 0 d)
      ∗ tokK 0 (fun _ => c) ∗ tokK 1 (fun d => nx d c) ∗ tokK 2 (fun _ => c) ∗ tokK 3 (fun d => nx d c)) := by
  rw [toks_eq]
  simp only [bigSep_sep']
  rw [swirl (fun d => (ring d).symm) (fun d (c : Dev nD) => (dutyTok ER (barCell c) 0 d : sProp 𝕄)),
    swirl (fun p : Fin 2 × Fin 3 => ring p.1) (fun p (c : Dev nD) => (dutyTok ER (cell 1 p.1 p.2 c) 0 0 : sProp 𝕄)),
    swirl (fun p : Fin 2 × Fin 3 => ring p.1) (fun p (c : Dev nD) => (dutyTok ER (cell 3 p.1 p.2 c) 0 0 : sProp 𝕄))]
  rfl

/-! ## The launch credit -/

theorem oweL_at (l : List Due) (g : GSem nD τ sig) : oweL l g () = (l.map fun p => if p.1 = g then p.2 else 0).sum := by
  induction l with
  | nil => rfl
  | cons p l ih =>
    rw [oweL, Pi.add_apply, Finsupp.add_apply, ih, tallyAt_apply, List.map_cons, List.sum_cons, Nat.add_comm]
    congr 1
    by_cases h : p.1 = g
    · subst h; rw [if_pos ⟨rfl, rfl⟩, if_pos rfl]
    · rw [if_neg (fun hh => h hh.1.symm), if_neg h]

theorem owed_bar (c : Dev nD) : ∑ x : Dev nD, ((dues x).map fun p => if p.1 = barCell c then p.2 else 0).sum = 2 := by
  revert c; decide +kernel
theorem owed_cell : ∀ (k : Fin 2) (d : Fin 2) (s : Fin 3) (c : Dev nD),
    ∑ x : Dev nD, ((dues x).map fun p => if p.1 = cell (![1, 3] k) d s c then p.2 else 0).sum = N := by
  decide +kernel

abbrev O₀ (c : Dev nD) : CellTallies nD τ sig Unit := oweL (dues c)

theorem launch_at (g : GSem nD τ sig) (n : ℕ) (h : ∑ x : Dev nD, ((dues x).map fun p => if p.1 = g then p.2 else 0).sum = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, ← h]
  exact Finset.sum_congr rfl fun d _ => oweL_at _ _

/-- What the credit dealt to a device is collected at: its barrier cell and its receive cells. -/
def credAt : Unit ⊕ (Fin 2 × Fin 2 × Fin 3) ↪ SemLoc sig :=
  ⟨fun | .inl _ => .reg barS | .inr p => csem (![1, 3] p.1, p.2.1, p.2.2), by decide +kernel⟩

theorem creds (c : Dev nD) : (Pipeline.launchCred O₀ c : sProp 𝕄) ⊢ credits (F := F) c := by
  unfold Pipeline.launchCred credits
  refine Entails.trans (Q := bigSep (Finset.univ.map credAt) fun sm : SemLoc sig => (cred (tallyOn ((c : Thread nD τ), sm) (launchCredit (Pipeline.owing O₀) 0 ((c : Thread nD τ), sm))) : sProp 𝕄))
    (bigSep_subset (Finset.subset_univ _)) (Entails.of_eq ?_)
  rw [BI.bigSep_map, bigSep_univ_sum, Finset.univ_unique (α := Unit), bigSep_singleton, bigSep_univ_prod, sep_fin2 (F := F)]
  refine congrArg₂ (fun X Y : sProp 𝕄 => iprop(X ∗ Y)) (congrArg _ (launch_at _ 2 (owed_bar c))) (congrArg₂ (fun X Y : sProp 𝕄 => iprop(X ∗ Y)) ?_ ?_)
  · exact bigSep_congr fun p _ => congrArg _ (launch_at (cell 1 p.1 p.2 c) N (owed_cell 0 p.1 p.2 c))
  · exact bigSep_congr fun p _ => congrArg _ (launch_at (cell 3 p.1 p.2 c) N (owed_cell 1 p.1 p.2 c))

/-! ## The launch -/

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- What rides with a device through the host code, and what the kernel leaves it. -/
def E (i : Fin 2) (c : Dev nD) : sProp 𝕄 := match i with
  | 0 => iprop(Tk m c ∗ (∃ r, prngReg c r) ∗ ∃ W, owes (c : Thread nD τ) (O₀ c) W)
  | 1 => iprop(Yk (F := F) c ∗ ∃ W, owes (c : Thread nD τ) (0 : CellTallies nD τ sig Unit) W)

/-- Of what a device starts with, what is not dealt. -/
def bundle (c : Dev nD) : sProp 𝕄 :=
  iprop(StableHlo.held (c : Thread nD τ) (Pipeline.ucRefs τ sig) (V0 m c) ∗ credits (F := F) c ∗ owes (c : Thread nD τ) (O₀ c) ∅ ∗ ∃ r, prngReg c r)

abbrev T₀ (c : Dev nD) : sProp 𝕄 := iprop(StableHlo.held (c : Thread nD τ) (Pipeline.ucRefs τ sig) (V0 m c) ∗ E m 0 c)
abbrev Tₙ (c : Dev nD) : sProp 𝕄 := iprop(StableHlo.held (c : Thread nD τ) (Pipeline.ucRefs τ sig) (W' m c) ∗ semVal (barCell c) 0)

theorem T₀_intro (K : GSem nD τ sig → ℕ) (c : Dev nD) : iprop(recs m K ∗ (linear (F := F) c ∗ bundle m c)) ⊢ T₀ m c := by
  unfold bundle T₀ E Tk
  iintro ⟨#HR, HL, HH, HC, HO, HP⟩
  isplitl [HH]; · iexact HH
  isplitl [HL HC]
  · isplitr; · iexists K; iexact HR
    isplitl [HL]; · iexact HL
    iexact HC
  isplitl [HP]; · iexact HP
  iexists ∅; iexact HO

theorem core_intro (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) (Pipeline.ucRefs τ sig) (V0 m c) from
    Pipeline.unscopedBufs_held c (V0 m c), unscopedSems0_eq]
  unfold bundle
  iintro ⟨HH, HS, HO, HC, HP, HG⟩
  isplitr [HS HG]
  · isplitl [HH]; · iexact HH
    isplitl [HC]; · iapply (creds (F := F) c); iexact HC
    isplitl [HO]; · iexact HO
    iexists (ρ c); iexact HP
  isplitl [HS]; · iexact HS
  iexact HG

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H1 := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => core_intro m ρ c) $$ H
  ihave H2 := sep_cut $$ H1; icases H2 with ⟨HB, H3⟩
  ihave H4 := sep_cut $$ H3; icases H4 with ⟨HV, HG⟩
  ihave HU := (Entails.of_eq (G_all (F := F))) $$ HG
  imod (Rounds.fund_launch ER (rd (idsOf m) (tabOf m)) cells_disjoint (fun g _ h => h) toks) $$ [HV HU] with ⟨%K, -, #HI, #HR, HA, HO, HT⟩
  · isplitl [HV]
    · iapply (show bigSep Finset.univ (fun c : Dev nD => (semVal (barCell c) 0 : sProp 𝕄)) ⊢ bigSep barCells (fun g => (semVal g 0 : sProp 𝕄)) from
        Entails.of_eq (BI.bigSep_map (s := Finset.univ) barEmb (Φ := fun g : GSem nD τ sig => (semVal g 0 : sProp 𝕄))).symm) $$ HV
    · iexact HU
  imodintro
  iapply (bigSep_with_persistent (R := recs m K) (Φ := fun c => iprop(linear (F := F) c ∗ bundle m c)) fun c _ => T₀_intro m K c)
  isplitr
  · iapply (recs_intro m K)
    isplitr; · iexact HI
    iexact HR
  iapply sep_join
  isplitr [HB]
  · unfold linear
    iapply sep_join
    isplitl [HA]; · iapply (show bigSep barCells (fun g => (atPos ER g 0 ∅ 0 : sProp 𝕄)) ⊢ bigSep Finset.univ (fun c : Dev nD => (atPos ER (barCell c) 0 ∅ 0 : sProp 𝕄)) from
        Entails.of_eq (BI.bigSep_map (s := Finset.univ) barEmb (Φ := fun g : GSem nD τ sig => (atPos ER g 0 ∅ 0 : sProp 𝕄)))) $$ HA
    iapply sep_join
    isplitl [HO]; · iapply (show bigSep scCells (fun g => (openTok ER g : sProp 𝕄)) ⊢ bigSep Finset.univ (fun c : Dev nD => bigSep (Finset.univ : Finset Cid) fun p => (openTok ER (cell p.1 p.2.1 p.2.2 c) : sProp 𝕄)) from
        Entails.of_eq ((BI.bigSep_map (s := Finset.univ) scEmb (Φ := fun g : GSem nD τ sig => (openTok ER g : sProp 𝕄))).trans (bigSep_univ_prod _))) $$ HO
    iapply (Entails.of_eq (toks_dealt (F := F))) $$ HT
  · iexact HB

/-! ## The run -/

set_option backward.isDefEq.respectTransparency.types false in
theorem reg_pre (hP : PlansAt m) (c : Dev nD) :
    iprop(StableHlo.held (c : Thread nD τ) (Pipeline.ucRefs τ sig) (V15 m c) ∗ E m 0 c) ⊢ (reg0 m hP).pre c := by
  show _ ⊢ iprop(StableHlo.held (c.tc : Thread nD τ) (Pipeline.arrRefs (τ := τ) spec0) (HV m c) ∗ (∃ r, prngReg c r)
    ∗ (StableHlo.held (c.tc : Thread nD τ) Sr (HV m c) ∗ emp) ∗ Tk m c ∗ ∃ Wd, owes (c : Thread nD τ) (0 + O₀ c) Wd)
  rw [← HV_eq, StableHlo.held_sub_split (c.tc : Thread nD τ) arr_sub (HV m c), zero_add]
  unfold E
  iintro ⟨⟨HA, HR⟩, HT, HP, HO⟩
  isplitl [HA]; · iexact HA
  isplitl [HP]; · iexact HP
  isplitl [HR]
  · isplitl [HR]; · iexact HR
    iempintro
  isplitl [HT]; · iexact HT
  iexact HO

set_option backward.isDefEq.respectTransparency.types false in
theorem reg_post (hP : PlansAt m) (c : Dev nD) :
    (reg0 m hP).post c ⊢ iprop(Tₙ m c ∗ ∃ W, owes (c : Thread nD τ) (0 : CellTallies nD τ sig Unit) W) := by
  show iprop(StableHlo.held (c.tc : Thread nD τ) (Pipeline.arrRefs (τ := τ) spec0) (W' m c) ∗ (∃ r, prngReg c r)
    ∗ (StableHlo.held (c.tc : Thread nD τ) Sr (W' m c) ∗ emp) ∗ Yk (F := F) c ∗ ∃ Wd, owes (c : Thread nD τ) (0 : CellTallies nD τ sig Unit) Wd) ⊢ _
  rw [show Tₙ m c = iprop(StableHlo.held (c : Thread nD τ) (Pipeline.ucRefs τ sig) (W' m c) ∗ semVal (barCell c) 0) from rfl,
    StableHlo.held_sub_split (c.tc : Thread nD τ) arr_sub (W' m c)]
  unfold Yk
  iintro ⟨HA, -, ⟨HR, -⟩, HY, HO⟩
  isplitr [HO]
  · isplitl [HA HR]
    · isplitl [HA]; · iexact HA
      iexact HR
    iexact HY
  iexact HO

theorem unscoped_eq : ∀ sm : SemLoc sig, sm.isScoped .tc = false → sm = .reg barS := by decide +kernel

set_option backward.isDefEq.respectTransparency.types false in
/-- The run: given the host code's plan of rows, from any memory with zero counters every weakly fair execution of @main terminates; then
    each device's result is the sum over the ring, its arguments are as they were, and every counter is zero. -/
theorem run_main (hP : PlansAt m) : θ_run (defs (F := F)) (onTc (τ := τ) (main (F := F))) ⟨m, fun _ => 0, ρ⟩ (fun r =>
    (∀ c : Dev nD, r.2.mem ((c.tc : Thread nD τ).loc main_v33) = outVal (idsOf m) (tabOf m)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine Pipeline.θ_run_regions_kit_dev_sems (pcfgs (F := F)) adm (pdats m) () cellOf_inj EP defs₀ 𝒱₀ L lv m ρ main
    (segs m 𝒱₀ L lv (E m) () (pdats m) (reg0 m hP))
    (fun c Q => by
      rewrite [main_chain c, Pipeline.Seg.run_eq_chain,
        show (segs m 𝒱₀ L lv (E m) () (pdats m) (reg0 m hP) c).map Pipeline.Seg.prog = [
          StableHlo.seq (hostOps0 c), StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9, StableHlo.seq hostOps0_10, StableHlo.seq hostOps0_11,
          StableHlo.seq hostOps0_12, StableHlo.seq hostOps0_13, StableHlo.seq hostOps0_14,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne G (u₀ (F := F))
    ?_ (T₀ m) (Tₙ m)
    (fun c => ⟨.rfl, .rfl, .rfl, .rfl, .rfl, .rfl, .rfl, .rfl, .rfl, .rfl, .rfl, .rfl, .rfl, .rfl, .rfl, reg_pre m hP c, reg_post m hP c⟩)
    (init m ρ)
    (fun c s => ((s.mem ((c.tc : Thread nD τ).loc main_v33) = outVal (idsOf m) (tabOf m)
      ∧ s.mem ((c.tc : Thread nD τ).loc main_arg0) = m ((c.tc : Thread nD τ).loc main_arg0))
      ∧ s.mem ((c.tc : Thread nD τ).loc main_arg1) = m ((c.tc : Thread nD τ).loc main_arg1)) ∧ s.sem (barCell c) = 0)
    ?_ (fun s h hs => ⟨fun c => ⟨(h c).1.1.1, (h c).1.1.2, (h c).1.2⟩, sem_eq_zero hs fun c sm hsm => by
        obtain rfl := unscoped_eq sm hsm
        exact (h c).2⟩)
  · unfold u₀
    iintro HU
    ihave H := (ownU_pair _ _) $$ HU
    icases H with ⟨HP, HX⟩
    imodintro
    isplitl [HP]; · iexact HP
    rw [G_all]; iexact HX
  · intro c s'
    iintro ⟨⟨HH, HB⟩, HSI⟩
    icombine HSI HB gives %hb
    ihave HR := (pointsTo_read_all (Pipeline.ucRefs τ sig) (fun b => ((c : Thread nD τ).1, b)) (W' m c) s') $$ [HH HSI]
    · unfold StableHlo.held
      isplitl [HH] <;> iassumption
    icases HR with ⟨%h, HSI⟩
    imodintro
    isplitr
    · ipureintro
      exact ⟨⟨⟨(h (Proc.devRef .tc main_v33) (Finset.mem_filter.mpr ⟨StableHlo.devRef_mem_tcRefs main_v33, by decide⟩)).trans (W'_out m c),
        (h (Proc.devRef .tc main_arg0) (Finset.mem_filter.mpr ⟨StableHlo.devRef_mem_tcRefs main_arg0, by decide⟩)).trans (V16_main_arg0 m (outsOf m) c)⟩,
        (h (Proc.devRef .tc main_arg1) (Finset.mem_filter.mpr ⟨StableHlo.devRef_mem_tcRefs main_arg1, by decide⟩)).trans (V16_main_arg1 m (outsOf m) c)⟩,
        by simpa using hb⟩
    · iexact HSI

end Cert.KernelIdeal.Run
-- ==== Proof.KernelIdeal.Order.lean ====
/-
  The plan of rows from a sort of the tokens by group: what a permutation, its counts and their running sums say.
-/
module

public import proofs.«01_k».proof.Proof.KernelIdeal.Region

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

local notation "𝕄" => MT nD τ sig Unit (Elt F) ℕ UU ℕ

open Classical in
theorem lt_count {n : ℕ} (f : Fin n → ℕ) (hm : ∀ a b, a ≤ b → f a ≤ f b) (o : ℕ) (i : Fin n) :
    f i < o ↔ i.val < (Finset.univ.filter fun a => f a < o).card := by
  constructor
  · intro h
    have : Finset.univ.filter (fun a : Fin n => a ≤ i) ⊆ Finset.univ.filter fun a => f a < o := fun a ha =>
      Finset.mem_filter.mpr ⟨Finset.mem_univ _, lt_of_le_of_lt (hm a i (Finset.mem_filter.mp ha).2) h⟩
    have hc := Finset.card_le_card this
    rw [show (Finset.univ.filter fun a : Fin n => a ≤ i) = Finset.Iic i from by ext; simp, Fin.card_Iic] at hc
    omega
  · intro h
    by_contra hn
    have : (Finset.univ.filter fun a => f a < o) ⊆ Finset.univ.filter fun a : Fin n => a < i := fun a ha =>
      Finset.mem_filter.mpr ⟨Finset.mem_univ _, lt_of_not_ge fun hle => hn (lt_of_le_of_lt (hm i a hle) (Finset.mem_filter.mp ha).2)⟩
    have hc := Finset.card_le_card this
    rw [show (Finset.univ.filter fun a : Fin n => a < i) = Finset.Iio i from by ext; simp, Fin.card_Iio] at hc
    omega

theorem count_perm {n : ℕ} (P : Fin n → Fin n) (hP : Function.Bijective P) (q : Fin n → Prop) [DecidablePred q] :
    (Finset.univ.filter q).card = (Finset.univ.filter fun a => q (P a)).card := by
  rw [← Finset.card_image_of_injective (Finset.univ.filter fun a => q (P a)) hP.1]
  congr 1
  ext t
  obtain ⟨a, rfl⟩ := hP.2 t
  simp [hP.1.eq_iff]

theorem count_step {n : ℕ} (f : Fin n → ℕ) (o : ℕ) :
    (Finset.univ.filter fun a => f a < o).card + (Finset.univ.filter fun a => f a = o).card = (Finset.univ.filter fun a => f a < o + 1).card := by
  rw [← Finset.card_union_of_disjoint (Finset.disjoint_filter.mpr fun _ _ h => by omega)]
  congr 1
  ext a
  simp only [Finset.mem_union, Finset.mem_filter, Finset.mem_univ, true_and]
  omega

/-- The place of chunk k in device c's order of groups. -/
def ordOf (c k : Dev nD) : ℕ := (![0, 2, 3, 1] : Fin 4 → ℕ) (Fin.ofNat 4 (k.val + 4 - c.val))
theorem ordOf_eq : ∀ (c k : Dev nD) (o : Fin 4), ordOf c k = o.val ↔ ch c o = k := by decide +kernel
def chunkOf (t : Fin 4096) : Dev nD := ⟨t.val / 1024, by have := t.isLt; show _ < 4; omega⟩

open Classical in
/-- A token's key: its chunk's place if the device has its row, past all groups otherwise. -/
def keyOf (c : Dev nD) (idc : Vec F S4096x1 .i32) (t : Fin 4096) : ℕ := if Owned (idc (ix2 t 0)) c then ordOf c (chunkOf t) else 4

theorem keyOf_eq (c : Dev nD) (idc : Vec F S4096x1 .i32) (t : Fin 4096) (o : Fin 4) :
    keyOf c idc t = o.val ↔ Owned (idc (ix2 t 0)) c ∧ t.val / 1024 = (ch c o).val := by
  unfold keyOf
  split
  · rename_i h
    rw [ordOf_eq]
    exact ⟨fun e => ⟨h, by rw [e]; rfl⟩, fun e => Fin.ext e.2.symm⟩
  · rename_i h
    exact ⟨fun e => absurd e (by have := o.isLt; omega), fun e => absurd e.1 h⟩

theorem loc_word (x : BitVec 32) (c : Dev nD) (h : Owned x c) : ((x - BitVec.ofNat 32 (8192 * c.val)).toNat : ℤ) = x.toInt - 8192 * (c.val : ℤ) := by
  have hc : c.val < 4 := c.isLt
  have h1 := h.1; have h2 := h.2
  have hx : x.toInt = (x.toNat : ℤ) := by
    rw [BitVec.toInt_eq_toNat_cond] at h1 h2 ⊢
    split at h1 <;> split <;> omega
  have hl := x.isLt
  rw [BitVec.toNat_sub, BitVec.toNat_ofNat, hx]
  rw [hx] at h1 h2
  omega

variable (ids : Dev nD → Vec F S4096x1 .i32) (c : Dev nD) (pm lc : Vec F S4096 .i32) (cn pf : Vec F S4 .i32)

theorem plans_of (P : Fin 4096 → Fin 4096) (hP : Function.Bijective P) (hm : ∀ a b, a ≤ b → keyOf c (ids c) (P a) ≤ keyOf c (ids c) (P b))
    (hpm : ∀ a : Fin 4096, pm (ix1 a) = BitVec.ofNat 32 (P a).val)
    (hlc : ∀ a : Fin 4096, lc (ix1 a) = (ids c (ix2 (P a) 0) : BitVec 32) - BitVec.ofNat 32 (8192 * c.val))
    (hcn : ∀ o : Fin 4, cn (ix1 o) = BitVec.ofNat 32 (Finset.univ.filter fun t => keyOf c (ids c) t = o.val).card)
    (hpf : ∀ o : Fin 4, pf (ix1 o) = BitVec.ofNat 32 (Finset.univ.filter fun t => keyOf c (ids c) t < o.val).card) :
    Plans ids c pm lc cn pf := by
  intro o
  have ho : Fin.ofNat 4 o.val = o := Fin.ext (Nat.mod_eq_of_lt o.isLt)
  have bound (q : Fin 4096 → Prop) [DecidablePred q] : (Finset.univ.filter q).card ≤ 4096 := (Finset.card_le_univ _).trans (by rw [Fintype.card_fin])
  have step := count_step (fun t => keyOf c (ids c) t) o.val
  have word (n : ℕ) (h : n ≤ 4096) : (BitVec.ofNat 32 n).toNat = n := by rw [BitVec.toNat_ofNat]; omega
  have ep : (at4 (F := F) pf o.val).toNat = (Finset.univ.filter fun t => keyOf c (ids c) t < o.val).card := by
    unfold at4; rw [ho, hpf, word _ (bound _)]
  have en : (at4 (F := F) cn o.val).toNat = (Finset.univ.filter fun t => keyOf c (ids c) t = o.val).card := by
    unfold at4; rw [ho, hcn, word _ (bound _)]
  rw [ep, en]
  have top := bound fun t => keyOf c (ids c) t < o.val + 1
  rw [← step] at top
  generalize hp : (Finset.univ.filter fun t => keyOf c (ids c) t < o.val).card = p at *
  generalize hn : (Finset.univ.filter fun t => keyOf c (ids c) t = o.val).card = n at *
  have key (a : Fin 4096) : keyOf c (ids c) (P a) = o.val ↔ p ≤ a.val ∧ a.val < p + n := by
    have h1 := lt_count (fun a => keyOf c (ids c) (P a)) hm o.val a
    have h2 := lt_count (fun a => keyOf c (ids c) (P a)) hm (o.val + 1) a
    rw [← count_perm P hP fun t => keyOf c (ids c) t < o.val, hp] at h1
    rw [← count_perm P hP fun t => keyOf c (ids c) t < o.val + 1, ← step] at h2
    omega
  have at_ (i : ℕ) (hi : i < n) : ∃ a : Fin 4096, a.val = p + i ∧ Fin.ofNat 4096 (p + i) = a ∧ row pm p i = P a ∧ keyOf c (ids c) (P a) = o.val := by
    have ha : p + i < 4096 := by omega
    have hr : Fin.ofNat 4096 (p + i) = (⟨p + i, ha⟩ : Fin 4096) := Fin.ext (Nat.mod_eq_of_lt ha)
    refine ⟨⟨p + i, ha⟩, rfl, hr, ?_, (key _).mpr ⟨Nat.le_add_right _ _, Nat.add_lt_add_left hi p⟩⟩
    unfold row at4
    rw [hr, hpm, word _ (Nat.le_of_lt (P _).isLt)]
    exact Fin.ext (Nat.mod_eq_of_lt (P _).isLt)
  refine ⟨top, fun i hi => ?_, fun i hi => ?_, fun i hi => ?_, fun i hi => ?_, fun i hi j hj e => ?_, fun r hr ho => ?_⟩
  · obtain ⟨a, -, ea, -, -⟩ := at_ i hi
    unfold at4
    rw [ea, hpm, word _ (Nat.le_of_lt (P a).isLt)]
    exact (P a).isLt
  · obtain ⟨a, -, -, er, ek⟩ := at_ i hi
    rw [er]; exact ((keyOf_eq _ _ _ _).mp ek).2
  · obtain ⟨a, -, -, er, ek⟩ := at_ i hi
    rw [er]; exact ((keyOf_eq _ _ _ _).mp ek).1
  · obtain ⟨a, -, ea, er, ek⟩ := at_ i hi
    rw [er]; unfold at4
    rw [ea, hlc]
    exact loc_word _ c ((keyOf_eq _ _ _ _).mp ek).1
  · obtain ⟨a, ha, -, er, -⟩ := at_ i hi
    obtain ⟨b, hb, -, es, -⟩ := at_ j hj
    rw [er, es] at e
    have := congrArg Fin.val (hP.1 e)
    omega
  · obtain ⟨a, rfl⟩ := hP.2 r
    obtain ⟨h1, h2⟩ := (key a).mp ((keyOf_eq _ _ _ _).mpr ⟨ho, hr⟩)
    obtain ⟨b, hb, -, er, -⟩ := at_ (a.val - p) (by omega)
    exact ⟨a.val - p, by omega, er.trans (congrArg P (Fin.ext (by omega)))⟩

end Cert.KernelIdeal.Run
-- ==== Proof.KernelIdeal.Words.lean ====
/-
  What the host's operations leave in the buffers that the plan of row copies is made from, one entry at a time.
-/
module

public import proofs.«01_k».proof.Proof.KernelIdeal.Order
public import Idealize.ShloMosaic.Lib.StableHlo.ReadAt
public import Idealize.ShloMosaic.Lib.Routing.OpsSearch
public import Idealize.ShloMosaic.Lib.Routing.OpsSet
public import Idealize.ShloMosaic.Lib.SortFacts
public import Idealize.ShloMosaic.Lib.ReduceAll

@[expose] public section

set_option maxRecDepth 16384

noncomputable section

namespace Cert.KernelIdeal.Run

open Cert.KernelIdeal Cert.KernelIdeal.Gen
open Idealize.ShloMosaic hiding ix1 ix2 eq_ix1 eq_ix2
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

local notation "𝕄" => MT nD τ sig Unit (Elt F) ℕ UU ℕ

/-- The sign of a signed word. -/
abbrev sgn (x : BitVec 32) : BitVec 32 := if x = 0 then 0 else if x.msb = true then -1 else 1
/-- Floor division of signed words, as the host computes it. -/
def fdiv (x n : BitVec 32) : BitVec 32 :=
  Scalar.select (IntOp.andi (IntOp.cmpi .ne (sgn x) (sgn n)) (IntOp.cmpi .ne (IntOp.remsi ArithUnit.host x n) 0#32))
    (IntOp.subi (IntOp.divsi ArithUnit.host x n) 1#32) (IntOp.divsi ArithUnit.host x n)
/-- The remainder that goes with it. -/
def frem (x n : BitVec 32) : BitVec 32 :=
  Scalar.select (IntOp.andi (IntOp.cmpi .ne (IntOp.cmpi .slt (IntOp.remsi ArithUnit.host x (Scalar.select (IntOp.cmpi .eq n 0#32) 1#32 n)) 0#32)
        (IntOp.cmpi .slt (Scalar.select (IntOp.cmpi .eq n 0#32) 1#32 n) 0#32))
      (IntOp.cmpi .ne (IntOp.remsi ArithUnit.host x (Scalar.select (IntOp.cmpi .eq n 0#32) 1#32 n)) 0#32))
    (IntOp.addi (IntOp.remsi ArithUnit.host x (Scalar.select (IntOp.cmpi .eq n 0#32) 1#32 n)) (Scalar.select (IntOp.cmpi .eq n 0#32) 1#32 n))
    (IntOp.remsi ArithUnit.host x (Scalar.select (IntOp.cmpi .eq n 0#32) 1#32 n))

theorem divsi_vocab (x : BitVec 32) : (IntOp.divsi ArithUnit.host x 8192#32).toInt = x.toInt.tdiv 8192 := by
  have hc : ¬ IntOp.SDivCorner x 8192#32 := by rintro (h | ⟨_, h⟩) <;> exact absurd h (by decide)
  unfold IntOp.divsi
  rw [if_neg hc, BitVec.toInt_sdiv_of_ne_or_ne _ _ (Or.inr (by decide))]; rfl
theorem remsi_vocab (x : BitVec 32) : (IntOp.remsi ArithUnit.host x 8192#32).toInt = x.toInt.tmod 8192 := by
  have hc : ¬ IntOp.SDivCorner x 8192#32 := by rintro (h | ⟨_, h⟩) <;> exact absurd h (by decide)
  unfold IntOp.remsi
  rw [if_neg hc, BitVec.toInt_srem]; rfl

/-- Floor division by the rows a device holds, read as an integer. -/
theorem fdiv_toInt (x : BitVec 32) : (fdiv x 8192#32).toInt = x.toInt / 8192 := by
  have hd := divsi_vocab x
  have hr := remsi_vocab x
  have h1 := BitVec.le_toInt x
  have h2 := BitVec.toInt_lt (x := x)
  have hs : sgn 8192#32 = 1 := by decide
  have hx0 : (x = 0) ↔ x.toInt = 0 := by rw [← BitVec.toInt_inj]; rfl
  have hms : (x.msb = true) ↔ x.toInt < 0 := by rw [BitVec.msb_eq_toInt]; simp
  unfold fdiv
  rw [hs]
  generalize IntOp.divsi ArithUnit.host x 8192#32 = q at *
  generalize IntOp.remsi ArithUnit.host x 8192#32 = r at *
  have hr0 : (r = 0#32) ↔ r.toInt = 0 := by rw [← BitVec.toInt_inj]; rfl
  rw [Int.tdiv_eq_ediv] at hd
  rw [Int.tmod_eq_emod] at hr
  have hsign : Int.sign 8192 = 1 := rfl
  rw [hsign] at hd
  have hite : ((if 0 ≤ x.toInt ∨ 8192 ∣ x.toInt then 0 else Int.natAbs 8192 : ℕ) : ℤ) = if 0 ≤ x.toInt ∨ 8192 ∣ x.toInt then 0 else 8192 := by split <;> rfl
  rw [hite] at hr
  rw [WordCmp.cmpi_ne_eq, WordCmp.cmpi_ne_eq, WordCmp.andi_ofBool, ← Bool.decide_and, WordCmp.select_decide]
  have hq1 : -(2:ℤ) ^ 30 ≤ q.toInt ∧ q.toInt ≤ 2 ^ 30 := by split at hd <;> constructor <;> omega
  have hsub : (IntOp.subi q 1#32).toInt = q.toInt - 1 := by
    show (q - 1#32).toInt = _
    rw [BitVec.toInt_sub, show (1#32 : BitVec 32).toInt = 1 from rfl]
    show Int.bmod (q.toInt - 1) 4294967296 = _
    have hq2 := hq1.1
    have hq3 := hq1.2
    norm_num at hq2 hq3
    exact Int.bmod_eq_of_le (n := q.toInt - 1) (by norm_num; omega) (by norm_num; omega)
  have hsg : (sgn x ≠ 1) ↔ x.toInt ≤ 0 := by
    unfold sgn
    by_cases h0 : x = 0
    · rw [if_pos h0]; simp [hx0.mp h0]
    · rw [if_neg h0]
      by_cases hm : x.msb = true
      · rw [if_pos hm]; have := hms.mp hm; exact ⟨fun _ => by omega, fun _ => by decide⟩
      · rw [if_neg hm]; have : ¬ x.toInt < 0 := fun e => hm (hms.mpr e); exact ⟨fun h => absurd rfl h, fun h => absurd (hx0.mpr (by omega)) h0⟩
  split
  · rename_i h
    rw [hsub, hd]
    have a := hsg.mp h.1
    have b : r.toInt ≠ 0 := fun e => h.2 (hr0.mpr e)
    split at hr <;> split <;> omega
  · rename_i h
    rw [hd]
    by_cases a : x.toInt ≤ 0
    · have b : r.toInt = 0 := by
        by_contra e
        exact h ⟨hsg.mpr a, fun e' => e (hr0.mp e')⟩
      split at hr <;> split <;> omega
    · split <;> omega

/-- The floor division of an id by the rows a device holds names the device that holds the id's row. -/
theorem fdiv_owned (x : BitVec 32) (c : Fin 4) : fdiv x 8192#32 = BitVec.ofNat 32 c.val ↔ Owned x c := by
  have hc := c.isLt
  have hb : (BitVec.ofNat 32 c.val).toInt = c.val := WordCmp.toInt_ofNat_of_lt (by omega)
  rw [← BitVec.toInt_inj, fdiv_toInt, hb]
  unfold Owned
  omega

/-- The chunk of a token. -/
theorem fdiv_iota (t : Fin 4096) : fdiv (BitVec.ofNat 32 t.val) 1024#32 = BitVec.ofNat 32 ((chunkOf t).val) := by
  have h : ∀ t : Fin 4096, fdiv (BitVec.ofNat 32 t.val) 1024#32 = BitVec.ofNat 32 (t.val / 1024) := by decide +kernel
  exact h t

/-- A chunk's place in a device's order of the ring. -/
theorem frem_order (q c : Fin 4) : frem (IntOp.subi (BitVec.ofNat 32 q.val) (BitVec.ofNat 32 c.val)) 4#32 = BitVec.ofNat 32 ((q.val + 4 - c.val) % 4) := by
  revert q c; decide +kernel

theorem ix1_eq {n : ℕ} (a : Fin n) : Idealize.ShloMosaic.ix1 a = ix1 a := by funext d; match d with | ⟨0, _⟩ => rfl
/-- A column's entry is the vector's. -/
theorem col_at {α : Type} (v : S4096.Idx → α) (t : Fin 4096) : broadcastInDim S4096x1 ![0] bcast_S4096_S4096x1_0 v (ix2 t 0) = v (ix1 t) :=
  congrArg v (funext fun d => match d with | ⟨0, _⟩ => rfl)

/-- A checked take of in-range positions reads the positions. -/
theorem take_host {α : Type} {N : ℕ} (hN : N < 2 ^ 31) (d : GatherDims ⟨1, ![N]⟩ S4096x1 S4096) (hcoll : d.collapsedSliceDims = [0]) (hob : d.operandBatchingDims = [])
    (hsim : d.startIndexMap = [0]) (hivd : d.indexVectorDim = 1) (x : (⟨1, ![N]⟩ : Shape).Idx → α) (w lo hi : IVec S4096x1 32) (k : Fin 4096 → Fin N)
    (hw : ∀ t, w (ix2 t 0) = BitVec.ofNat 32 (k t).val) (hlo : ∀ i, lo i = 0#32) (hhi : ∀ i, hi i = BitVec.ofNat 32 (N - 1)) (z : α) (t : Fin 4096) :
    Scalar.select (Host.reduce IntOp.andi (andi (cmpi .sge w lo) (cmpi .sle w hi)) (constantI S_ 1 1#1) reducesTo_S4096x1_S4096_d1 h_S_ (ix1 t))
      (Host.gather d x w (ix1 t)) z = x (ix1 (k t)) := by
  have key : ∀ a : Fin 4096, IntOp.andi (IntOp.cmpi .sge (w (ix2 a 0)) (lo (ix2 a 0))) (IntOp.cmpi .sle (w (ix2 a 0)) (hi (ix2 a 0))) = 1#1 := fun a => by
    have hka := (k a).isLt
    rw [hw, hlo, hhi, WordCmp.cmpi_sge_eq, WordCmp.cmpi_sle_eq, WordCmp.andi_ofBool, WordCmp.toInt_ofNat_of_lt (a := (k a).val) (by omega), WordCmp.toInt_ofNat_of_lt (a := N - 1) (by omega), show (0#32 : BitVec 32).toInt = ((0 : ℕ) : ℤ) from rfl]
    have h1 : ((0 : ℕ) : ℤ) ≤ ((k a).val : ℤ) := by omega
    have h2 : ((k a).val : ℤ) ≤ ((N - 1 : ℕ) : ℤ) := by omega
    rw [decide_eq_true h1, decide_eq_true h2]; rfl
  rw [Host.reduce_andi_one _ _ _ _ _ rfl fun i => by
    rw [eq_ix2 i, show i 1 = (0 : Fin 1) from Subsingleton.elim (α := Fin 1) _ _]
    exact key (i 0)]
  exact Routing.take_ap (N := N) (n := 4096) d hcoll hob hsim hivd x w t (k t).isLt (by have := (k t).isLt; omega) (hw t)

/-- A word that is not negative keeps its value where negative positions would count from the end. -/
theorem wrap_nonneg (a n : ℕ) (h : a < 2 ^ 31) :
    Scalar.select (IntOp.cmpi .slt (BitVec.ofNat 32 a) 0#32) (IntOp.addi (BitVec.ofNat 32 a) (BitVec.ofNat 32 n)) (BitVec.ofNat 32 a) = BitVec.ofNat 32 a := by
  rw [WordCmp.cmpi_slt_eq, WordCmp.select_decide, WordCmp.toInt_ofNat_of_lt (by omega), if_neg (by show ¬ ((a : ℤ) < 0); omega)]

/-- The host's first buffers: the device's number, the positions, the order of the ring. -/
theorem v4_at (V : Valuation τ sig (Elt F)) (c : Dev nD) : StableHlo.after (hostOps0 c) V (Proc.devRef .tc main_v4) ix0 = BitVec.ofNat 32 c.val := by
  after_reads_at
  exact (show ∀ c : Dev nD, IntOp.remui ArithUnit.host (IntOp.divui ArithUnit.host (Dev.word c) 1#32) 4#32 = BitVec.ofNat 32 c.val by decide +kernel) c
theorem v5_at (V : Valuation τ sig (Elt F)) (c : Dev nD) (t : Fin 4096) : StableHlo.after (hostOps0 c) V (Proc.devRef .tc main_v5) (ix1 t) = BitVec.ofNat 32 t.val := by
  after_reads_at
theorem c2_at (V : Valuation τ sig (Elt F)) (c : Dev nD) : StableHlo.after (hostOps0 c) V (Proc.devRef .tc main_c_2) ix0 = 1024#32 := by
  after_reads_at
theorem c_at (V : Valuation τ sig (Elt F)) (c : Dev nD) (k : Fin 4) : StableHlo.after (hostOps0 c) V (Proc.devRef .tc main_c) (ix1 k) = BitVec.ofNat 32 ((![0, 2, 3, 1] : Fin 4 → ℕ) k) := by
  after_reads_at
  revert k; decide +kernel
theorem v6_at (V : Valuation τ sig (Elt F)) (j : S4096.Idx) : StableHlo.after hostOps0_1 V (Proc.devRef .tc main_v6) j
    = fdiv (V (Proc.devRef .tc main_v5) j) (V (Proc.devRef .tc main_c_2) ix0) := by
  after_reads_at
  rfl
theorem v8_at (V : Valuation τ sig (Elt F)) (j : S4096.Idx) : StableHlo.after hostOps0_2 V (Proc.devRef .tc main_v8) j
    = IntOp.subi (V (Proc.devRef .tc main_v6) j) (V (Proc.devRef .tc main_v4) ix0) := by
  after_reads_at
theorem c3_at (V : Valuation τ sig (Elt F)) : StableHlo.after hostOps0_2 V (Proc.devRef .tc main_c_3) ix0 = 4#32 := by
  after_reads_at
theorem v9_at (V : Valuation τ sig (Elt F)) (j : S4096.Idx) : StableHlo.after hostOps0_3 V (Proc.devRef .tc main_v9) j
    = frem (V (Proc.devRef .tc main_v8) j) (V (Proc.devRef .tc main_c_3) ix0) := by
  after_reads_at
  rfl
theorem v10_at (V : Valuation τ sig (Elt F)) (k : Fin 4096 → Fin 4) (h : ∀ t, V (Proc.devRef .tc main_v9) (ix1 t) = BitVec.ofNat 32 (k t).val) (t : Fin 4096) :
    StableHlo.after hostOps0_4 V (Proc.devRef .tc main_v10) (ix1 t) = V (Proc.devRef .tc main_c) (ix1 (k t)) := by
  after_reads_at
  exact take_host (N := 4) (by decide) _ rfl rfl rfl rfl _ _ _ _ k (fun t => by
    have := wrap_nonneg (k t).val 4 (by have := (k t).isLt; omega)
    rw [← h] at this
    exact (col_at _ t).trans (this.trans (h t))) (fun _ => rfl) (fun _ => rfl) _ t
theorem c4_at (V : Valuation τ sig (Elt F)) : StableHlo.after hostOps0_5 V (Proc.devRef .tc main_c_4) ix0 = 8192#32 := by
  after_reads_at
theorem v11_at (V : Valuation τ sig (Elt F)) (j : S4096.Idx) : StableHlo.after hostOps0_6 V (Proc.devRef .tc main_v11) j
    = fdiv (V (Proc.devRef .tc main_arg0) j) (V (Proc.devRef .tc main_c_4) ix0) := by
  after_reads_at
  rfl
theorem v13_at (V : Valuation τ sig (Elt F)) (j : S4096.Idx) : StableHlo.after hostOps0_7 V (Proc.devRef .tc main_v13) j
    = IntOp.cmpi .eq (V (Proc.devRef .tc main_v11) j) (V (Proc.devRef .tc main_v4) ix0) := by
  after_reads_at
theorem c5_at (V : Valuation τ sig (Elt F)) : StableHlo.after hostOps0_7 V (Proc.devRef .tc main_c_5) ix0 = 4#32 := by
  after_reads_at
theorem v14_at (V : Valuation τ sig (Elt F)) (j : S4096.Idx) : StableHlo.after hostOps0_8 V (Proc.devRef .tc main_v14) j
    = Scalar.select (V (Proc.devRef .tc main_v13) j) (V (Proc.devRef .tc main_v10) j) (V (Proc.devRef .tc main_c_5) ix0) := by
  after_reads_at
  rfl
theorem v15_at (V : Valuation τ sig (Elt F)) : StableHlo.after hostOps0_9 V (Proc.devRef .tc main_v15)
    = (Host.sort2 S4096 0 comparator_i32_i32_d0 (V (Proc.devRef .tc main_v14)) (iotaInDim S4096 32 0)).2 := by
  funext j
  after_reads_at
theorem v18_at (V : Valuation τ sig (Elt F)) (j : S4096.Idx) : StableHlo.after hostOps0_10 V (Proc.devRef .tc main_v18) j
    = IntOp.subi (V (Proc.devRef .tc main_arg0) j) (IntOp.muli (V (Proc.devRef .tc main_v4) ix0) 8192#32) := by
  after_reads_at
theorem v19_at (V : Valuation τ sig (Elt F)) (k : Fin 4096 → Fin 4096) (h : ∀ t, V (Proc.devRef .tc main_v15) (ix1 t) = BitVec.ofNat 32 (k t).val) (t : Fin 4096) :
    StableHlo.after hostOps0_11 V (Proc.devRef .tc main_v19) (ix1 t) = V (Proc.devRef .tc main_v18) (ix1 (k t)) := by
  after_reads_at
  exact take_host (N := 4096) (by decide) _ rfl rfl rfl rfl _ _ _ _ k (fun t => by
    have := wrap_nonneg (k t).val 4096 (by have := (k t).isLt; omega)
    rw [← h] at this
    exact (col_at _ t).trans (this.trans (h t))) (fun _ => rfl) (fun _ => rfl) _ t
theorem v27_at (V : Valuation τ sig (Elt F)) (f : Fin 4096 → ℕ) (hf : ∀ t, f t < 2 ^ 32) (h : ∀ t, V (Proc.devRef .tc main_v14) (ix1 t) = BitVec.ofNat 32 (f t)) (o : Fin 4) :
    StableHlo.after hostOps0_12 V (Proc.devRef .tc main_v27) (ix1 o) = BitVec.ofNat 32 (Finset.univ.filter fun t => f t = o.val).card := by
  after_reads_at
  refine (Routing.reduce_count (n := 4) (m := 4096) (by decide) _ _ _ _ o (fun q => ∃ h : q < 4096, f ⟨q, h⟩ = o.val) fun q => ?_).trans ?_
  · have e1 : broadcastInDim S4x4096 ![0, 1] bcast_S1x4096_S4x4096_0_1 (broadcastInDim S1x4096 ![1] bcast_S4096_S1x4096_1 (V (Proc.devRef .tc main_v14))) (ix2 o q)
        = V (Proc.devRef .tc main_v14) (ix1 q) := congrArg (V (Proc.devRef .tc main_v14)) (funext fun d => match d with | ⟨0, _⟩ => rfl)
    show IntOp.cmpi .eq (broadcastInDim S4x4096 ![0, 1] bcast_S1x4096_S4x4096_0_1 (broadcastInDim S1x4096 ![1] bcast_S4096_S1x4096_1 (V (Proc.devRef .tc main_v14))) (ix2 o q)) (BitVec.ofNat 32 o.val) = 1#1 ↔ _
    rw [e1]
    show IntOp.cmpi .eq (V (Proc.devRef .tc main_v14) (ix1 q)) (BitVec.ofNat 32 o.val) = 1#1 ↔ _
    rw [h, WordCmp.cmpi_eq_ofNat_eq_one_iff (hf q) (by have := o.isLt; omega)]
    exact ⟨fun e => ⟨q.isLt, e⟩, fun ⟨_, e⟩ => e⟩
  · rw [← Routing.card_filter_fin]
    refine congrArg (fun s => BitVec.ofNat 32 (Finset.card s)) (Finset.filter_congr fun q _ => ?_)
    exact ⟨fun ⟨_, e⟩ => e, fun e => ⟨q.isLt, e⟩⟩
theorem v28_at (V : Valuation τ sig (Elt F)) (j : S1.Idx) : StableHlo.after hostOps0_12 V (Proc.devRef .tc main_v28) j = 0#32 := by
  after_reads_at
theorem v29_at (V : Valuation τ sig (Elt F)) (f : ℕ → ℕ) (h : ∀ o : Fin 4, V (Proc.devRef .tc main_v27) (ix1 o) = BitVec.ofNat 32 (f o.val)) (o : Fin 4) :
    StableHlo.after hostOps0_13 V (Proc.devRef .tc main_v29) (ix1 o) = BitVec.ofNat 32 ((List.range (o.val + 1)).map f).sum := by
  after_reads_at
  exact Routing.cumsum1 (N := 4) rfl _ f h _ rfl _ _ o
theorem v31_at (V : Valuation τ sig (Elt F)) (o : Fin 4) : StableHlo.after hostOps0_14 V (Proc.devRef .tc main_v31) (ix1 o)
    = if h : o.val < 1 then V (Proc.devRef .tc main_v28) (ix1 ⟨o.val, h⟩) else V (Proc.devRef .tc main_v29) (ix1 ⟨o.val - 1, by have := o.isLt; omega⟩) := by
  after_reads_at
  show (if h : o.val < 1 then V (Proc.devRef .tc main_v28) (Idealize.ShloMosaic.ix1 ⟨o.val, h⟩) else V (Proc.devRef .tc main_v29) (Idealize.ShloMosaic.ix1 ⟨o.val - 1, by have := o.isLt; omega⟩)) = _
  split
  · exact congrArg _ (ix1_eq (n := 1) _)
  · exact congrArg _ (ix1_eq (n := 4) _)
theorem v32_at (V : Valuation τ sig (Elt F)) (t : Fin 4096) : StableHlo.after hostOps0_14 V (Proc.devRef .tc main_v32) (ix2 t 0) = V (Proc.devRef .tc main_arg0) (ix1 t) := by
  after_reads_at
  exact congrArg _ (ix1_eq t)

end Cert.KernelIdeal.Run
-- ==== Proof.KernelIdeal.Plan.lean ====
/-
  The host's plan of row copies, as the kernel reads it, is a sort of the tokens by group with its counts and running sums.
-/
module

public import proofs.«01_k».proof.Proof.KernelIdeal.Words

@[expose] public section

set_option maxRecDepth 16384

noncomputable section

namespace Cert.KernelIdeal.Run

open Cert.KernelIdeal Cert.KernelIdeal.Gen
open Idealize.ShloMosaic hiding ix1 ix2 eq_ix1 eq_ix2
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

local notation "𝕄" => MT nD τ sig Unit (Elt F) ℕ UU ℕ

variable (m : (ℓ : Loc nD τ sig) → Buf (Elt F) ℓ)

/-- The sort of the tokens by their keys is a permutation, and the keys do not fall along it. -/
theorem sort_at (v : S4096.Idx → BitVec 32) (f : Fin 4096 → ℕ) (hf : ∀ t, f t < 2 ^ 31) (hv : ∀ t, v (ix1 t) = BitVec.ofNat 32 (f t)) :
    ∃ P : Fin 4096 → Fin 4096, Function.Bijective P ∧ (∀ a b, a ≤ b → f (P a) ≤ f (P b))
      ∧ ∀ a, (Host.sort2 S4096 0 comparator_i32_i32_d0 v (iotaInDim S4096 32 0)).2 (ix1 a) = BitVec.ofNat 32 (P a).val := by
  have hP : ∀ j : S4096.Idx, (fun k k' : Fin 4096 => comparator_i32_i32_d0 (v (j.along (0 : Fin 1) k), iotaInDim S4096 32 0 (j.along (0 : Fin 1) k))
      (v (j.along (0 : Fin 1) k'), iotaInDim S4096 32 0 (j.along (0 : Fin 1) k')) == 1#1) = fun k k' => decide (f k < f k') := fun j => by
    funext k k'
    show (IntOp.cmpi .slt (v (j.along (0 : Fin 1) k)) (v (j.along (0 : Fin 1) k')) == 1#1) = _
    rw [(Shape.Idx.along_rank1 (n := 4096) j k).trans (Routing.ofFin_eq_ix1 k), (Shape.Idx.along_rank1 (n := 4096) j k').trans (Routing.ofFin_eq_ix1 k'), hv, hv,
      WordCmp.cmpi_slt_eq, WordCmp.toInt_ofNat_of_lt (hf k), WordCmp.toInt_ofNat_of_lt (hf k')]
    by_cases h : f k < f k'
    · rw [decide_eq_true h, decide_eq_true (by omega)]; rfl
    · rw [decide_eq_false h, decide_eq_false (by omega)]; rfl
  have hi : ∀ (q : Fin 4096) (a : Fin 4096), iotaInDim S4096 32 0 ((ix1 a : S4096.Idx).along (0 : Fin 1) q) = BitVec.ofNat 32 q.val := fun q a => by
    rw [(Shape.Idx.along_rank1 (n := 4096) (ix1 a) q).trans (Routing.ofFin_eq_ix1 q)]
    rfl
  refine ⟨sortedFrom fun k k' => decide (f k < f k'), ⟨sortedFrom_injective _, sortedFrom_surjective _⟩, fun a b h => ?_, fun a => ?_⟩
  · rcases lt_or_eq_of_le h with h | rfl
    · have := sortedFrom_noInversion (fun k k' => decide (f k < f k')) (fun k k' => decide (f k < f k'))
        (fun a b h => decide_eq_false (by have := of_decide_eq_true h; omega)) (fun _ _ h => h)
        (fun a b c h1 h2 => decide_eq_false (by have := of_decide_eq_false h1; have := of_decide_eq_false h2; omega)) a b h
      have := of_decide_eq_false this
      omega
    · exact le_refl _
  · show iotaInDim S4096 32 0 ((ix1 a : S4096.Idx).along (0 : Fin 1) (sortedFrom (fun k k' : Fin 4096 => comparator_i32_i32_d0 (v ((ix1 a : S4096.Idx).along (0 : Fin 1) k), iotaInDim S4096 32 0 ((ix1 a : S4096.Idx).along (0 : Fin 1) k))
      (v ((ix1 a : S4096.Idx).along (0 : Fin 1) k'), iotaInDim S4096 32 0 ((ix1 a : S4096.Idx).along (0 : Fin 1) k')) == 1#1) a)) = _
    rw [hP (ix1 a)]
    exact hi _ a

/-- The ids as the kernel reads them are the argument's. -/
theorem ids_at (c : Dev nD) (t : Fin 4096) : idsOf m c (ix2 t 0) = m ((c.tc : Thread nD τ).loc main_arg0) (ix1 t) := by
  unfold idsOf
  rw [HV_eq]
  exact (v32_at (V14 m c) t).trans (congrFun ((V14_of m c main_arg0 (by decide)).trans <| (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl) (ix1 t))
/-- The table as the kernel reads it is the argument's. -/
theorem tab_at (c : Dev nD) : tabOf m c = m ((c.tc : Thread nD τ).loc main_arg1) := by
  unfold tabOf
  rw [HV_eq]
  exact (V15_of m c main_arg1 (by decide)).trans <| (V14_of m c main_arg1 (by decide)).trans <| (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl

/-- A token's place among the groups, as the host computes it. -/
theorem key_at (c : Dev nD) (t : Fin 4096) : V9 m c main_v14 (ix1 t) = BitVec.ofNat 32 (keyOf c (idsOf m c) t) := by
  have h4 : V1 m c main_v4 ix0 = BitVec.ofNat 32 c.val := v4_at (V0 m c) c
  have h6 : ∀ t : Fin 4096, V2 m c main_v6 (ix1 t) = BitVec.ofNat 32 (chunkOf t).val := fun t => by
    refine (v6_at (V1 m c) (ix1 t)).trans ?_
    rw [show V1 m c main_v5 (ix1 t) = _ from v5_at (V0 m c) c t, show V1 m c main_c_2 ix0 = _ from c2_at (V0 m c) c]
    exact fdiv_iota t
  have h8 : ∀ t : Fin 4096, V3 m c main_v8 (ix1 t) = IntOp.subi (BitVec.ofNat 32 (chunkOf t).val) (BitVec.ofNat 32 c.val) := fun t => by
    refine (v8_at (V2 m c) (ix1 t)).trans ?_
    rw [h6 t]
    exact congrArg _ ((congrFun (V2_of m c main_v4 (by decide)) ix0).trans h4)
  have h9 : ∀ t : Fin 4096, V4 m c main_v9 (ix1 t) = BitVec.ofNat 32 (Fin.ofNat 4 ((chunkOf t).val + 4 - c.val) : Fin 4).val := fun t => by
    refine (v9_at (V3 m c) (ix1 t)).trans ?_
    rw [h8 t, show V3 m c main_c_3 ix0 = _ from c3_at (V2 m c)]
    exact frem_order (chunkOf t) c
  have h10 : ∀ t : Fin 4096, V5 m c main_v10 (ix1 t) = BitVec.ofNat 32 (ordOf c (chunkOf t)) := fun t => by
    refine (v10_at (V4 m c) _ h9 t).trans ?_
    exact (congrFun ((V4_of m c main_c (by decide)).trans <| (V3_of m c main_c (by decide)).trans <| (V2_of m c main_c (by decide)).trans <| rfl) _).trans (c_at (V0 m c) c _)
  have h11 : V7 m c main_v11 (ix1 t) = fdiv (idsOf m c (ix2 t 0)) 8192#32 := by
    refine (v11_at (V6 m c) (ix1 t)).trans ?_
    rw [show V6 m c main_c_4 ix0 = _ from c4_at (V5 m c), ids_at]
    exact congrArg (fun x => fdiv x 8192#32) (congrFun ((V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl) (ix1 t))
  have h13 : V8 m c main_v13 (ix1 t) = IntOp.cmpi .eq (fdiv (idsOf m c (ix2 t 0)) 8192#32) (BitVec.ofNat 32 c.val) := by
    refine (v13_at (V7 m c) (ix1 t)).trans ?_
    rw [h11]
    exact congrArg _ ((congrFun ((V7_of m c main_v4 (by decide)).trans <| (V6_of m c main_v4 (by decide)).trans <| (V5_of m c main_v4 (by decide)).trans <| (V4_of m c main_v4 (by decide)).trans <| (V3_of m c main_v4 (by decide)).trans <| (V2_of m c main_v4 (by decide)).trans <| rfl) ix0).trans h4)
  refine (v14_at (V8 m c) (ix1 t)).trans ?_
  rw [h13, show V8 m c main_c_5 ix0 = _ from c5_at (V7 m c), WordCmp.cmpi_eq_eq, WordCmp.select_decide]
  unfold keyOf
  by_cases ho : Owned (idsOf m c (ix2 t 0)) c
  · rw [if_pos ho, if_pos ((fdiv_owned _ c).mpr ho)]
    exact (congrFun ((V8_of m c main_v10 (by decide)).trans <| (V7_of m c main_v10 (by decide)).trans <| (V6_of m c main_v10 (by decide)).trans <| rfl) (ix1 t)).trans (h10 t)
  · rw [if_neg ho, if_neg fun e => ho ((fdiv_owned _ c).mp e)]

theorem keyOf_lt (c : Dev nD) (idc : Vec F S4096x1 .i32) (t : Fin 4096) : keyOf c idc t < 5 := by
  unfold keyOf
  split
  · have : ∀ c k : Fin 4, ordOf c k < 5 := by decide +kernel
    exact this c (chunkOf t)
  · omega

/-- The running sums of the counts are the numbers of tokens in the groups before. -/
theorem before_count (f : Fin 4096 → ℕ) (n : ℕ) :
    ((List.range n).map fun o => (Finset.univ.filter fun t => f t = o).card).sum = (Finset.univ.filter fun t => f t < n).card := by
  induction n with
  | zero => simp
  | succ n ih =>
    rw [List.range_succ, List.map_append, List.sum_append, ih, List.map_singleton, List.sum_singleton, ← Finset.card_union_of_disjoint]
    · congr 1
      ext t
      simp only [Finset.mem_union, Finset.mem_filter, Finset.mem_univ, true_and]
      omega
    · rw [Finset.disjoint_filter]
      intro t _ h
      omega

/-- The host's plan is one the kernel's proof can use. -/
theorem plans_at : PlansAt m := fun c => by
  obtain ⟨P, hP, hm, hs⟩ := sort_at (V9 m c main_v14) (fun t => keyOf c (idsOf m c) t) (fun t => by have := keyOf_lt c (idsOf m c) t; omega) (key_at m c)
  have h15 : ∀ a : Fin 4096, V10 m c main_v15 (ix1 a) = BitVec.ofNat 32 (P a).val := fun a => (congrFun (v15_at (V9 m c)) (ix1 a)).trans (hs a)
  have h27 : ∀ o : Fin 4, V13 m c main_v27 (ix1 o) = BitVec.ofNat 32 (Finset.univ.filter fun t => keyOf c (idsOf m c) t = o.val).card :=
    v27_at (V12 m c) (fun t => keyOf c (idsOf m c) t) (fun t => by have := keyOf_lt c (idsOf m c) t; omega) fun t => (congrFun ((V12_of m c main_v14 (by decide)).trans <| (V11_of m c main_v14 (by decide)).trans <| (V10_of m c main_v14 (by decide)).trans <| rfl) (ix1 t)).trans (key_at m c t)
  rw [HV_eq]
  refine plans_of (idsOf m) c _ _ _ _ P hP hm (fun a => ?_) (fun a => ?_) (fun o => ?_) (fun o => ?_)
  · exact (congrFun ((V15_of m c main_v15 (by decide)).trans <| (V14_of m c main_v15 (by decide)).trans <| (V13_of m c main_v15 (by decide)).trans <| (V12_of m c main_v15 (by decide)).trans <| (V11_of m c main_v15 (by decide)).trans <| rfl) (ix1 a)).trans (h15 a)
  · refine (congrFun ((V15_of m c main_v19 (by decide)).trans <| (V14_of m c main_v19 (by decide)).trans <| (V13_of m c main_v19 (by decide)).trans <| rfl) (ix1 a)).trans ?_
    refine (v19_at (V11 m c) P (fun t => (congrFun (V11_of m c main_v15 (by decide)) (ix1 t)).trans (h15 t)) a).trans ?_
    refine (v18_at (V10 m c) (ix1 (P a))).trans ?_
    rw [ids_at]
    have e0 : V10 m c main_v4 ix0 = BitVec.ofNat 32 c.val := (congrFun ((V10_of m c main_v4 (by decide)).trans <| (V9_of m c main_v4 (by decide)).trans <| (V8_of m c main_v4 (by decide)).trans <| (V7_of m c main_v4 (by decide)).trans <| (V6_of m c main_v4 (by decide)).trans <| (V5_of m c main_v4 (by decide)).trans <| (V4_of m c main_v4 (by decide)).trans <| (V3_of m c main_v4 (by decide)).trans <| (V2_of m c main_v4 (by decide)).trans <| rfl) ix0).trans (v4_at (V0 m c) c)
    have e1 : V10 m c main_arg0 (ix1 (P a)) = m ((c.tc : Thread nD τ).loc main_arg0) (ix1 (P a)) := congrFun ((V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl) (ix1 (P a))
    have e2 : IntOp.muli (BitVec.ofNat 32 c.val) 8192#32 = BitVec.ofNat 32 (8192 * c.val) :=
      (show ∀ c : Fin 4, IntOp.muli (BitVec.ofNat 32 c.val) 8192#32 = BitVec.ofNat 32 (8192 * c.val) by decide +kernel) c
    rw [← e2, ← e0, ← e1]
    rfl
  · exact (congrFun ((V15_of m c main_v27 (by decide)).trans <| (V14_of m c main_v27 (by decide)).trans <| rfl) (ix1 o)).trans (h27 o)
  · refine (v31_at (V14 m c) o).trans ?_
    split
    · rename_i h
      refine (congrFun (V14_of m c main_v28 (by decide)) _).trans ((v28_at (V12 m c) _).trans ?_)
      have h0 : o.val = 0 := by omega
      rw [h0]
      simp
    · rename_i h
      refine (v29_at (V13 m c) (fun o => (Finset.univ.filter fun t => keyOf c (idsOf m c) t = o).card) h27 _).trans ?_
      rw [before_count]
      have h1 : o.val - 1 + 1 = o.val := by omega
      show BitVec.ofNat 32 (Finset.univ.filter fun t => keyOf c (idsOf m c) t < o.val - 1 + 1).card = _
      rw [h1]

end Cert.KernelIdeal.Run
-- ==== Proof.Frames.lean ====
module

public import proofs.«01_k».proof.Defs
public import proofs.«01_k».proof.Proof.Kernel.Start
public import proofs.«01_k».proof.Proof.Kernel.Plan
public import proofs.«01_k».proof.Proof.KernelIdeal.Start
public import proofs.«01_k».proof.Proof.KernelIdeal.Plan

@[expose] public section

noncomputable section

namespace Cert.Proof

open Idealize.ShloMosaic Idealize.ShloMosaic.TcCoe Idealize.SL.Sem

/-- The kernel at the machine's numbers runs, leaves its arguments and every semaphore as they were. -/
theorem frame_kernel : quiescent_Kernel := fun m g _ =>
  (θ_run _ _ _).mono (fun _ h => ⟨fun c => (h.1 c).2, h.2⟩) (Cert.Kernel.Run.run_main m g (Cert.Kernel.Run.plans_at m))
/-- The kernel at the reals runs, leaves its arguments and every semaphore as they were. -/
theorem frame_ideal : quiescent_KernelIdeal := fun m g _ =>
  (θ_run _ _ _).mono (fun _ h => ⟨fun c => (h.1 c).2, h.2⟩) (Cert.KernelIdeal.Run.run_main m g (Cert.KernelIdeal.Run.plans_at m))

end Cert.Proof
-- ==== Proof.KernelIdeal.Value.lean ====
/-
  At the reals: the kernel's result holds, for each token, the table's row that its id names.
-/
module

public import proofs.«01_k».proof.Proof.KernelIdeal.Plan
public import Idealize.ShloMosaic.PureOps.Ideal
public import Idealize.ShloMosaic.Lib.IdealHost
public import Idealize.ShloMosaic.Lib.ValueIdx

@[expose] public section

set_option maxRecDepth 16384

noncomputable section

namespace Cert.KernelIdeal.Run

open Cert.KernelIdeal Cert.KernelIdeal.Gen
open Idealize.ShloMosaic hiding ix1 ix2 eq_ix1 eq_ix2
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

/-- Four terms, one for each device on the way of a running sum, of which all but one are zero. -/
theorem one_of_four (k : Dev nD) (d : Fin 2) (o : Dev nD) (v : EReal) (f : Dev nD → EReal) (hf : ∀ c, f c = if c = o then v else 0) :
    ((f (pv d (pv d (pv d (own k d)))) + f (pv d (pv d (own k d)))) + f (pv d (own k d))) + f (own k d) = v := by
  rw [hf, hf, hf, hf]
  fin_cases k <;> fin_cases d <;> fin_cases o <;> simp +decide

theorem rch_last (k : Dev nD) (d : Fin 2) : rch (own k d) d (Fin.ofNat 3 2) = k ∧ rch (pv d (own k d)) d (Fin.ofNat 3 1) = k
    ∧ rch (pv d (pv d (own k d))) d (Fin.ofNat 3 0) = k ∧ pv d (pv d (pv d (own k d))) = k := by revert k d; decide +kernel

variable (ids : Dev nD → Vec Ideal S4096x1 .i32) (E : Dev nD → Vec Ideal S8192x2048 .f32)

/-- The final sum of a half chunk is the sum of the four devices' shares. -/
theorem Fn_at (k : Dev nD) (d : Fin 2) (j : S1024x1024.Idx) :
    Fn ids E k d j = ((X ids E (pv d (pv d (pv d (own k d)))) k d j + X ids E (pv d (pv d (own k d))) k d j) + X ids E (pv d (own k d)) k d j) + X ids E (own k d) k d j := by
  obtain ⟨h2, h1, h0, hk⟩ := rch_last k d
  have e : Fn ids E k d j = ((X ids E (pv d (pv d (pv d (own k d)))) (pv d (pv d (pv d (own k d)))) d j + X ids E (pv d (pv d (own k d))) (rch (pv d (pv d (own k d))) d (Fin.ofNat 3 0)) d j)
      + X ids E (pv d (own k d)) (rch (pv d (own k d)) d (Fin.ofNat 3 1)) d j) + X ids E (own k d) (rch (own k d) d (Fin.ofNat 3 2)) d j := rfl
  rw [e, h2, h1, h0]
  conv_lhs => rw [show X ids E (pv d (pv d (pv d (own k d)))) (pv d (pv d (pv d (own k d)))) d = X ids E (pv d (pv d (pv d (own k d)))) k d from congrArg (fun z => X ids E (pv d (pv d (pv d (own k d)))) z d) hk]

theorem row_lt (c : Dev nD) (r : Fin 8192) : 8192 * c.val + r.val < 32768 := by
  have h : c.val < 4 := c.isLt
  have := r.isLt
  omega

open Classical in
/-- Over the reals, the kernel's result at a token is the token's row of the whole table. -/
theorem out_at (x : Fin 4096 → BitVec 32) (T : (⟨2, ![32768, 2048]⟩ : Shape).Idx → Ideal .f32) (hids : ∀ c t, ids c (ix2 t 0) = x t)
    (hE : ∀ (c : Dev nD) (r : Fin 8192) (l : Fin 2048), E c (ix2 r l) = T (ix2 ⟨8192 * c.val + r.val, row_lt c r⟩ l))
    (t : Fin 4096) (l : Fin 2048) (b : Fin 32768) (hb : x t = BitVec.ofNat 32 b.val) : outVal ids E (ix2 t l) = T (ix2 b l) := by
  have ht := t.isLt
  have hl := l.isLt
  have hb' := b.isLt
  obtain ⟨k, hk⟩ : ∃ k : Dev nD, k.val = t.val / 1024 := ⟨⟨t.val / 1024, by show _ < 4; omega⟩, rfl⟩
  obtain ⟨d, hd⟩ : ∃ d : Fin 2, d.val = l.val / 1024 := ⟨⟨l.val / 1024, by omega⟩, rfl⟩
  obtain ⟨o, ho⟩ : ∃ o : Dev nD, o.val = b.val / 8192 := ⟨⟨b.val / 8192, by show _ < 4; omega⟩, rfl⟩
  let j : S1024x1024.Idx := ix2 ⟨t.val % 1024, Nat.mod_lt _ (by decide)⟩ ⟨l.val % 1024, Nat.mod_lt _ (by decide)⟩
  have hj : (chunkR k d).emb j = ix2 t l := by
    funext a
    refine Fin.ext ?_
    match a with
    | ⟨0, _⟩ => show 1024 * k.val + 1 * (t.val % 1024) = t.val; omega
    | ⟨1, _⟩ => show 1024 * d.val + 1 * (l.val % 1024) = l.val; omega
  have hr : (rowsR k).emb (ix2 (j 0) 0) = ix2 t 0 := by
    funext a
    refine Fin.ext ?_
    match a with
    | ⟨0, _⟩ => show 1024 * k.val + 1 * (t.val % 1024) = t.val; omega
    | ⟨1, _⟩ => rfl
  have hx : (x t).toInt = b.val := by rw [hb]; exact WordCmp.toInt_ofNat_of_lt (by omega)
  rw [← hj, outVal_emb, Fn_at]
  refine one_of_four k d o (T (ix2 b l)) (fun c => X ids E c k d j) fun c => ?_
  have hi : idsAt ids c k (ix2 (j 0) 0) = x t := (congrArg (ids c) hr).trans (hids c t)
  have hc := c.isLt
  change c.val < 4 at hc
  have e : X ids E c k d j = if Owned (idsAt ids c k (ix2 (j 0) 0)) c then gath ids E c ((chunkR k d).emb j) else Ideal.ofBits .f32 0x00000000#32 := by
    unfold X
    rw [mskd_eq]
    rfl
  rw [e, hi, hj]
  by_cases h : c = o
  · subst h
    rw [if_pos rfl, if_pos (by unfold Owned; omega)]
    unfold gath
    refine (hE c _ _).trans (congrArg T ?_)
    funext a
    refine Fin.ext ?_
    match a with
    | ⟨0, _⟩ =>
      show 8192 * c.val + ((ids c (ix2 t 0) : BitVec 32).toInt - 8192 * (c.val : ℤ)).toNat % 8192 = b.val
      rw [hids, hx]
      omega
    | ⟨1, _⟩ => rfl
  · have : c.val ≠ o.val := fun e => h (Fin.ext e)
    rw [if_neg h, if_neg (by unfold Owned; omega)]
    exact Ideal.ofBits_zero_f32

end Cert.KernelIdeal.Run
-- ==== Proof.Reference.lean ====
module

public import proofs.«01_k».proof.Proof.Gen.ReferenceIdeal
public import Idealize.ShloMosaic.Lib.StableHlo.Run
public import Idealize.ShloMosaic.Lib.StableHlo.RunRead
public import Idealize.ShloMosaic.Lib.WordCmp
public import Idealize.ShloMosaic.Lib.Routing.Ops
public import Idealize.ShloMosaic.Lib.IdealHost
public import Idealize.ShloMosaic.Lib.ValueIdx
public import Idealize.ShloMosaic.PureOps.Ideal

@[expose] public section

set_option maxRecDepth 16384

noncomputable section

/-! # The reference: the rows the ids name, read off the whole table -/

namespace Cert.ReferenceIdeal.Run

open Cert.ReferenceIdeal Cert.ReferenceIdeal.Facts₀
open Idealize.ShloMosaic
open Idealize.ShloMosaic.TcCoe Idealize.SL.Sem
open Idealize.ShloMosaic.ValueIdx (ix1 ix2 eq_ix1 eq_ix2)

variable {F : FTy → Type} [FloatOps F]

/-- The reference's operations in the order of its text. -/
def ops : List (HloOp τ sig (Elt F)) :=
  [ StableHlo.nullary main_c (constantI S_ 32 0#32),
    StableHlo.unary main_c main_v0 (broadcastInDim S4096 ![] bcast_S_S4096 : (⟨S_, .i32⟩ : BufTy).Contents (Elt F) → (⟨S4096, .i32⟩ : BufTy).Contents (Elt F)),
    StableHlo.binary main_arg0 main_v0 main_v1 (cmpi .slt : (⟨S4096, .i32⟩ : BufTy).Contents (Elt F) → (⟨S4096, .i32⟩ : BufTy).Contents (Elt F) → (⟨S4096, .i1⟩ : BufTy).Contents (Elt F)),
    StableHlo.nullary main_c_0 (constantI S_ 32 32768#32),
    StableHlo.unary main_c_0 main_v2 (broadcastInDim S4096 ![] bcast_S_S4096 : (⟨S_, .i32⟩ : BufTy).Contents (Elt F) → (⟨S4096, .i32⟩ : BufTy).Contents (Elt F)),
    StableHlo.binary main_arg0 main_v2 main_v3 (addi : (⟨S4096, .i32⟩ : BufTy).Contents (Elt F) → (⟨S4096, .i32⟩ : BufTy).Contents (Elt F) → (⟨S4096, .i32⟩ : BufTy).Contents (Elt F)),
    StableHlo.ternary main_v1 main_v3 main_arg0 main_v4 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v4 main_v5 (broadcastInDim S4096x1 ![0] bcast_S4096_S4096x1_0 : (⟨S4096, .i32⟩ : BufTy).Contents (Elt F) → (⟨S4096x1, .i32⟩ : BufTy).Contents (Elt F)),
    StableHlo.binary main_arg1 main_v5 main_v6 ((fun x i => Host.gather gather_S32768x2048_S4096x1_S4096x2048_1_0_n_n_0_1_12048 x i) : (⟨S32768x2048, .f32⟩ : BufTy).Contents (Elt F) → (⟨S4096x1, .i32⟩ : BufTy).Contents (Elt F) → (⟨S4096x2048, .f32⟩ : BufTy).Contents (Elt F)),
    StableHlo.unary main_v6 main_v7 ((truncf .bf16 · bitsLt_bf16_f32) : (⟨S4096x2048, .f32⟩ : BufTy).Contents (Elt F) → (⟨S4096x2048, .bf16⟩ : BufTy).Contents (Elt F)) ]

theorem main_eq (d : Dev nD) : main (F := F) d = StableHlo.seq ops := rfl

theorem ops_sub : (ops (F := F)).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.binary_bufs_sub .., StableHlo.unary_bufs_sub ..⟩

/-- The reference runs; every buffer ends at what its operations leave there, and no counter has moved (it has none). -/
theorem run (m : (ℓ : Loc nD τ sig) → Buf (Elt F) ℓ) (g : Dev nD → PrngReg) :
    θ_run (defs (F := F)) (onTc (τ := τ) (main (F := F))) ⟨m, fun _ => 0, g⟩ (fun r =>
      (∀ (d : Dev nD) (b : Ref sig .tc), r.2.mem ((d.tc : Thread nD τ).loc b) = StableHlo.after ops (StableHlo.launchContents m d) (Proc.devRef .tc b))
        ∧ r.2.sem = fun _ => 0) :=
  (θ_run _ _ _).mono (fun _ h => ⟨h, funext fun s => match s with
      | (_, .reg q) => q.elim0
      | (_, .dma q) => q.elim0⟩)
    (StableHlo.run_seq (by decide) (by decide) defs main (fun _ => ops) main_eq (fun _ => ops_sub) m g)

theorem arg0_kept (V : Valuation τ sig (Elt F)) : StableHlo.after ops V (Proc.devRef .tc main_arg0) = V (Proc.devRef .tc main_arg0) := by
  unfold ops
  after_results
theorem arg1_kept (V : Valuation τ sig (Elt F)) : StableHlo.after ops V (Proc.devRef .tc main_arg1) = V (Proc.devRef .tc main_arg1) := by
  unfold ops
  after_results

/-- A column's entry is the vector's. -/
theorem col_at {α : Type} (v : S4096.Idx → α) (t : Fin 4096) : broadcastInDim S4096x1 ![0] bcast_S4096_S4096x1_0 v (ix2 t 0) = v (ix1 t) :=
  congrArg v (funext fun d => match d with | ⟨0, _⟩ => rfl)

/-- Row `t` of the reference's result is the table's row that id `t` names. -/
theorem out_at (V : Valuation τ sig (Elt Ideal)) (t : Fin 4096) (l : Fin 2048) (b : Fin 32768)
    (hb : V (Proc.devRef .tc main_arg0) (ix1 t) = BitVec.ofNat 32 b.val) :
    StableHlo.after ops V (Proc.devRef .tc main_v7) (ix2 t l) = V (Proc.devRef .tc main_arg1) (ix2 b l) := by
  unfold ops
  after_results
  refine Routing.gather_row _ rfl rfl rfl rfl rfl _ _ t l b ?_ (by decide)
  refine (col_at _ t).trans ?_
  show Scalar.select (IntOp.cmpi .slt (V (Proc.devRef .tc main_arg0) (ix1 t)) 0#32) (IntOp.addi (V (Proc.devRef .tc main_arg0) (ix1 t)) 32768#32) (V (Proc.devRef .tc main_arg0) (ix1 t)) = _
  rw [hb, WordCmp.cmpi_slt_eq, WordCmp.select_decide, WordCmp.toInt_ofNat_of_lt (by omega), if_neg (by show ¬ ((b.val : ℤ) < 0); omega)]

end Cert.ReferenceIdeal.Run
-- ==== Proof.Agree.lean ====
module

public import proofs.«01_k».proof.Defs
public import proofs.«01_k».proof.Proof.KernelIdeal.Start
public import proofs.«01_k».proof.Proof.KernelIdeal.Plan
public import proofs.«01_k».proof.Proof.KernelIdeal.Value
public import proofs.«01_k».proof.Proof.Reference
public import proofs.«01_k».proof.Proof.Gen.Pre_in_vocabulary_KernelIdeal
public import proofs.«01_k».proof.Proof.Gen.Pre_in_vocabulary_ReferenceIdeal
public import Idealize.ShloMosaic.Lib.ReduceAll
public import Idealize.ShloMosaic.Lib.Layout

@[expose] public section

noncomputable section

/-! # The kernel's result is the reference's -/

namespace Cert.Proof

open Idealize.ShloMosaic hiding ix1 ix2 eq_ix1 eq_ix2
open Idealize.ShloMosaic.TcCoe Idealize.SL.Sem
open Idealize.ShloMosaic.ValueIdx (ix1 ix2 eq_ix1 eq_ix2)

/-- The reference runs, leaves its arguments and every semaphore as they were. -/
theorem frame_reference : quiescent_ReferenceIdeal := fun m g _ =>
  (θ_run _ _ _).mono (fun _ h => ⟨fun c => ⟨(h.1 c _).trans (Cert.ReferenceIdeal.Run.arg0_kept _), (h.1 c _).trans (Cert.ReferenceIdeal.Run.arg1_kept _)⟩, h.2⟩)
    (Cert.ReferenceIdeal.Run.run m g)

/-- Where the precondition holds every id is the word of a row number of the table. -/
theorem id_row (x : (⟨1, ![4096]⟩ : Shape).Idx → BitVec 32) (E : (⟨2, ![8192, 2048]⟩ : Shape).Idx → Ideal .f32)
    (h : Cert.Pre_in_vocabulary_KernelIdeal.fn (F := Ideal) x E = fun _ => 1#1) (t : Fin 4096) : ∃ b : Fin 32768, x (ix1 t) = BitVec.ofNat 32 b.val := by
  have e : IntOp.andi (IntOp.cmpi .sge (x (ix1 t)) 0#32) (IntOp.cmpi .slt (x (ix1 t)) (BitVec.ofNat 32 32768)) = 1#1 :=
    Host.reduce_andi_eq_one _ _ _ _ (fun a => a.elim0) (congrFun h _) (ix1 t) (funext fun a => a.elim0)
  rw [WordCmp.andi_sge_zero_slt_ofNat (by decide)] at e
  have e' : (x (ix1 t)).toNat < 32768 := by
    by_contra hn
    rw [decide_eq_false hn] at e
    exact absurd e (by decide)
  exact ⟨⟨_, e'⟩, (BitVec.eq_of_toNat_eq (by rw [BitVec.toNat_ofNat, Nat.mod_eq_of_lt (x (ix1 t)).isLt]))⟩

/-- From memories that agree, with every id a row number, each device's result is the reference's. -/
theorem results_agree : algebraic_KernelIdeal_ReferenceIdeal_pre_in_vocabulary_KernelIdeal := by
  intro m g m' g' hpre hag
  refine ⟨Cert.KernelIdeal.Run.outVal (Cert.KernelIdeal.Run.idsOf m) (Cert.KernelIdeal.Run.tabOf m),
    (θ_run _ _ _).mono (fun _ h => h.1) (Cert.KernelIdeal.Run.run_main m g (Cert.KernelIdeal.Run.plans_at m)),
    (θ_run _ _ _).mono (fun r h => ⟨(h.1 0 _).trans ?_, (h.1 0 _).trans (Cert.ReferenceIdeal.Run.arg0_kept _), (h.1 0 _).trans (Cert.ReferenceIdeal.Run.arg1_kept _)⟩)
      (Cert.ReferenceIdeal.Run.run m' g')⟩
  funext j
  obtain ⟨t, l, rfl⟩ : ∃ (t : Fin 4096) (l : Fin 2048), j = ix2 t l := ⟨_, _, eq_ix2 j⟩
  obtain ⟨b, hb⟩ := id_row _ _ (hpre 0) t
  have h0 : m' (((0 : Dev Cert.ReferenceIdeal.nD).tc : Thread Cert.ReferenceIdeal.nD Cert.ReferenceIdeal.τ).loc Cert.ReferenceIdeal.main_arg0) (ix1 t) = BitVec.ofNat 32 b.val :=
    (congrFun (hag 0).1 (ix1 t)).symm.trans hb
  refine (Cert.ReferenceIdeal.Run.out_at _ t l b h0).trans (Eq.symm ?_)
  refine Cert.KernelIdeal.Run.out_at _ _ (fun t => m' (((0 : Dev Cert.ReferenceIdeal.nD).tc : Thread Cert.ReferenceIdeal.nD Cert.ReferenceIdeal.τ).loc Cert.ReferenceIdeal.main_arg0) (ix1 t))
    (m' (((0 : Dev Cert.ReferenceIdeal.nD).tc : Thread Cert.ReferenceIdeal.nD Cert.ReferenceIdeal.τ).loc Cert.ReferenceIdeal.main_arg1)) (fun c t => ?_) (fun c r l => ?_) t l b h0
  · exact (Cert.KernelIdeal.Run.ids_at m c t).trans (congrFun (hag c).1 (ix1 t))
  · rw [Cert.KernelIdeal.Run.tab_at, (hag c).2]
    refine congrArg (m' _) (funext fun a => Fin.ext ?_)
    match a with
    | ⟨0, _⟩ => show c.val * 8192 + r.val = 8192 * c.val + r.val; omega
    | ⟨1, _⟩ => rfl

end Cert.Proof
-- ==== Proof.lean ====
module

public import proofs.«01_k».proof.Proof.Frames
public import proofs.«01_k».proof.Proof.Agree
public import proofs.«01_k».proof.Proof.Gen.Kernel

@[expose] public section

noncomputable section

namespace Cert.Proof

/-- All that is claimed: the kernel and the reference run and leave their arguments and every semaphore as they were, and each device's result is the reference's. -/
theorem claim : Cert.Claim :=
  ⟨Cert.Kernel.Gen.facts, Cert.KernelIdeal.Gen.facts, Cert.ReferenceIdeal.Gen.facts, Cert.Pre_in_vocabulary_KernelIdeal.Gen.facts, Cert.Pre_in_vocabulary_ReferenceIdeal.Gen.facts,
    frame_kernel, frame_ideal, fun m g _ => frame_ideal m g trivial, frame_reference, fun m g _ => frame_reference m g trivial, trivial, results_agree⟩

end Cert.Proof
